-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S32 : Shape := ⟨1, ![32]⟩
abbrev S_ : Shape := ⟨0, ![]⟩
abbrev S1 : Shape := ⟨1, ![1]⟩
abbrev S2 : Shape := ⟨1, ![2]⟩
abbrev S16 : Shape := ⟨1, ![16]⟩
abbrev S16x1 : Shape := ⟨2, ![16, 1]⟩
abbrev S15 : Shape := ⟨1, ![15]⟩
abbrev S15x1 : Shape := ⟨2, ![15, 1]⟩
abbrev S33 : Shape := ⟨1, ![33]⟩
abbrev S32x128x4096 : Shape := ⟨3, ![32, 128, 4096]⟩
abbrev S32x128 : Shape := ⟨2, ![32, 128]⟩
abbrev S16x2 : Shape := ⟨2, ![16, 2]⟩
abbrev S31 : Shape := ⟨1, ![31]⟩
abbrev S1x128x4096 : Shape := ⟨3, ![1, 128, 4096]⟩
abbrev S1x1 : Shape := ⟨2, ![1, 1]⟩
abbrev S1x128x2048 : Shape := ⟨3, ![1, 128, 2048]⟩
abbrev S128x2048 : Shape := ⟨2, ![128, 2048]⟩
abbrev S128x256 : Shape := ⟨2, ![128, 256]⟩
abbrev S1x128x256 : Shape := ⟨3, ![1, 128, 256]⟩
abbrev S1x1x1 : Shape := ⟨3, ![1, 1, 1]⟩
abbrev S128 : Shape := ⟨1, ![128]⟩
abbrev S1x128 : Shape := ⟨2, ![1, 128]⟩
abbrev S1x32x128 : Shape := ⟨3, ![1, 32, 128]⟩

abbrev nBuf : Space → Nat
  | .hbm => 148
  | .vmem => 6
  | .smem => 1
  | _ => 0

abbrev hbmTy0_0 (i : Nat) : BufTy := match i % 128 with
  | 0 => ⟨S128x4096, .bf16⟩
  | 1 => ⟨S4096x256, .bf16⟩
  | 2 => ⟨S32, .i32⟩
  | 3 => ⟨S32, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i1⟩
  | 56 => ⟨S_, .i32⟩
  | 57 => ⟨S_, .i1⟩
  | 58 => ⟨S_, .i1⟩
  | 59 => ⟨S_, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S_, .i32⟩
  | 69 => ⟨S1, .i32⟩
  | 70 => ⟨S1, .i32⟩
  | 71 => ⟨S2, .i32⟩
  | 72 => ⟨S16, .i32⟩
  | 73 => ⟨S_, .i32⟩
  | 74 => ⟨S16, .i32⟩
  | 75 => ⟨S16, .i32⟩
  | 76 => ⟨S16, .i32⟩
  | 77 => ⟨S16, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S16, .i32⟩
  | 85 => ⟨S16, .i32⟩
  | 86 => ⟨S_, .i32⟩
  | 87 => ⟨S16, .i32⟩
  | 88 => ⟨S16, .i1⟩
  | 89 => ⟨S_, .i32⟩
  | 90 => ⟨S16, .i32⟩
  | 91 => ⟨S16, .i1⟩
  | 92 => ⟨S_, .i32⟩
  | 93 => ⟨S_, .i1⟩
  | 94 => ⟨S16, .i1⟩
  | 95 => ⟨S16, .i1⟩
  | 96 => ⟨S16, .i1⟩
  | 97 => ⟨S16, .i32⟩
  | 98 => ⟨S16, .i32⟩
  | 99 => ⟨S16, .i32⟩
  | 100 => ⟨S_, .i32⟩
  | 101 => ⟨S16, .i32⟩
  | 102 => ⟨S16, .i1⟩
  | 103 => ⟨S_, .i32⟩
  | 104 => ⟨S16, .i32⟩
  | 105 => ⟨S16, .i32⟩
  | 106 => ⟨S16, .i32⟩
  | 107 => ⟨S16x1, .i32⟩
  | 108 => ⟨S16, .i32⟩
  | 109 => ⟨S15, .i32⟩
  | 110 => ⟨S_, .i32⟩
  | 111 => ⟨S15, .i32⟩
  | 112 => ⟨S15, .i32⟩
  | 113 => ⟨S15, .i32⟩
  | 114 => ⟨S15, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S15, .i32⟩
  | 122 => ⟨S15, .i32⟩
  | 123 => ⟨S_, .i32⟩
  | 124 => ⟨S15, .i32⟩
  | 125 => ⟨S15, .i1⟩
  | 126 => ⟨S_, .i32⟩
  | 127 => ⟨S15, .i32⟩
  | _ => ⟨S128x4096, .bf16⟩

abbrev hbmTy0_1 (i : Nat) : BufTy := match i % 128 with
  | 0 => ⟨S15, .i1⟩
  | 1 => ⟨S_, .i32⟩
  | 2 => ⟨S_, .i1⟩
  | 3 => ⟨S15, .i1⟩
  | 4 => ⟨S15, .i1⟩
  | 5 => ⟨S15, .i1⟩
  | 6 => ⟨S15, .i32⟩
  | 7 => ⟨S15, .i32⟩
  | 8 => ⟨S15, .i32⟩
  | 9 => ⟨S_, .i32⟩
  | 10 => ⟨S15, .i32⟩
  | 11 => ⟨S15, .i1⟩
  | 12 => ⟨S_, .i32⟩
  | 13 => ⟨S15, .i32⟩
  | 14 => ⟨S15, .i32⟩
  | 15 => ⟨S15, .i32⟩
  | 16 => ⟨S15x1, .i32⟩
  | 17 => ⟨S15, .i32⟩
  | 18 => ⟨S33, .i32⟩
  | 19 => ⟨S4096x256, .f32⟩
  | _ => ⟨S128x4096, .bf16⟩

abbrev hbmTy (i : Nat) : BufTy := match i / 128 with
  | 0 => hbmTy0_0 i
  | 1 => hbmTy0_1 i
  | _ => ⟨S128x4096, .bf16⟩

abbrev bufTy : (tb : Table) → Fin (tcTables nBuf tb) → BufTy
  | .hbm, ⟨i, _⟩ => hbmTy i
  | .local _ .vmem, ⟨0, _⟩ => ⟨S128x4096, .bf16⟩
  | .local _ .vmem, ⟨1, _⟩ => ⟨S4096x256, .bf16⟩
  | .local _ .vmem, ⟨2, _⟩ => ⟨S4096x256, .f32⟩
  | .local _ .vmem, ⟨3, _⟩ => ⟨S32x128x4096, .bf16⟩
  | .local _ .vmem, ⟨4, _⟩ => ⟨S4096x256, .bf16⟩
  | .local _ .vmem, ⟨5, _⟩ => ⟨S32x128, .f32⟩
  | .local _ .smem, ⟨0, _⟩ => ⟨S33, .i32⟩
  | _, _ => ⟨S128x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_13 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_c_14 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v32 : Ref sig .tc := ⟨.hbm, 99, rfl⟩
abbrev main_c_15 : Ref sig .tc := ⟨.hbm, 100, rfl⟩
abbrev main_v33 : Ref sig .tc := ⟨.hbm, 101, rfl⟩
abbrev main_v34 : Ref sig .tc := ⟨.hbm, 102, rfl⟩
abbrev main_c_16 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_c_17 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_c_18 : Ref sig .tc := ⟨.hbm, 115, rfl⟩
abbrev main_call3_v0 : Ref sig .tc := ⟨.hbm, 116, rfl⟩
abbrev main_call3_c : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_c_1 : Ref sig .tc := ⟨.hbm, 123, rfl⟩
abbrev main_call3_v5 : Ref sig .tc := ⟨.hbm, 124, rfl⟩
abbrev main_call3_v6 : Ref sig .tc := ⟨.hbm, 125, rfl⟩
abbrev main_call3_c_2 : Ref sig .tc := ⟨.hbm, 126, rfl⟩
abbrev main_call3_v7 : Ref sig .tc := ⟨.hbm, 127, rfl⟩
abbrev main_call3_v8 : Ref sig .tc := ⟨.hbm, 128, rfl⟩
abbrev main_call3_c_3 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_v45 : Ref sig .tc := ⟨.hbm, 136, rfl⟩
abbrev main_c_19 : Ref sig .tc := ⟨.hbm, 137, rfl⟩
abbrev main_v46 : Ref sig .tc := ⟨.hbm, 138, rfl⟩
abbrev main_v47 : Ref sig .tc := ⟨.hbm, 139, rfl⟩
abbrev main_c_20 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (v4 : BitVec 32) : Nat :=
  let c0_i32 : BitVec 32 := 0#32
  let c1_i32_1 : BitVec 32 := 1#32
  let v6 : BitVec 32 := Scalar.muli v4 c1_i32_1
  let v7 : BitVec 32 := Scalar.addi c0_i32 v6
  v7.toNat

def k0_dev2 (v3 : BitVec 32) : Nat :=
  let c0_i32_4 : BitVec 32 := 0#32
  let c1_i32_3 : BitVec 32 := 1#32
  let v8 : BitVec 32 := Scalar.muli v3 c1_i32_3
  let v9 : BitVec 32 := Scalar.addi c0_i32_4 v8
  v9.toNat

def k0_dev3 (v3 : BitVec 32) : Nat :=
  let c0_i32_17 : BitVec 32 := 0#32
  let c1_i32_16 : BitVec 32 := 1#32
  let v15 : BitVec 32 := Scalar.muli v3 c1_i32_16
  let v16 : BitVec 32 := Scalar.addi c0_i32_17 v15
  v16.toNat
def k0_dev4 (v3 : BitVec 32) : Nat :=
  let c0_i32_29 : BitVec 32 := 0#32
  let c1_i32_28 : BitVec 32 := 1#32
  let v25 : BitVec 32 := Scalar.muli v3 c1_i32_28
  let v26 : BitVec 32 := Scalar.addi c0_i32_29 v25
  v26.toNat
def k0_dev5 (v4 : BitVec 32) : Nat :=
  let c0_i32_39 : BitVec 32 := 0#32
  let c1_i32_38 : BitVec 32 := 1#32
  let v35 : BitVec 32 := Scalar.muli v4 c1_i32_38
  let v36 : BitVec 32 := Scalar.addi c0_i32_39 v35
  v36.toNat
def k0_dev6 (v4 : BitVec 32) : Nat :=
  let c0_i32_51 : BitVec 32 := 0#32
  let c1_i32_50 : BitVec 32 := 1#32
  let v45 : BitVec 32 := Scalar.muli v4 c1_i32_50
  let v46 : BitVec 32 := Scalar.addi c0_i32_51 v45
  v46.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v64 : BitVec 32 := Scalar.muli v2 c128_i32
  let v65 : Index := Scalar.indexCast v64
  let c0_65 : Index := 0#32
  ![v65.toNat, 0]
def k0_dev7 (v3 : BitVec 32) : Nat :=
  let c0_i32_86 : BitVec 32 := 0#32
  let c1_i32_85 : BitVec 32 := 1#32
  let v80 : BitVec 32 := Scalar.muli v3 c1_i32_85
  let v81 : BitVec 32 := Scalar.addi c0_i32_86 v80
  v81.toNat
def k0_dev8 (v4 : BitVec 32) : Nat :=
  let c0_i32_109 : BitVec 32 := 0#32
  let c1_i32_108 : BitVec 32 := 1#32
  let v98 : BitVec 32 := Scalar.muli v4 c1_i32_108
  let v99 : BitVec 32 := Scalar.addi c0_i32_109 v98
  v99.toNat
def k0_dev9 (v3 : BitVec 32) : Nat :=
  let c0_i32_133 : BitVec 32 := 0#32
  let c1_i32_132 : BitVec 32 := 1#32
  let v116 : BitVec 32 := Scalar.muli v3 c1_i32_132
  let v117 : BitVec 32 := Scalar.addi c0_i32_133 v116
  v117.toNat
def k0_dev10 (v4 : BitVec 32) : Nat :=
  let c0_i32_157 : BitVec 32 := 0#32
  let c1_i32_156 : BitVec 32 := 1#32
  let v134 : BitVec 32 := Scalar.muli v4 c1_i32_156
  let v135 : BitVec 32 := Scalar.addi c0_i32_157 v134
  v135.toNat
def k0_off2 (v144 : BitVec 32) : Fin 2 → Nat :=
  let c128_i32_168 : BitVec 32 := 128#32
  let v149 : BitVec 32 := Scalar.muli v144 c128_i32_168
  let v150 : Index := Scalar.indexCast v149
  let c0_169 : Index := 0#32
  ![v150.toNat, 0]

def k0_chk3 (v144 : BitVec 32) : Prop :=
  (∀ a, (k0_off2 v144) a + S128x256.size a ≤ S4096x256.size a)
theorem k0_off2_inb : ∀ (v144 : BitVec 32) (k0_hw3 : k0_chk3 v144), ∀ a, (k0_off2 v144) a + S128x256.size a ≤ S4096x256.size a := fun v144 k0_hw3 => k0_hw3

def k0_dev11 (v3 : BitVec 32) : Nat :=
  let c0_i32_189 : BitVec 32 := 0#32
  let c1_i32_188 : BitVec 32 := 1#32
  let v166 : BitVec 32 := Scalar.muli v3 c1_i32_188
  let v167 : BitVec 32 := Scalar.addi c0_i32_189 v166
  v167.toNat
def k0_dev12 (v4 : BitVec 32) : Nat :=
  let c0_i32_212 : BitVec 32 := 0#32
  let c1_i32_211 : BitVec 32 := 1#32
  let v184 : BitVec 32 := Scalar.muli v4 c1_i32_211
  let v185 : BitVec 32 := Scalar.addi c0_i32_212 v184
  v185.toNat
def k0_off3 (v194 : BitVec 32) : Fin 2 → Nat :=
  let c128_i32_222 : BitVec 32 := 128#32
  let v199 : BitVec 32 := Scalar.muli v194 c128_i32_222
  let v200 : Index := Scalar.indexCast v199
  let c0_223 : Index := 0#32
  ![v200.toNat, 0]

def k0_chk4 (v194 : BitVec 32) : Prop :=
  (∀ a, (k0_off3 v194) a + S128x256.size a ≤ S4096x256.size a)
theorem k0_off3_inb : ∀ (v194 : BitVec 32) (k0_hw4 : k0_chk4 v194), ∀ a, (k0_off3 v194) a + S128x256.size a ≤ S4096x256.size a := fun v194 k0_hw4 => k0_hw4

def k0_dev13 (v3 : BitVec 32) : Nat :=
  let c0_i32_244 : BitVec 32 := 0#32
  let c1_i32_243 : BitVec 32 := 1#32
  let v216 : BitVec 32 := Scalar.muli v3 c1_i32_243
  let v217 : BitVec 32 := Scalar.addi c0_i32_244 v216
  v217.toNat
def k0_dev14 (v4 : BitVec 32) : Nat :=
  let c0_i32_268 : BitVec 32 := 0#32
  let c1_i32_267 : BitVec 32 := 1#32
  let v234 : BitVec 32 := Scalar.muli v4 c1_i32_267
  let v235 : BitVec 32 := Scalar.addi c0_i32_268 v234
  v235.toNat
def k0_off4 (v244 : BitVec 32) : Fin 2 → Nat :=
  let c128_i32_279 : BitVec 32 := 128#32
  let v249 : BitVec 32 := Scalar.muli v244 c128_i32_279
  let v250 : Index := Scalar.indexCast v249
  let c0_280 : Index := 0#32
  ![v250.toNat, 0]

def k0_chk5 (v244 : BitVec 32) : Prop :=
  (∀ a, (k0_off4 v244) a + S128x256.size a ≤ S4096x256.size a)
theorem k0_off4_inb : ∀ (v244 : BitVec 32) (k0_hw5 : k0_chk5 v244), ∀ a, (k0_off4 v244) a + S128x256.size a ≤ S4096x256.size a := fun v244 k0_hw5 => k0_hw5

def k0_dev15 (v3 : BitVec 32) : Nat :=
  let c0_i32_300 : BitVec 32 := 0#32
  let c1_i32_299 : BitVec 32 := 1#32
  let v266 : BitVec 32 := Scalar.muli v3 c1_i32_299
  let v267 : BitVec 32 := Scalar.addi c0_i32_300 v266
  v267.toNat
def k0_dev16 (v4 : BitVec 32) : Nat :=
  let c0_i32_323 : BitVec 32 := 0#32
  let c1_i32_322 : BitVec 32 := 1#32
  let v284 : BitVec 32 := Scalar.muli v4 c1_i32_322
  let v285 : BitVec 32 := Scalar.addi c0_i32_323 v284
  v285.toNat
def k0_off5 (v294 : BitVec 32) : Fin 2 → Nat :=
  let c128_i32_333 : BitVec 32 := 128#32
  let v299 : BitVec 32 := Scalar.muli v294 c128_i32_333
  let v300 : Index := Scalar.indexCast v299
  let c0_334 : Index := 0#32
  ![v300.toNat, 0]

def k0_chk6 (v294 : BitVec 32) : Prop :=
  (∀ a, (k0_off5 v294) a + S128x256.size a ≤ S4096x256.size a)
theorem k0_off5_inb : ∀ (v294 : BitVec 32) (k0_hw6 : k0_chk6 v294), ∀ a, (k0_off5 v294) a + S128x256.size a ≤ S4096x256.size a := fun v294 k0_hw6 => k0_hw6

def k0_dev17 (v3 : BitVec 32) : Nat :=
  let c0_i32_355 : BitVec 32 := 0#32
  let c1_i32_354 : BitVec 32 := 1#32
  let v316 : BitVec 32 := Scalar.muli v3 c1_i32_354
  let v317 : BitVec 32 := Scalar.addi c0_i32_355 v316
  v317.toNat
def k0_dev18 (v4 : BitVec 32) : Nat :=
  let c0_i32_379 : BitVec 32 := 0#32
  let c1_i32_378 : BitVec 32 := 1#32
  let v334 : BitVec 32 := Scalar.muli v4 c1_i32_378
  let v335 : BitVec 32 := Scalar.addi c0_i32_379 v334
  v335.toNat
def k0_off6 (v344 : BitVec 32) : Fin 2 → Nat :=
  let c128_i32_390 : BitVec 32 := 128#32
  let v349 : BitVec 32 := Scalar.muli v344 c128_i32_390
  let v350 : Index := Scalar.indexCast v349
  let c0_391 : Index := 0#32
  ![v350.toNat, 0]

def k0_chk7 (v344 : BitVec 32) : Prop :=
  (∀ a, (k0_off6 v344) a + S128x256.size a ≤ S4096x256.size a)
theorem k0_off6_inb : ∀ (v344 : BitVec 32) (k0_hw7 : k0_chk7 v344), ∀ a, (k0_off6 v344) a + S128x256.size a ≤ S4096x256.size a := fun v344 k0_hw7 => k0_hw7

def k0_dev19 (v3 : BitVec 32) : Nat :=
  let c0_i32_411 : BitVec 32 := 0#32
  let c1_i32_410 : BitVec 32 := 1#32
  let v366 : BitVec 32 := Scalar.muli v3 c1_i32_410
  let v367 : BitVec 32 := Scalar.addi c0_i32_411 v366
  v367.toNat
def k0_dev20 (v4 : BitVec 32) : Nat :=
  let c0_i32_434 : BitVec 32 := 0#32
  let c1_i32_433 : BitVec 32 := 1#32
  let v384 : BitVec 32 := Scalar.muli v4 c1_i32_433
  let v385 : BitVec 32 := Scalar.addi c0_i32_434 v384
  v385.toNat
def k0_off7 (v394 : BitVec 32) : Fin 2 → Nat :=
  let c128_i32_444 : BitVec 32 := 128#32
  let v399 : BitVec 32 := Scalar.muli v394 c128_i32_444
  let v400 : Index := Scalar.indexCast v399
  let c0_445 : Index := 0#32
  ![v400.toNat, 0]

def k0_chk8 (v394 : BitVec 32) : Prop :=
  (∀ a, (k0_off7 v394) a + S128x256.size a ≤ S4096x256.size a)
theorem k0_off7_inb : ∀ (v394 : BitVec 32) (k0_hw8 : k0_chk8 v394), ∀ a, (k0_off7 v394) a + S128x256.size a ≤ S4096x256.size a := fun v394 k0_hw8 => k0_hw8

def k0_dev21 (v3 : BitVec 32) : Nat :=
  let c0_i32_466 : BitVec 32 := 0#32
  let c1_i32_465 : BitVec 32 := 1#32
  let v416 : BitVec 32 := Scalar.muli v3 c1_i32_465
  let v417 : BitVec 32 := Scalar.addi c0_i32_466 v416
  v417.toNat
def k0_dev22 (v4 : BitVec 32) : Nat :=
  let c0_i32_490 : BitVec 32 := 0#32
  let c1_i32_489 : BitVec 32 := 1#32
  let v434 : BitVec 32 := Scalar.muli v4 c1_i32_489
  let v435 : BitVec 32 := Scalar.addi c0_i32_490 v434
  v435.toNat
def k0_off8 (v444 : BitVec 32) : Fin 2 → Nat :=
  let c128_i32_501 : BitVec 32 := 128#32
  let v449 : BitVec 32 := Scalar.muli v444 c128_i32_501
  let v450 : Index := Scalar.indexCast v449
  let c0_502 : Index := 0#32
  ![v450.toNat, 0]

def k0_chk9 (v444 : BitVec 32) : Prop :=
  (∀ a, (k0_off8 v444) a + S128x256.size a ≤ S4096x256.size a)
theorem k0_off8_inb : ∀ (v444 : BitVec 32) (k0_hw9 : k0_chk9 v444), ∀ a, (k0_off8 v444) a + S128x256.size a ≤ S4096x256.size a := fun v444 k0_hw9 => k0_hw9

def k0_dev23 (v3 : BitVec 32) : Nat :=
  let c0_i32_522 : BitVec 32 := 0#32
  let c1_i32_521 : BitVec 32 := 1#32
  let v466 : BitVec 32 := Scalar.muli v3 c1_i32_521
  let v467 : BitVec 32 := Scalar.addi c0_i32_522 v466
  v467.toNat
def k0_dev24 (v4 : BitVec 32) : Nat :=
  let c0_i32_545 : BitVec 32 := 0#32
  let c1_i32_544 : BitVec 32 := 1#32
  let v484 : BitVec 32 := Scalar.muli v4 c1_i32_544
  let v485 : BitVec 32 := Scalar.addi c0_i32_545 v484
  v485.toNat
def k0_off9 (v494 : BitVec 32) : Fin 2 → Nat :=
  let c128_i32_555 : BitVec 32 := 128#32
  let v499 : BitVec 32 := Scalar.muli v494 c128_i32_555
  let v500 : Index := Scalar.indexCast v499
  let c0_556 : Index := 0#32
  ![v500.toNat, 0]

def k0_chk10 (v494 : BitVec 32) : Prop :=
  (∀ a, (k0_off9 v494) a + S128x256.size a ≤ S4096x256.size a)
theorem k0_off9_inb : ∀ (v494 : BitVec 32) (k0_hw10 : k0_chk10 v494), ∀ a, (k0_off9 v494) a + S128x256.size a ≤ S4096x256.size a := fun v494 k0_hw10 => k0_hw10

def k0_dev25 (v3 : BitVec 32) : Nat :=
  let c0_i32_577 : BitVec 32 := 0#32
  let c1_i32_576 : BitVec 32 := 1#32
  let v516 : BitVec 32 := Scalar.muli v3 c1_i32_576
  let v517 : BitVec 32 := Scalar.addi c0_i32_577 v516
  v517.toNat
def k0_dev26 (v4 : BitVec 32) : Nat :=
  let c0_i32_601 : BitVec 32 := 0#32
  let c1_i32_600 : BitVec 32 := 1#32
  let v534 : BitVec 32 := Scalar.muli v4 c1_i32_600
  let v535 : BitVec 32 := Scalar.addi c0_i32_601 v534
  v535.toNat
def k0_off10 (v544 : BitVec 32) : Fin 2 → Nat :=
  let c128_i32_612 : BitVec 32 := 128#32
  let v549 : BitVec 32 := Scalar.muli v544 c128_i32_612
  let v550 : Index := Scalar.indexCast v549
  let c0_613 : Index := 0#32
  ![v550.toNat, 0]

def k0_chk11 (v544 : BitVec 32) : Prop :=
  (∀ a, (k0_off10 v544) a + S128x256.size a ≤ S4096x256.size a)
theorem k0_off10_inb : ∀ (v544 : BitVec 32) (k0_hw11 : k0_chk11 v544), ∀ a, (k0_off10 v544) a + S128x256.size a ≤ S4096x256.size a := fun v544 k0_hw11 => k0_hw11

def k0_dev27 (v3 : BitVec 32) : Nat :=
  let c0_i32_633 : BitVec 32 := 0#32
  let c1_i32_632 : BitVec 32 := 1#32
  let v566 : BitVec 32 := Scalar.muli v3 c1_i32_632
  let v567 : BitVec 32 := Scalar.addi c0_i32_633 v566
  v567.toNat
def k0_dev28 (v4 : BitVec 32) : Nat :=
  let c0_i32_656 : BitVec 32 := 0#32
  let c1_i32_655 : BitVec 32 := 1#32
  let v584 : BitVec 32 := Scalar.muli v4 c1_i32_655
  let v585 : BitVec 32 := Scalar.addi c0_i32_656 v584
  v585.toNat
def k0_off11 (v594 : BitVec 32) : Fin 2 → Nat :=
  let c128_i32_666 : BitVec 32 := 128#32
  let v599 : BitVec 32 := Scalar.muli v594 c128_i32_666
  let v600 : Index := Scalar.indexCast v599
  let c0_667 : Index := 0#32
  ![v600.toNat, 0]

def k0_chk12 (v594 : BitVec 32) : Prop :=
  (∀ a, (k0_off11 v594) a + S128x256.size a ≤ S4096x256.size a)
theorem k0_off11_inb : ∀ (v594 : BitVec 32) (k0_hw12 : k0_chk12 v594), ∀ a, (k0_off11 v594) a + S128x256.size a ≤ S4096x256.size a := fun v594 k0_hw12 => k0_hw12

def k0_dev29 (v3 : BitVec 32) : Nat :=
  let c0_i32_688 : BitVec 32 := 0#32
  let c1_i32_687 : BitVec 32 := 1#32
  let v616 : BitVec 32 := Scalar.muli v3 c1_i32_687
  let v617 : BitVec 32 := Scalar.addi c0_i32_688 v616
  v617.toNat
def k0_dev30 (v4 : BitVec 32) : Nat :=
  let c0_i32_712 : BitVec 32 := 0#32
  let c1_i32_711 : BitVec 32 := 1#32
  let v634 : BitVec 32 := Scalar.muli v4 c1_i32_711
  let v635 : BitVec 32 := Scalar.addi c0_i32_712 v634
  v635.toNat
def k0_off12 (v644 : BitVec 32) : Fin 2 → Nat :=
  let c128_i32_723 : BitVec 32 := 128#32
  let v649 : BitVec 32 := Scalar.muli v644 c128_i32_723
  let v650 : Index := Scalar.indexCast v649
  let c0_724 : Index := 0#32
  ![v650.toNat, 0]

def k0_chk13 (v644 : BitVec 32) : Prop :=
  (∀ a, (k0_off12 v644) a + S128x256.size a ≤ S4096x256.size a)
theorem k0_off12_inb : ∀ (v644 : BitVec 32) (k0_hw13 : k0_chk13 v644), ∀ a, (k0_off12 v644) a + S128x256.size a ≤ S4096x256.size a := fun v644 k0_hw13 => k0_hw13

def k0_dev31 (v3 : BitVec 32) : Nat :=
  let c0_i32_744 : BitVec 32 := 0#32
  let c1_i32_743 : BitVec 32 := 1#32
  let v666 : BitVec 32 := Scalar.muli v3 c1_i32_743
  let v667 : BitVec 32 := Scalar.addi c0_i32_744 v666
  v667.toNat
def k0_dev32 (v4 : BitVec 32) : Nat :=
  let c0_i32_767 : BitVec 32 := 0#32
  let c1_i32_766 : BitVec 32 := 1#32
  let v684 : BitVec 32 := Scalar.muli v4 c1_i32_766
  let v685 : BitVec 32 := Scalar.addi c0_i32_767 v684
  v685.toNat
def k0_off13 (v694 : BitVec 32) : Fin 2 → Nat :=
  let c128_i32_777 : BitVec 32 := 128#32
  let v699 : BitVec 32 := Scalar.muli v694 c128_i32_777
  let v700 : Index := Scalar.indexCast v699
  let c0_778 : Index := 0#32
  ![v700.toNat, 0]

def k0_chk14 (v694 : BitVec 32) : Prop :=
  (∀ a, (k0_off13 v694) a + S128x256.size a ≤ S4096x256.size a)
theorem k0_off13_inb : ∀ (v694 : BitVec 32) (k0_hw14 : k0_chk14 v694), ∀ a, (k0_off13 v694) a + S128x256.size a ≤ S4096x256.size a := fun v694 k0_hw14 => k0_hw14

def k0_dev33 (v3 : BitVec 32) : Nat :=
  let c0_i32_799 : BitVec 32 := 0#32
  let c1_i32_798 : BitVec 32 := 1#32
  let v716 : BitVec 32 := Scalar.muli v3 c1_i32_798
  let v717 : BitVec 32 := Scalar.addi c0_i32_799 v716
  v717.toNat
def k0_dev34 (v4 : BitVec 32) : Nat :=
  let c0_i32_823 : BitVec 32 := 0#32
  let c1_i32_822 : BitVec 32 := 1#32
  let v734 : BitVec 32 := Scalar.muli v4 c1_i32_822
  let v735 : BitVec 32 := Scalar.addi c0_i32_823 v734
  v735.toNat
def k0_off14 (v744 : BitVec 32) : Fin 2 → Nat :=
  let c128_i32_834 : BitVec 32 := 128#32
  let v749 : BitVec 32 := Scalar.muli v744 c128_i32_834
  let v750 : Index := Scalar.indexCast v749
  let c0_835 : Index := 0#32
  ![v750.toNat, 0]

def k0_chk15 (v744 : BitVec 32) : Prop :=
  (∀ a, (k0_off14 v744) a + S128x256.size a ≤ S4096x256.size a)
theorem k0_off14_inb : ∀ (v744 : BitVec 32) (k0_hw15 : k0_chk15 v744), ∀ a, (k0_off14 v744) a + S128x256.size a ≤ S4096x256.size a := fun v744 k0_hw15 => k0_hw15

def k0_dev35 (v3 : BitVec 32) : Nat :=
  let c0_i32_855 : BitVec 32 := 0#32
  let c1_i32_854 : BitVec 32 := 1#32
  let v766 : BitVec 32 := Scalar.muli v3 c1_i32_854
  let v767 : BitVec 32 := Scalar.addi c0_i32_855 v766
  v767.toNat
def k0_dev36 (v4 : BitVec 32) : Nat :=
  let c0_i32_878 : BitVec 32 := 0#32
  let c1_i32_877 : BitVec 32 := 1#32
  let v784 : BitVec 32 := Scalar.muli v4 c1_i32_877
  let v785 : BitVec 32 := Scalar.addi c0_i32_878 v784
  v785.toNat
def k0_off15 (v794 : BitVec 32) : Fin 2 → Nat :=
  let c128_i32_888 : BitVec 32 := 128#32
  let v799 : BitVec 32 := Scalar.muli v794 c128_i32_888
  let v800 : Index := Scalar.indexCast v799
  let c0_889 : Index := 0#32
  ![v800.toNat, 0]

def k0_chk16 (v794 : BitVec 32) : Prop :=
  (∀ a, (k0_off15 v794) a + S128x256.size a ≤ S4096x256.size a)
theorem k0_off15_inb : ∀ (v794 : BitVec 32) (k0_hw16 : k0_chk16 v794), ∀ a, (k0_off15 v794) a + S128x256.size a ≤ S4096x256.size a := fun v794 k0_hw16 => k0_hw16

def k0_dev37 (v3 : BitVec 32) : Nat :=
  let c0_i32_910 : BitVec 32 := 0#32
  let c1_i32_909 : BitVec 32 := 1#32
  let v816 : BitVec 32 := Scalar.muli v3 c1_i32_909
  let v817 : BitVec 32 := Scalar.addi c0_i32_910 v816
  v817.toNat
def k0_dev38 (v4 : BitVec 32) : Nat :=
  let c0_i32_934 : BitVec 32 := 0#32
  let c1_i32_933 : BitVec 32 := 1#32
  let v834 : BitVec 32 := Scalar.muli v4 c1_i32_933
  let v835 : BitVec 32 := Scalar.addi c0_i32_934 v834
  v835.toNat
def k0_off16 (v844 : BitVec 32) : Fin 2 → Nat :=
  let c128_i32_945 : BitVec 32 := 128#32
  let v849 : BitVec 32 := Scalar.muli v844 c128_i32_945
  let v850 : Index := Scalar.indexCast v849
  let c0_946 : Index := 0#32
  ![v850.toNat, 0]

def k0_chk17 (v844 : BitVec 32) : Prop :=
  (∀ a, (k0_off16 v844) a + S128x256.size a ≤ S4096x256.size a)
theorem k0_off16_inb : ∀ (v844 : BitVec 32) (k0_hw17 : k0_chk17 v844), ∀ a, (k0_off16 v844) a + S128x256.size a ≤ S4096x256.size a := fun v844 k0_hw17 => k0_hw17

def k0_dev39 (v3 : BitVec 32) : Nat :=
  let c0_i32_966 : BitVec 32 := 0#32
  let c1_i32_965 : BitVec 32 := 1#32
  let v866 : BitVec 32 := Scalar.muli v3 c1_i32_965
  let v867 : BitVec 32 := Scalar.addi c0_i32_966 v866
  v867.toNat
def k0_dev40 (v4 : BitVec 32) : Nat :=
  let c0_i32_989 : BitVec 32 := 0#32
  let c1_i32_988 : BitVec 32 := 1#32
  let v884 : BitVec 32 := Scalar.muli v4 c1_i32_988
  let v885 : BitVec 32 := Scalar.addi c0_i32_989 v884
  v885.toNat
def k0_off17 (v894 : BitVec 32) : Fin 2 → Nat :=
  let c128_i32_1001 : BitVec 32 := 128#32
  let v899 : BitVec 32 := Scalar.muli v894 c128_i32_1001
  let v900 : Index := Scalar.indexCast v899
  let c0_1002 : Index := 0#32
  ![v900.toNat, 0]

def k0_chk18 (v894 : BitVec 32) : Prop :=
  (∀ a, (k0_off17 v894) a + S128x256.size a ≤ S4096x256.size a)
theorem k0_off17_inb : ∀ (v894 : BitVec 32) (k0_hw18 : k0_chk18 v894), ∀ a, (k0_off17 v894) a + S128x256.size a ≤ S4096x256.size a := fun v894 k0_hw18 => k0_hw18

def k0_dev41 (v3 : BitVec 32) : Nat :=
  let c0_i32_1023 : BitVec 32 := 0#32
  let c1_i32_1022 : BitVec 32 := 1#32
  let v916 : BitVec 32 := Scalar.muli v3 c1_i32_1022
  let v917 : BitVec 32 := Scalar.addi c0_i32_1023 v916
  v917.toNat
def k0_dev42 (v4 : BitVec 32) : Nat :=
  let c0_i32_1047 : BitVec 32 := 0#32
  let c1_i32_1046 : BitVec 32 := 1#32
  let v934 : BitVec 32 := Scalar.muli v4 c1_i32_1046
  let v935 : BitVec 32 := Scalar.addi c0_i32_1047 v934
  v935.toNat
def k0_off18 (v944 : BitVec 32) : Fin 2 → Nat :=
  let c128_i32_1058 : BitVec 32 := 128#32
  let v949 : BitVec 32 := Scalar.muli v944 c128_i32_1058
  let v950 : Index := Scalar.indexCast v949
  let c0_1059 : Index := 0#32
  ![v950.toNat, 0]

def k0_chk19 (v944 : BitVec 32) : Prop :=
  (∀ a, (k0_off18 v944) a + S128x256.size a ≤ S4096x256.size a)
theorem k0_off18_inb : ∀ (v944 : BitVec 32) (k0_hw19 : k0_chk19 v944), ∀ a, (k0_off18 v944) a + S128x256.size a ≤ S4096x256.size a := fun v944 k0_hw19 => k0_hw19

def k0_dev43 (v3 : BitVec 32) : Nat :=
  let c0_i32_1079 : BitVec 32 := 0#32
  let c1_i32_1078 : BitVec 32 := 1#32
  let v966 : BitVec 32 := Scalar.muli v3 c1_i32_1078
  let v967 : BitVec 32 := Scalar.addi c0_i32_1079 v966
  v967.toNat
def k0_dev44 (v4 : BitVec 32) : Nat :=
  let c0_i32_1102 : BitVec 32 := 0#32
  let c1_i32_1101 : BitVec 32 := 1#32
  let v984 : BitVec 32 := Scalar.muli v4 c1_i32_1101
  let v985 : BitVec 32 := Scalar.addi c0_i32_1102 v984
  v985.toNat
def k0_off19 (v994 : BitVec 32) : Fin 2 → Nat :=
  let c128_i32_1114 : BitVec 32 := 128#32
  let v999 : BitVec 32 := Scalar.muli v994 c128_i32_1114
  let v1000 : Index := Scalar.indexCast v999
  let c0_1115 : Index := 0#32
  ![v1000.toNat, 0]

def k0_chk20 (v994 : BitVec 32) : Prop :=
  (∀ a, (k0_off19 v994) a + S128x256.size a ≤ S4096x256.size a)
theorem k0_off19_inb : ∀ (v994 : BitVec 32) (k0_hw20 : k0_chk20 v994), ∀ a, (k0_off19 v994) a + S128x256.size a ≤ S4096x256.size a := fun v994 k0_hw20 => k0_hw20

def k0_dev45 (v3 : BitVec 32) : Nat :=
  let c0_i32_1136 : BitVec 32 := 0#32
  let c1_i32_1135 : BitVec 32 := 1#32
  let v1016 : BitVec 32 := Scalar.muli v3 c1_i32_1135
  let v1017 : BitVec 32 := Scalar.addi c0_i32_1136 v1016
  v1017.toNat
def k0_dev46 (v4 : BitVec 32) : Nat :=
  let c0_i32_1160 : BitVec 32 := 0#32
  let c1_i32_1159 : BitVec 32 := 1#32
  let v1034 : BitVec 32 := Scalar.muli v4 c1_i32_1159
  let v1035 : BitVec 32 := Scalar.addi c0_i32_1160 v1034
  v1035.toNat
def k0_off20 (v1044 : BitVec 32) : Fin 2 → Nat :=
  let c128_i32_1171 : BitVec 32 := 128#32
  let v1049 : BitVec 32 := Scalar.muli v1044 c128_i32_1171
  let v1050 : Index := Scalar.indexCast v1049
  let c0_1172 : Index := 0#32
  ![v1050.toNat, 0]

def k0_chk21 (v1044 : BitVec 32) : Prop :=
  (∀ a, (k0_off20 v1044) a + S128x256.size a ≤ S4096x256.size a)
theorem k0_off20_inb : ∀ (v1044 : BitVec 32) (k0_hw21 : k0_chk21 v1044), ∀ a, (k0_off20 v1044) a + S128x256.size a ≤ S4096x256.size a := fun v1044 k0_hw21 => k0_hw21

def k0_dev47 (v3 : BitVec 32) : Nat :=
  let c0_i32_1192 : BitVec 32 := 0#32
  let c1_i32_1191 : BitVec 32 := 1#32
  let v1066 : BitVec 32 := Scalar.muli v3 c1_i32_1191
  let v1067 : BitVec 32 := Scalar.addi c0_i32_1192 v1066
  v1067.toNat
def k0_dev48 (v4 : BitVec 32) : Nat :=
  let c0_i32_1215 : BitVec 32 := 0#32
  let c1_i32_1214 : BitVec 32 := 1#32
  let v1084 : BitVec 32 := Scalar.muli v4 c1_i32_1214
  let v1085 : BitVec 32 := Scalar.addi c0_i32_1215 v1084
  v1085.toNat
def k0_off21 (v1094 : BitVec 32) : Fin 2 → Nat :=
  let c128_i32_1227 : BitVec 32 := 128#32
  let v1099 : BitVec 32 := Scalar.muli v1094 c128_i32_1227
  let v1100 : Index := Scalar.indexCast v1099
  let c0_1228 : Index := 0#32
  ![v1100.toNat, 0]

def k0_chk22 (v1094 : BitVec 32) : Prop :=
  (∀ a, (k0_off21 v1094) a + S128x256.size a ≤ S4096x256.size a)
theorem k0_off21_inb : ∀ (v1094 : BitVec 32) (k0_hw22 : k0_chk22 v1094), ∀ a, (k0_off21 v1094) a + S128x256.size a ≤ S4096x256.size a := fun v1094 k0_hw22 => k0_hw22

def k0_dev49 (v3 : BitVec 32) : Nat :=
  let c0_i32_1249 : BitVec 32 := 0#32
  let c1_i32_1248 : BitVec 32 := 1#32
  let v1116 : BitVec 32 := Scalar.muli v3 c1_i32_1248
  let v1117 : BitVec 32 := Scalar.addi c0_i32_1249 v1116
  v1117.toNat
def k0_dev50 (v4 : BitVec 32) : Nat :=
  let c0_i32_1273 : BitVec 32 := 0#32
  let c1_i32_1272 : BitVec 32 := 1#32
  let v1134 : BitVec 32 := Scalar.muli v4 c1_i32_1272
  let v1135 : BitVec 32 := Scalar.addi c0_i32_1273 v1134
  v1135.toNat
def k0_off22 (v1144 : BitVec 32) : Fin 2 → Nat :=
  let c128_i32_1284 : BitVec 32 := 128#32
  let v1149 : BitVec 32 := Scalar.muli v1144 c128_i32_1284
  let v1150 : Index := Scalar.indexCast v1149
  let c0_1285 : Index := 0#32
  ![v1150.toNat, 0]

def k0_chk23 (v1144 : BitVec 32) : Prop :=
  (∀ a, (k0_off22 v1144) a + S128x256.size a ≤ S4096x256.size a)
theorem k0_off22_inb : ∀ (v1144 : BitVec 32) (k0_hw23 : k0_chk23 v1144), ∀ a, (k0_off22 v1144) a + S128x256.size a ≤ S4096x256.size a := fun v1144 k0_hw23 => k0_hw23

def k0_dev51 (v3 : BitVec 32) : Nat :=
  let c0_i32_1305 : BitVec 32 := 0#32
  let c1_i32_1304 : BitVec 32 := 1#32
  let v1166 : BitVec 32 := Scalar.muli v3 c1_i32_1304
  let v1167 : BitVec 32 := Scalar.addi c0_i32_1305 v1166
  v1167.toNat
def k0_dev52 (v4 : BitVec 32) : Nat :=
  let c0_i32_1328 : BitVec 32 := 0#32
  let c1_i32_1327 : BitVec 32 := 1#32
  let v1184 : BitVec 32 := Scalar.muli v4 c1_i32_1327
  let v1185 : BitVec 32 := Scalar.addi c0_i32_1328 v1184
  v1185.toNat
def k0_off23 (v1194 : BitVec 32) : Fin 2 → Nat :=
  let c128_i32_1340 : BitVec 32 := 128#32
  let v1199 : BitVec 32 := Scalar.muli v1194 c128_i32_1340
  let v1200 : Index := Scalar.indexCast v1199
  let c0_1341 : Index := 0#32
  ![v1200.toNat, 0]

def k0_chk24 (v1194 : BitVec 32) : Prop :=
  (∀ a, (k0_off23 v1194) a + S128x256.size a ≤ S4096x256.size a)
theorem k0_off23_inb : ∀ (v1194 : BitVec 32) (k0_hw24 : k0_chk24 v1194), ∀ a, (k0_off23 v1194) a + S128x256.size a ≤ S4096x256.size a := fun v1194 k0_hw24 => k0_hw24

def k0_dev53 (v3 : BitVec 32) : Nat :=
  let c0_i32_1362 : BitVec 32 := 0#32
  let c1_i32_1361 : BitVec 32 := 1#32
  let v1216 : BitVec 32 := Scalar.muli v3 c1_i32_1361
  let v1217 : BitVec 32 := Scalar.addi c0_i32_1362 v1216
  v1217.toNat
def k0_dev54 (v4 : BitVec 32) : Nat :=
  let c0_i32_1386 : BitVec 32 := 0#32
  let c1_i32_1385 : BitVec 32 := 1#32
  let v1234 : BitVec 32 := Scalar.muli v4 c1_i32_1385
  let v1235 : BitVec 32 := Scalar.addi c0_i32_1386 v1234
  v1235.toNat
def k0_off24 (v1244 : BitVec 32) : Fin 2 → Nat :=
  let c128_i32_1397 : BitVec 32 := 128#32
  let v1249 : BitVec 32 := Scalar.muli v1244 c128_i32_1397
  let v1250 : Index := Scalar.indexCast v1249
  let c0_1398 : Index := 0#32
  ![v1250.toNat, 0]

def k0_chk25 (v1244 : BitVec 32) : Prop :=
  (∀ a, (k0_off24 v1244) a + S128x256.size a ≤ S4096x256.size a)
theorem k0_off24_inb : ∀ (v1244 : BitVec 32) (k0_hw25 : k0_chk25 v1244), ∀ a, (k0_off24 v1244) a + S128x256.size a ≤ S4096x256.size a := fun v1244 k0_hw25 => k0_hw25

def k0_dev55 (v3 : BitVec 32) : Nat :=
  let c0_i32_1418 : BitVec 32 := 0#32
  let c1_i32_1417 : BitVec 32 := 1#32
  let v1266 : BitVec 32 := Scalar.muli v3 c1_i32_1417
  let v1267 : BitVec 32 := Scalar.addi c0_i32_1418 v1266
  v1267.toNat
def k0_dev56 (v4 : BitVec 32) : Nat :=
  let c0_i32_1441 : BitVec 32 := 0#32
  let c1_i32_1440 : BitVec 32 := 1#32
  let v1284 : BitVec 32 := Scalar.muli v4 c1_i32_1440
  let v1285 : BitVec 32 := Scalar.addi c0_i32_1441 v1284
  v1285.toNat
def k0_off25 (v1294 : BitVec 32) : Fin 2 → Nat :=
  let c128_i32_1453 : BitVec 32 := 128#32
  let v1299 : BitVec 32 := Scalar.muli v1294 c128_i32_1453
  let v1300 : Index := Scalar.indexCast v1299
  let c0_1454 : Index := 0#32
  ![v1300.toNat, 0]

def k0_chk26 (v1294 : BitVec 32) : Prop :=
  (∀ a, (k0_off25 v1294) a + S128x256.size a ≤ S4096x256.size a)
theorem k0_off25_inb : ∀ (v1294 : BitVec 32) (k0_hw26 : k0_chk26 v1294), ∀ a, (k0_off25 v1294) a + S128x256.size a ≤ S4096x256.size a := fun v1294 k0_hw26 => k0_hw26

def k0_dev57 (v3 : BitVec 32) : Nat :=
  let c0_i32_1475 : BitVec 32 := 0#32
  let c1_i32_1474 : BitVec 32 := 1#32
  let v1316 : BitVec 32 := Scalar.muli v3 c1_i32_1474
  let v1317 : BitVec 32 := Scalar.addi c0_i32_1475 v1316
  v1317.toNat
def k0_dev58 (v4 : BitVec 32) : Nat :=
  let c0_i32_1499 : BitVec 32 := 0#32
  let c1_i32_1498 : BitVec 32 := 1#32
  let v1334 : BitVec 32 := Scalar.muli v4 c1_i32_1498
  let v1335 : BitVec 32 := Scalar.addi c0_i32_1499 v1334
  v1335.toNat
def k0_off26 (v1344 : BitVec 32) : Fin 2 → Nat :=
  let c128_i32_1510 : BitVec 32 := 128#32
  let v1349 : BitVec 32 := Scalar.muli v1344 c128_i32_1510
  let v1350 : Index := Scalar.indexCast v1349
  let c0_1511 : Index := 0#32
  ![v1350.toNat, 0]

def k0_chk27 (v1344 : BitVec 32) : Prop :=
  (∀ a, (k0_off26 v1344) a + S128x256.size a ≤ S4096x256.size a)
theorem k0_off26_inb : ∀ (v1344 : BitVec 32) (k0_hw27 : k0_chk27 v1344), ∀ a, (k0_off26 v1344) a + S128x256.size a ≤ S4096x256.size a := fun v1344 k0_hw27 => k0_hw27

def k0_dev59 (v3 : BitVec 32) : Nat :=
  let c0_i32_1531 : BitVec 32 := 0#32
  let c1_i32_1530 : BitVec 32 := 1#32
  let v1366 : BitVec 32 := Scalar.muli v3 c1_i32_1530
  let v1367 : BitVec 32 := Scalar.addi c0_i32_1531 v1366
  v1367.toNat
def k0_dev60 (v4 : BitVec 32) : Nat :=
  let c0_i32_1554 : BitVec 32 := 0#32
  let c1_i32_1553 : BitVec 32 := 1#32
  let v1384 : BitVec 32 := Scalar.muli v4 c1_i32_1553
  let v1385 : BitVec 32 := Scalar.addi c0_i32_1554 v1384
  v1385.toNat
def k0_off27 (v1394 : BitVec 32) : Fin 2 → Nat :=
  let c128_i32_1566 : BitVec 32 := 128#32
  let v1399 : BitVec 32 := Scalar.muli v1394 c128_i32_1566
  let v1400 : Index := Scalar.indexCast v1399
  let c0_1567 : Index := 0#32
  ![v1400.toNat, 0]

def k0_chk28 (v1394 : BitVec 32) : Prop :=
  (∀ a, (k0_off27 v1394) a + S128x256.size a ≤ S4096x256.size a)
theorem k0_off27_inb : ∀ (v1394 : BitVec 32) (k0_hw28 : k0_chk28 v1394), ∀ a, (k0_off27 v1394) a + S128x256.size a ≤ S4096x256.size a := fun v1394 k0_hw28 => k0_hw28

def k0_dev61 (v3 : BitVec 32) : Nat :=
  let c0_i32_1588 : BitVec 32 := 0#32
  let c1_i32_1587 : BitVec 32 := 1#32
  let v1416 : BitVec 32 := Scalar.muli v3 c1_i32_1587
  let v1417 : BitVec 32 := Scalar.addi c0_i32_1588 v1416
  v1417.toNat
def k0_dev62 (v4 : BitVec 32) : Nat :=
  let c0_i32_1612 : BitVec 32 := 0#32
  let c1_i32_1611 : BitVec 32 := 1#32
  let v1434 : BitVec 32 := Scalar.muli v4 c1_i32_1611
  let v1435 : BitVec 32 := Scalar.addi c0_i32_1612 v1434
  v1435.toNat
def k0_off28 (v1444 : BitVec 32) : Fin 2 → Nat :=
  let c128_i32_1623 : BitVec 32 := 128#32
  let v1449 : BitVec 32 := Scalar.muli v1444 c128_i32_1623
  let v1450 : Index := Scalar.indexCast v1449
  let c0_1624 : Index := 0#32
  ![v1450.toNat, 0]

def k0_chk29 (v1444 : BitVec 32) : Prop :=
  (∀ a, (k0_off28 v1444) a + S128x256.size a ≤ S4096x256.size a)
theorem k0_off28_inb : ∀ (v1444 : BitVec 32) (k0_hw29 : k0_chk29 v1444), ∀ a, (k0_off28 v1444) a + S128x256.size a ≤ S4096x256.size a := fun v1444 k0_hw29 => k0_hw29

def k0_dev63 (v3 : BitVec 32) : Nat :=
  let c0_i32_1644 : BitVec 32 := 0#32
  let c1_i32_1643 : BitVec 32 := 1#32
  let v1466 : BitVec 32 := Scalar.muli v3 c1_i32_1643
  let v1467 : BitVec 32 := Scalar.addi c0_i32_1644 v1466
  v1467.toNat

def k0_chk2 (v3 : BitVec 32) : Prop :=
  ((k0_dev2 v3) < nD) ∧
  ((k0_dev3 v3) < nD) ∧
  ((k0_dev4 v3) < nD) ∧
  ((k0_dev7 v3) < nD) ∧
  ((k0_dev9 v3) < nD) ∧
  ((k0_dev11 v3) < nD) ∧
  ((k0_dev13 v3) < nD) ∧
  ((k0_dev15 v3) < nD) ∧
  ((k0_dev17 v3) < nD) ∧
  ((k0_dev19 v3) < nD) ∧
  ((k0_dev21 v3) < nD) ∧
  ((k0_dev23 v3) < nD) ∧
  ((k0_dev25 v3) < nD) ∧
  ((k0_dev27 v3) < nD) ∧
  ((k0_dev29 v3) < nD) ∧
  ((k0_dev31 v3) < nD) ∧
  ((k0_dev33 v3) < nD) ∧
  ((k0_dev35 v3) < nD) ∧
  ((k0_dev37 v3) < nD) ∧
  ((k0_dev39 v3) < nD) ∧
  ((k0_dev41 v3) < nD) ∧
  ((k0_dev43 v3) < nD) ∧
  ((k0_dev45 v3) < nD) ∧
  ((k0_dev47 v3) < nD) ∧
  ((k0_dev49 v3) < nD) ∧
  ((k0_dev51 v3) < nD) ∧
  ((k0_dev53 v3) < nD) ∧
  ((k0_dev55 v3) < nD) ∧
  ((k0_dev57 v3) < nD) ∧
  ((k0_dev59 v3) < nD) ∧
  ((k0_dev61 v3) < nD) ∧
  ((k0_dev63 v3) < nD)
theorem k0_dev2_lt : ∀ (v3 : BitVec 32) (k0_hw2 : k0_chk2 v3), (k0_dev2 v3) < nD := fun v3 k0_hw2 => k0_hw2.1
theorem k0_dev3_lt : ∀ (v3 : BitVec 32) (k0_hw2 : k0_chk2 v3), (k0_dev3 v3) < nD := fun v3 k0_hw2 => k0_hw2.2.1
theorem k0_dev4_lt : ∀ (v3 : BitVec 32) (k0_hw2 : k0_chk2 v3), (k0_dev4 v3) < nD := fun v3 k0_hw2 => k0_hw2.2.2.1
theorem k0_dev7_lt : ∀ (v3 : BitVec 32) (k0_hw2 : k0_chk2 v3), (k0_dev7 v3) < nD := fun v3 k0_hw2 => k0_hw2.2.2.2.1
theorem k0_dev9_lt : ∀ (v3 : BitVec 32) (k0_hw2 : k0_chk2 v3), (k0_dev9 v3) < nD := fun v3 k0_hw2 => k0_hw2.2.2.2.2.1
theorem k0_dev11_lt : ∀ (v3 : BitVec 32) (k0_hw2 : k0_chk2 v3), (k0_dev11 v3) < nD := fun v3 k0_hw2 => k0_hw2.2.2.2.2.2.1
theorem k0_dev13_lt : ∀ (v3 : BitVec 32) (k0_hw2 : k0_chk2 v3), (k0_dev13 v3) < nD := fun v3 k0_hw2 => k0_hw2.2.2.2.2.2.2.1
theorem k0_dev15_lt : ∀ (v3 : BitVec 32) (k0_hw2 : k0_chk2 v3), (k0_dev15 v3) < nD := fun v3 k0_hw2 => k0_hw2.2.2.2.2.2.2.2.1
theorem k0_dev17_lt : ∀ (v3 : BitVec 32) (k0_hw2 : k0_chk2 v3), (k0_dev17 v3) < nD := fun v3 k0_hw2 => k0_hw2.2.2.2.2.2.2.2.2.1
theorem k0_dev19_lt : ∀ (v3 : BitVec 32) (k0_hw2 : k0_chk2 v3), (k0_dev19 v3) < nD := fun v3 k0_hw2 => k0_hw2.2.2.2.2.2.2.2.2.2.1
theorem k0_dev21_lt : ∀ (v3 : BitVec 32) (k0_hw2 : k0_chk2 v3), (k0_dev21 v3) < nD := fun v3 k0_hw2 => k0_hw2.2.2.2.2.2.2.2.2.2.2.1
theorem k0_dev23_lt : ∀ (v3 : BitVec 32) (k0_hw2 : k0_chk2 v3), (k0_dev23 v3) < nD := fun v3 k0_hw2 => k0_hw2.2.2.2.2.2.2.2.2.2.2.2.1
theorem k0_dev25_lt : ∀ (v3 : BitVec 32) (k0_hw2 : k0_chk2 v3), (k0_dev25 v3) < nD := fun v3 k0_hw2 => k0_hw2.2.2.2.2.2.2.2.2.2.2.2.2.1
theorem k0_dev27_lt : ∀ (v3 : BitVec 32) (k0_hw2 : k0_chk2 v3), (k0_dev27 v3) < nD := fun v3 k0_hw2 => k0_hw2.2.2.2.2.2.2.2.2.2.2.2.2.2.1
theorem k0_dev29_lt : ∀ (v3 : BitVec 32) (k0_hw2 : k0_chk2 v3), (k0_dev29 v3) < nD := fun v3 k0_hw2 => k0_hw2.2.2.2.2.2.2.2.2.2.2.2.2.2.2.1
theorem k0_dev31_lt : ∀ (v3 : BitVec 32) (k0_hw2 : k0_chk2 v3), (k0_dev31 v3) < nD := fun v3 k0_hw2 => k0_hw2.2.2.2.2.2.2.2.2.2.2.2.2.2.2.2.1
theorem k0_dev33_lt : ∀ (v3 : BitVec 32) (k0_hw2 : k0_chk2 v3), (k0_dev33 v3) < nD := fun v3 k0_hw2 => k0_hw2.2.2.2.2.2.2.2.2.2.2.2.2.2.2.2.2.1
theorem k0_dev35_lt : ∀ (v3 : BitVec 32) (k0_hw2 : k0_chk2 v3), (k0_dev35 v3) < nD := fun v3 k0_hw2 => k0_hw2.2.2.2.2.2.2.2.2.2.2.2.2.2.2.2.2.2.1
theorem k0_dev37_lt : ∀ (v3 : BitVec 32) (k0_hw2 : k0_chk2 v3), (k0_dev37 v3) < nD := fun v3 k0_hw2 => k0_hw2.2.2.2.2.2.2.2.2.2.2.2.2.2.2.2.2.2.2.1
theorem k0_dev39_lt : ∀ (v3 : BitVec 32) (k0_hw2 : k0_chk2 v3), (k0_dev39 v3) < nD := fun v3 k0_hw2 => k0_hw2.2.2.2.2.2.2.2.2.2.2.2.2.2.2.2.2.2.2.2.1
theorem k0_dev41_lt : ∀ (v3 : BitVec 32) (k0_hw2 : k0_chk2 v3), (k0_dev41 v3) < nD := fun v3 k0_hw2 => k0_hw2.2.2.2.2.2.2.2.2.2.2.2.2.2.2.2.2.2.2.2.2.1
theorem k0_dev43_lt : ∀ (v3 : BitVec 32) (k0_hw2 : k0_chk2 v3), (k0_dev43 v3) < nD := fun v3 k0_hw2 => k0_hw2.2.2.2.2.2.2.2.2.2.2.2.2.2.2.2.2.2.2.2.2.2.1
theorem k0_dev45_lt : ∀ (v3 : BitVec 32) (k0_hw2 : k0_chk2 v3), (k0_dev45 v3) < nD := fun v3 k0_hw2 => k0_hw2.2.2.2.2.2.2.2.2.2.2.2.2.2.2.2.2.2.2.2.2.2.2.1
theorem k0_dev47_lt : ∀ (v3 : BitVec 32) (k0_hw2 : k0_chk2 v3), (k0_dev47 v3) < nD := fun v3 k0_hw2 => k0_hw2.2.2.2.2.2.2.2.2.2.2.2.2.2.2.2.2.2.2.2.2.2.2.2.1
theorem k0_dev49_lt : ∀ (v3 : BitVec 32) (k0_hw2 : k0_chk2 v3), (k0_dev49 v3) < nD := fun v3 k0_hw2 => k0_hw2.2.2.2.2.2.2.2.2.2.2.2.2.2.2.2.2.2.2.2.2.2.2.2.2.1
theorem k0_dev51_lt : ∀ (v3 : BitVec 32) (k0_hw2 : k0_chk2 v3), (k0_dev51 v3) < nD := fun v3 k0_hw2 => k0_hw2.2.2.2.2.2.2.2.2.2.2.2.2.2.2.2.2.2.2.2.2.2.2.2.2.2.1
theorem k0_dev53_lt : ∀ (v3 : BitVec 32) (k0_hw2 : k0_chk2 v3), (k0_dev53 v3) < nD := fun v3 k0_hw2 => k0_hw2.2.2.2.2.2.2.2.2.2.2.2.2.2.2.2.2.2.2.2.2.2.2.2.2.2.2.1
theorem k0_dev55_lt : ∀ (v3 : BitVec 32) (k0_hw2 : k0_chk2 v3), (k0_dev55 v3) < nD := fun v3 k0_hw2 => k0_hw2.2.2.2.2.2.2.2.2.2.2.2.2.2.2.2.2.2.2.2.2.2.2.2.2.2.2.2.1
theorem k0_dev57_lt : ∀ (v3 : BitVec 32) (k0_hw2 : k0_chk2 v3), (k0_dev57 v3) < nD := fun v3 k0_hw2 => k0_hw2.2.2.2.2.2.2.2.2.2.2.2.2.2.2.2.2.2.2.2.2.2.2.2.2.2.2.2.2.1
theorem k0_dev59_lt : ∀ (v3 : BitVec 32) (k0_hw2 : k0_chk2 v3), (k0_dev59 v3) < nD := fun v3 k0_hw2 => k0_hw2.2.2.2.2.2.2.2.2.2.2.2.2.2.2.2.2.2.2.2.2.2.2.2.2.2.2.2.2.2.1
theorem k0_dev61_lt : ∀ (v3 : BitVec 32) (k0_hw2 : k0_chk2 v3), (k0_dev61 v3) < nD := fun v3 k0_hw2 => k0_hw2.2.2.2.2.2.2.2.2.2.2.2.2.2.2.2.2.2.2.2.2.2.2.2.2.2.2.2.2.2.2.1
theorem k0_dev63_lt : ∀ (v3 : BitVec 32) (k0_hw2 : k0_chk2 v3), (k0_dev63 v3) < nD := fun v3 k0_hw2 => k0_hw2.2.2.2.2.2.2.2.2.2.2.2.2.2.2.2.2.2.2.2.2.2.2.2.2.2.2.2.2.2.2.2

def k0_off29 (v1484 : BitVec 32) : Fin 2 → Nat :=
  let c128_i32_1668 : BitVec 32 := 128#32
  let v1489 : BitVec 32 := Scalar.muli v1484 c128_i32_1668
  let v1490 : Index := Scalar.indexCast v1489
  let c0_1669 : Index := 0#32
  ![v1490.toNat, 0]

def k0_chk30 (v1484 : BitVec 32) : Prop :=
  (∀ a, (k0_off29 v1484) a + S128x256.size a ≤ S4096x256.size a)
theorem k0_off29_inb : ∀ (v1484 : BitVec 32) (k0_hw30 : k0_chk30 v1484), ∀ a, (k0_off29 v1484) a + S128x256.size a ≤ S4096x256.size a := fun v1484 k0_hw30 => k0_hw30

def k0_dev64 (v4 : BitVec 32) : Nat :=
  let c0_i32_1702 : BitVec 32 := 0#32
  let c1_i32_1701 : BitVec 32 := 1#32
  let v1514 : BitVec 32 := Scalar.muli v4 c1_i32_1701
  let v1515 : BitVec 32 := Scalar.addi c0_i32_1702 v1514
  v1515.toNat

def k0_chk1 (v4 : BitVec 32) : Prop :=
  ((k0_dev1 v4) < nD) ∧
  ((k0_dev5 v4) < nD) ∧
  ((k0_dev6 v4) < nD) ∧
  ((k0_dev8 v4) < nD) ∧
  ((k0_dev10 v4) < nD) ∧
  ((k0_dev12 v4) < nD) ∧
  ((k0_dev14 v4) < nD) ∧
  ((k0_dev16 v4) < nD) ∧
  ((k0_dev18 v4) < nD) ∧
  ((k0_dev20 v4) < nD) ∧
  ((k0_dev22 v4) < nD) ∧
  ((k0_dev24 v4) < nD) ∧
  ((k0_dev26 v4) < nD) ∧
  ((k0_dev28 v4) < nD) ∧
  ((k0_dev30 v4) < nD) ∧
  ((k0_dev32 v4) < nD) ∧
  ((k0_dev34 v4) < nD) ∧
  ((k0_dev36 v4) < nD) ∧
  ((k0_dev38 v4) < nD) ∧
  ((k0_dev40 v4) < nD) ∧
  ((k0_dev42 v4) < nD) ∧
  ((k0_dev44 v4) < nD) ∧
  ((k0_dev46 v4) < nD) ∧
  ((k0_dev48 v4) < nD) ∧
  ((k0_dev50 v4) < nD) ∧
  ((k0_dev52 v4) < nD) ∧
  ((k0_dev54 v4) < nD) ∧
  ((k0_dev56 v4) < nD) ∧
  ((k0_dev58 v4) < nD) ∧
  ((k0_dev60 v4) < nD) ∧
  ((k0_dev62 v4) < nD) ∧
  ((k0_dev64 v4) < nD)
theorem k0_dev1_lt : ∀ (v4 : BitVec 32) (k0_hw1 : k0_chk1 v4), (k0_dev1 v4) < nD := fun v4 k0_hw1 => k0_hw1.1
theorem k0_dev5_lt : ∀ (v4 : BitVec 32) (k0_hw1 : k0_chk1 v4), (k0_dev5 v4) < nD := fun v4 k0_hw1 => k0_hw1.2.1
theorem k0_dev6_lt : ∀ (v4 : BitVec 32) (k0_hw1 : k0_chk1 v4), (k0_dev6 v4) < nD := fun v4 k0_hw1 => k0_hw1.2.2.1
theorem k0_dev8_lt : ∀ (v4 : BitVec 32) (k0_hw1 : k0_chk1 v4), (k0_dev8 v4) < nD := fun v4 k0_hw1 => k0_hw1.2.2.2.1
theorem k0_dev10_lt : ∀ (v4 : BitVec 32) (k0_hw1 : k0_chk1 v4), (k0_dev10 v4) < nD := fun v4 k0_hw1 => k0_hw1.2.2.2.2.1
theorem k0_dev12_lt : ∀ (v4 : BitVec 32) (k0_hw1 : k0_chk1 v4), (k0_dev12 v4) < nD := fun v4 k0_hw1 => k0_hw1.2.2.2.2.2.1
theorem k0_dev14_lt : ∀ (v4 : BitVec 32) (k0_hw1 : k0_chk1 v4), (k0_dev14 v4) < nD := fun v4 k0_hw1 => k0_hw1.2.2.2.2.2.2.1
theorem k0_dev16_lt : ∀ (v4 : BitVec 32) (k0_hw1 : k0_chk1 v4), (k0_dev16 v4) < nD := fun v4 k0_hw1 => k0_hw1.2.2.2.2.2.2.2.1
theorem k0_dev18_lt : ∀ (v4 : BitVec 32) (k0_hw1 : k0_chk1 v4), (k0_dev18 v4) < nD := fun v4 k0_hw1 => k0_hw1.2.2.2.2.2.2.2.2.1
theorem k0_dev20_lt : ∀ (v4 : BitVec 32) (k0_hw1 : k0_chk1 v4), (k0_dev20 v4) < nD := fun v4 k0_hw1 => k0_hw1.2.2.2.2.2.2.2.2.2.1
theorem k0_dev22_lt : ∀ (v4 : BitVec 32) (k0_hw1 : k0_chk1 v4), (k0_dev22 v4) < nD := fun v4 k0_hw1 => k0_hw1.2.2.2.2.2.2.2.2.2.2.1
theorem k0_dev24_lt : ∀ (v4 : BitVec 32) (k0_hw1 : k0_chk1 v4), (k0_dev24 v4) < nD := fun v4 k0_hw1 => k0_hw1.2.2.2.2.2.2.2.2.2.2.2.1
theorem k0_dev26_lt : ∀ (v4 : BitVec 32) (k0_hw1 : k0_chk1 v4), (k0_dev26 v4) < nD := fun v4 k0_hw1 => k0_hw1.2.2.2.2.2.2.2.2.2.2.2.2.1
theorem k0_dev28_lt : ∀ (v4 : BitVec 32) (k0_hw1 : k0_chk1 v4), (k0_dev28 v4) < nD := fun v4 k0_hw1 => k0_hw1.2.2.2.2.2.2.2.2.2.2.2.2.2.1
theorem k0_dev30_lt : ∀ (v4 : BitVec 32) (k0_hw1 : k0_chk1 v4), (k0_dev30 v4) < nD := fun v4 k0_hw1 => k0_hw1.2.2.2.2.2.2.2.2.2.2.2.2.2.2.1
theorem k0_dev32_lt : ∀ (v4 : BitVec 32) (k0_hw1 : k0_chk1 v4), (k0_dev32 v4) < nD := fun v4 k0_hw1 => k0_hw1.2.2.2.2.2.2.2.2.2.2.2.2.2.2.2.1
theorem k0_dev34_lt : ∀ (v4 : BitVec 32) (k0_hw1 : k0_chk1 v4), (k0_dev34 v4) < nD := fun v4 k0_hw1 => k0_hw1.2.2.2.2.2.2.2.2.2.2.2.2.2.2.2.2.1
theorem k0_dev36_lt : ∀ (v4 : BitVec 32) (k0_hw1 : k0_chk1 v4), (k0_dev36 v4) < nD := fun v4 k0_hw1 => k0_hw1.2.2.2.2.2.2.2.2.2.2.2.2.2.2.2.2.2.1
theorem k0_dev38_lt : ∀ (v4 : BitVec 32) (k0_hw1 : k0_chk1 v4), (k0_dev38 v4) < nD := fun v4 k0_hw1 => k0_hw1.2.2.2.2.2.2.2.2.2.2.2.2.2.2.2.2.2.2.1
theorem k0_dev40_lt : ∀ (v4 : BitVec 32) (k0_hw1 : k0_chk1 v4), (k0_dev40 v4) < nD := fun v4 k0_hw1 => k0_hw1.2.2.2.2.2.2.2.2.2.2.2.2.2.2.2.2.2.2.2.1
theorem k0_dev42_lt : ∀ (v4 : BitVec 32) (k0_hw1 : k0_chk1 v4), (k0_dev42 v4) < nD := fun v4 k0_hw1 => k0_hw1.2.2.2.2.2.2.2.2.2.2.2.2.2.2.2.2.2.2.2.2.1
theorem k0_dev44_lt : ∀ (v4 : BitVec 32) (k0_hw1 : k0_chk1 v4), (k0_dev44 v4) < nD := fun v4 k0_hw1 => k0_hw1.2.2.2.2.2.2.2.2.2.2.2.2.2.2.2.2.2.2.2.2.2.1
theorem k0_dev46_lt : ∀ (v4 : BitVec 32) (k0_hw1 : k0_chk1 v4), (k0_dev46 v4) < nD := fun v4 k0_hw1 => k0_hw1.2.2.2.2.2.2.2.2.2.2.2.2.2.2.2.2.2.2.2.2.2.2.1
theorem k0_dev48_lt : ∀ (v4 : BitVec 32) (k0_hw1 : k0_chk1 v4), (k0_dev48 v4) < nD := fun v4 k0_hw1 => k0_hw1.2.2.2.2.2.2.2.2.2.2.2.2.2.2.2.2.2.2.2.2.2.2.2.1
theorem k0_dev50_lt : ∀ (v4 : BitVec 32) (k0_hw1 : k0_chk1 v4), (k0_dev50 v4) < nD := fun v4 k0_hw1 => k0_hw1.2.2.2.2.2.2.2.2.2.2.2.2.2.2.2.2.2.2.2.2.2.2.2.2.1
theorem k0_dev52_lt : ∀ (v4 : BitVec 32) (k0_hw1 : k0_chk1 v4), (k0_dev52 v4) < nD := fun v4 k0_hw1 => k0_hw1.2.2.2.2.2.2.2.2.2.2.2.2.2.2.2.2.2.2.2.2.2.2.2.2.2.1
theorem k0_dev54_lt : ∀ (v4 : BitVec 32) (k0_hw1 : k0_chk1 v4), (k0_dev54 v4) < nD := fun v4 k0_hw1 => k0_hw1.2.2.2.2.2.2.2.2.2.2.2.2.2.2.2.2.2.2.2.2.2.2.2.2.2.2.1
theorem k0_dev56_lt : ∀ (v4 : BitVec 32) (k0_hw1 : k0_chk1 v4), (k0_dev56 v4) < nD := fun v4 k0_hw1 => k0_hw1.2.2.2.2.2.2.2.2.2.2.2.2.2.2.2.2.2.2.2.2.2.2.2.2.2.2.2.1
theorem k0_dev58_lt : ∀ (v4 : BitVec 32) (k0_hw1 : k0_chk1 v4), (k0_dev58 v4) < nD := fun v4 k0_hw1 => k0_hw1.2.2.2.2.2.2.2.2.2.2.2.2.2.2.2.2.2.2.2.2.2.2.2.2.2.2.2.2.1
theorem k0_dev60_lt : ∀ (v4 : BitVec 32) (k0_hw1 : k0_chk1 v4), (k0_dev60 v4) < nD := fun v4 k0_hw1 => k0_hw1.2.2.2.2.2.2.2.2.2.2.2.2.2.2.2.2.2.2.2.2.2.2.2.2.2.2.2.2.2.1
theorem k0_dev62_lt : ∀ (v4 : BitVec 32) (k0_hw1 : k0_chk1 v4), (k0_dev62 v4) < nD := fun v4 k0_hw1 => k0_hw1.2.2.2.2.2.2.2.2.2.2.2.2.2.2.2.2.2.2.2.2.2.2.2.2.2.2.2.2.2.2.1
theorem k0_dev64_lt : ∀ (v4 : BitVec 32) (k0_hw1 : k0_chk1 v4), (k0_dev64 v4) < nD := fun v4 k0_hw1 => k0_hw1.2.2.2.2.2.2.2.2.2.2.2.2.2.2.2.2.2.2.2.2.2.2.2.2.2.2.2.2.2.2.2

def k0_off30 (v1524 : BitVec 32) : Fin 2 → Nat :=
  let c128_i32_1713 : BitVec 32 := 128#32
  let v1529 : BitVec 32 := Scalar.muli v1524 c128_i32_1713
  let v1530 : Index := Scalar.indexCast v1529
  let c0_1714 : Index := 0#32
  ![v1530.toNat, 0]

def k0_chk31 (v1524 : BitVec 32) : Prop :=
  (∀ a, (k0_off30 v1524) a + S128x256.size a ≤ S4096x256.size a)
theorem k0_off30_inb : ∀ (v1524 : BitVec 32) (k0_hw31 : k0_chk31 v1524), ∀ a, (k0_off30 v1524) a + S128x256.size a ≤ S4096x256.size a := fun v1524 k0_hw31 => k0_hw31

def k0_off31 (v1546 : BitVec 32) : Fin 2 → Nat :=
  let c128_i32_1733 : BitVec 32 := 128#32
  let v1551 : BitVec 32 := Scalar.muli v1546 c128_i32_1733
  let v1552 : Index := Scalar.indexCast v1551
  let c0_1734 : Index := 0#32
  ![v1552.toNat, 0]

def k0_chk32 (v1546 : BitVec 32) : Prop :=
  (∀ a, (k0_off31 v1546) a + S128x256.size a ≤ S4096x256.size a)
theorem k0_off31_inb : ∀ (v1546 : BitVec 32) (k0_hw32 : k0_chk32 v1546), ∀ a, (k0_off31 v1546) a + S128x256.size a ≤ S4096x256.size a := fun v1546 k0_hw32 => k0_hw32

def k0_off32 (v1568 : BitVec 32) : Fin 2 → Nat :=
  let c128_i32_1755 : BitVec 32 := 128#32
  let v1573 : BitVec 32 := Scalar.muli v1568 c128_i32_1755
  let v1574 : Index := Scalar.indexCast v1573
  let c0_1756 : Index := 0#32
  ![v1574.toNat, 0]

def k0_chk33 (v1568 : BitVec 32) : Prop :=
  (∀ a, (k0_off32 v1568) a + S128x256.size a ≤ S4096x256.size a)
theorem k0_off32_inb : ∀ (v1568 : BitVec 32) (k0_hw33 : k0_chk33 v1568), ∀ a, (k0_off32 v1568) a + S128x256.size a ≤ S4096x256.size a := fun v1568 k0_hw33 => k0_hw33

def k0_dev65 (d0 : Dev nD) : Nat :=
  let c0_i32_2449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2442 : BitVec 32 := 1#32
  let v1958 : BitVec 32 := Scalar.addi v2 c1_i32_2442
  let c32_i32_2443 : BitVec 32 := 32#32
  let v1959 : BitVec 32 := Scalar.remsi v1958 c32_i32_2443
  let c1_i32_2448 : BitVec 32 := 1#32
  let v1960 : BitVec 32 := Scalar.muli v1959 c1_i32_2448
  let v1961 : BitVec 32 := Scalar.addi c0_i32_2449 v1960
  v1961.toNat
def k0_dev66 (d0 : Dev nD) : Nat :=
  let c0_i32_2459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2452 : BitVec 32 := 2#32
  let v1970 : BitVec 32 := Scalar.addi v2 c2_i32_2452
  let c32_i32_2453 : BitVec 32 := 32#32
  let v1971 : BitVec 32 := Scalar.remsi v1970 c32_i32_2453
  let c1_i32_2458 : BitVec 32 := 1#32
  let v1972 : BitVec 32 := Scalar.muli v1971 c1_i32_2458
  let v1973 : BitVec 32 := Scalar.addi c0_i32_2459 v1972
  v1973.toNat
def k0_dev67 (d0 : Dev nD) : Nat :=
  let c0_i32_2469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2462 : BitVec 32 := 3#32
  let v1982 : BitVec 32 := Scalar.addi v2 c3_i32_2462
  let c32_i32_2463 : BitVec 32 := 32#32
  let v1983 : BitVec 32 := Scalar.remsi v1982 c32_i32_2463
  let c1_i32_2468 : BitVec 32 := 1#32
  let v1984 : BitVec 32 := Scalar.muli v1983 c1_i32_2468
  let v1985 : BitVec 32 := Scalar.addi c0_i32_2469 v1984
  v1985.toNat
def k0_dev68 (d0 : Dev nD) : Nat :=
  let c0_i32_2479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2472 : BitVec 32 := 4#32
  let v1994 : BitVec 32 := Scalar.addi v2 c4_i32_2472
  let c32_i32_2473 : BitVec 32 := 32#32
  let v1995 : BitVec 32 := Scalar.remsi v1994 c32_i32_2473
  let c1_i32_2478 : BitVec 32 := 1#32
  let v1996 : BitVec 32 := Scalar.muli v1995 c1_i32_2478
  let v1997 : BitVec 32 := Scalar.addi c0_i32_2479 v1996
  v1997.toNat
def k0_dev69 (d0 : Dev nD) : Nat :=
  let c0_i32_2489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2482 : BitVec 32 := 5#32
  let v2006 : BitVec 32 := Scalar.addi v2 c5_i32_2482
  let c32_i32_2483 : BitVec 32 := 32#32
  let v2007 : BitVec 32 := Scalar.remsi v2006 c32_i32_2483
  let c1_i32_2488 : BitVec 32 := 1#32
  let v2008 : BitVec 32 := Scalar.muli v2007 c1_i32_2488
  let v2009 : BitVec 32 := Scalar.addi c0_i32_2489 v2008
  v2009.toNat
def k0_dev70 (d0 : Dev nD) : Nat :=
  let c0_i32_2499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2492 : BitVec 32 := 6#32
  let v2018 : BitVec 32 := Scalar.addi v2 c6_i32_2492
  let c32_i32_2493 : BitVec 32 := 32#32
  let v2019 : BitVec 32 := Scalar.remsi v2018 c32_i32_2493
  let c1_i32_2498 : BitVec 32 := 1#32
  let v2020 : BitVec 32 := Scalar.muli v2019 c1_i32_2498
  let v2021 : BitVec 32 := Scalar.addi c0_i32_2499 v2020
  v2021.toNat
def k0_dev71 (d0 : Dev nD) : Nat :=
  let c0_i32_2509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2502 : BitVec 32 := 7#32
  let v2030 : BitVec 32 := Scalar.addi v2 c7_i32_2502
  let c32_i32_2503 : BitVec 32 := 32#32
  let v2031 : BitVec 32 := Scalar.remsi v2030 c32_i32_2503
  let c1_i32_2508 : BitVec 32 := 1#32
  let v2032 : BitVec 32 := Scalar.muli v2031 c1_i32_2508
  let v2033 : BitVec 32 := Scalar.addi c0_i32_2509 v2032
  v2033.toNat
def k0_dev72 (d0 : Dev nD) : Nat :=
  let c0_i32_2519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2512 : BitVec 32 := 8#32
  let v2042 : BitVec 32 := Scalar.addi v2 c8_i32_2512
  let c32_i32_2513 : BitVec 32 := 32#32
  let v2043 : BitVec 32 := Scalar.remsi v2042 c32_i32_2513
  let c1_i32_2518 : BitVec 32 := 1#32
  let v2044 : BitVec 32 := Scalar.muli v2043 c1_i32_2518
  let v2045 : BitVec 32 := Scalar.addi c0_i32_2519 v2044
  v2045.toNat
def k0_dev73 (d0 : Dev nD) : Nat :=
  let c0_i32_2529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2522 : BitVec 32 := 9#32
  let v2054 : BitVec 32 := Scalar.addi v2 c9_i32_2522
  let c32_i32_2523 : BitVec 32 := 32#32
  let v2055 : BitVec 32 := Scalar.remsi v2054 c32_i32_2523
  let c1_i32_2528 : BitVec 32 := 1#32
  let v2056 : BitVec 32 := Scalar.muli v2055 c1_i32_2528
  let v2057 : BitVec 32 := Scalar.addi c0_i32_2529 v2056
  v2057.toNat
def k0_dev74 (d0 : Dev nD) : Nat :=
  let c0_i32_2539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2532 : BitVec 32 := 10#32
  let v2066 : BitVec 32 := Scalar.addi v2 c10_i32_2532
  let c32_i32_2533 : BitVec 32 := 32#32
  let v2067 : BitVec 32 := Scalar.remsi v2066 c32_i32_2533
  let c1_i32_2538 : BitVec 32 := 1#32
  let v2068 : BitVec 32 := Scalar.muli v2067 c1_i32_2538
  let v2069 : BitVec 32 := Scalar.addi c0_i32_2539 v2068
  v2069.toNat
def k0_dev75 (d0 : Dev nD) : Nat :=
  let c0_i32_2549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2542 : BitVec 32 := 11#32
  let v2078 : BitVec 32 := Scalar.addi v2 c11_i32_2542
  let c32_i32_2543 : BitVec 32 := 32#32
  let v2079 : BitVec 32 := Scalar.remsi v2078 c32_i32_2543
  let c1_i32_2548 : BitVec 32 := 1#32
  let v2080 : BitVec 32 := Scalar.muli v2079 c1_i32_2548
  let v2081 : BitVec 32 := Scalar.addi c0_i32_2549 v2080
  v2081.toNat
def k0_dev76 (d0 : Dev nD) : Nat :=
  let c0_i32_2559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2552 : BitVec 32 := 12#32
  let v2090 : BitVec 32 := Scalar.addi v2 c12_i32_2552
  let c32_i32_2553 : BitVec 32 := 32#32
  let v2091 : BitVec 32 := Scalar.remsi v2090 c32_i32_2553
  let c1_i32_2558 : BitVec 32 := 1#32
  let v2092 : BitVec 32 := Scalar.muli v2091 c1_i32_2558
  let v2093 : BitVec 32 := Scalar.addi c0_i32_2559 v2092
  v2093.toNat
def k0_dev77 (d0 : Dev nD) : Nat :=
  let c0_i32_2569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2562 : BitVec 32 := 13#32
  let v2102 : BitVec 32 := Scalar.addi v2 c13_i32_2562
  let c32_i32_2563 : BitVec 32 := 32#32
  let v2103 : BitVec 32 := Scalar.remsi v2102 c32_i32_2563
  let c1_i32_2568 : BitVec 32 := 1#32
  let v2104 : BitVec 32 := Scalar.muli v2103 c1_i32_2568
  let v2105 : BitVec 32 := Scalar.addi c0_i32_2569 v2104
  v2105.toNat
def k0_dev78 (d0 : Dev nD) : Nat :=
  let c0_i32_2579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2572 : BitVec 32 := 14#32
  let v2114 : BitVec 32 := Scalar.addi v2 c14_i32_2572
  let c32_i32_2573 : BitVec 32 := 32#32
  let v2115 : BitVec 32 := Scalar.remsi v2114 c32_i32_2573
  let c1_i32_2578 : BitVec 32 := 1#32
  let v2116 : BitVec 32 := Scalar.muli v2115 c1_i32_2578
  let v2117 : BitVec 32 := Scalar.addi c0_i32_2579 v2116
  v2117.toNat
def k0_dev79 (d0 : Dev nD) : Nat :=
  let c0_i32_2589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2582 : BitVec 32 := 15#32
  let v2126 : BitVec 32 := Scalar.addi v2 c15_i32_2582
  let c32_i32_2583 : BitVec 32 := 32#32
  let v2127 : BitVec 32 := Scalar.remsi v2126 c32_i32_2583
  let c1_i32_2588 : BitVec 32 := 1#32
  let v2128 : BitVec 32 := Scalar.muli v2127 c1_i32_2588
  let v2129 : BitVec 32 := Scalar.addi c0_i32_2589 v2128
  v2129.toNat
def k0_dev80 (d0 : Dev nD) : Nat :=
  let c0_i32_2599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2592 : BitVec 32 := 16#32
  let v2138 : BitVec 32 := Scalar.addi v2 c16_i32_2592
  let c32_i32_2593 : BitVec 32 := 32#32
  let v2139 : BitVec 32 := Scalar.remsi v2138 c32_i32_2593
  let c1_i32_2598 : BitVec 32 := 1#32
  let v2140 : BitVec 32 := Scalar.muli v2139 c1_i32_2598
  let v2141 : BitVec 32 := Scalar.addi c0_i32_2599 v2140
  v2141.toNat
def k0_dev81 (d0 : Dev nD) : Nat :=
  let c0_i32_2609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2602 : BitVec 32 := 17#32
  let v2150 : BitVec 32 := Scalar.addi v2 c17_i32_2602
  let c32_i32_2603 : BitVec 32 := 32#32
  let v2151 : BitVec 32 := Scalar.remsi v2150 c32_i32_2603
  let c1_i32_2608 : BitVec 32 := 1#32
  let v2152 : BitVec 32 := Scalar.muli v2151 c1_i32_2608
  let v2153 : BitVec 32 := Scalar.addi c0_i32_2609 v2152
  v2153.toNat
def k0_dev82 (d0 : Dev nD) : Nat :=
  let c0_i32_2619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2612 : BitVec 32 := 18#32
  let v2162 : BitVec 32 := Scalar.addi v2 c18_i32_2612
  let c32_i32_2613 : BitVec 32 := 32#32
  let v2163 : BitVec 32 := Scalar.remsi v2162 c32_i32_2613
  let c1_i32_2618 : BitVec 32 := 1#32
  let v2164 : BitVec 32 := Scalar.muli v2163 c1_i32_2618
  let v2165 : BitVec 32 := Scalar.addi c0_i32_2619 v2164
  v2165.toNat
def k0_dev83 (d0 : Dev nD) : Nat :=
  let c0_i32_2629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2622 : BitVec 32 := 19#32
  let v2174 : BitVec 32 := Scalar.addi v2 c19_i32_2622
  let c32_i32_2623 : BitVec 32 := 32#32
  let v2175 : BitVec 32 := Scalar.remsi v2174 c32_i32_2623
  let c1_i32_2628 : BitVec 32 := 1#32
  let v2176 : BitVec 32 := Scalar.muli v2175 c1_i32_2628
  let v2177 : BitVec 32 := Scalar.addi c0_i32_2629 v2176
  v2177.toNat
def k0_dev84 (d0 : Dev nD) : Nat :=
  let c0_i32_2639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2632 : BitVec 32 := 20#32
  let v2186 : BitVec 32 := Scalar.addi v2 c20_i32_2632
  let c32_i32_2633 : BitVec 32 := 32#32
  let v2187 : BitVec 32 := Scalar.remsi v2186 c32_i32_2633
  let c1_i32_2638 : BitVec 32 := 1#32
  let v2188 : BitVec 32 := Scalar.muli v2187 c1_i32_2638
  let v2189 : BitVec 32 := Scalar.addi c0_i32_2639 v2188
  v2189.toNat
def k0_dev85 (d0 : Dev nD) : Nat :=
  let c0_i32_2649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2642 : BitVec 32 := 21#32
  let v2198 : BitVec 32 := Scalar.addi v2 c21_i32_2642
  let c32_i32_2643 : BitVec 32 := 32#32
  let v2199 : BitVec 32 := Scalar.remsi v2198 c32_i32_2643
  let c1_i32_2648 : BitVec 32 := 1#32
  let v2200 : BitVec 32 := Scalar.muli v2199 c1_i32_2648
  let v2201 : BitVec 32 := Scalar.addi c0_i32_2649 v2200
  v2201.toNat
def k0_dev86 (d0 : Dev nD) : Nat :=
  let c0_i32_2659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2652 : BitVec 32 := 22#32
  let v2210 : BitVec 32 := Scalar.addi v2 c22_i32_2652
  let c32_i32_2653 : BitVec 32 := 32#32
  let v2211 : BitVec 32 := Scalar.remsi v2210 c32_i32_2653
  let c1_i32_2658 : BitVec 32 := 1#32
  let v2212 : BitVec 32 := Scalar.muli v2211 c1_i32_2658
  let v2213 : BitVec 32 := Scalar.addi c0_i32_2659 v2212
  v2213.toNat
def k0_dev87 (d0 : Dev nD) : Nat :=
  let c0_i32_2669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2662 : BitVec 32 := 23#32
  let v2222 : BitVec 32 := Scalar.addi v2 c23_i32_2662
  let c32_i32_2663 : BitVec 32 := 32#32
  let v2223 : BitVec 32 := Scalar.remsi v2222 c32_i32_2663
  let c1_i32_2668 : BitVec 32 := 1#32
  let v2224 : BitVec 32 := Scalar.muli v2223 c1_i32_2668
  let v2225 : BitVec 32 := Scalar.addi c0_i32_2669 v2224
  v2225.toNat
def k0_dev88 (d0 : Dev nD) : Nat :=
  let c0_i32_2679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2672 : BitVec 32 := 24#32
  let v2234 : BitVec 32 := Scalar.addi v2 c24_i32_2672
  let c32_i32_2673 : BitVec 32 := 32#32
  let v2235 : BitVec 32 := Scalar.remsi v2234 c32_i32_2673
  let c1_i32_2678 : BitVec 32 := 1#32
  let v2236 : BitVec 32 := Scalar.muli v2235 c1_i32_2678
  let v2237 : BitVec 32 := Scalar.addi c0_i32_2679 v2236
  v2237.toNat
def k0_dev89 (d0 : Dev nD) : Nat :=
  let c0_i32_2689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2682 : BitVec 32 := 25#32
  let v2246 : BitVec 32 := Scalar.addi v2 c25_i32_2682
  let c32_i32_2683 : BitVec 32 := 32#32
  let v2247 : BitVec 32 := Scalar.remsi v2246 c32_i32_2683
  let c1_i32_2688 : BitVec 32 := 1#32
  let v2248 : BitVec 32 := Scalar.muli v2247 c1_i32_2688
  let v2249 : BitVec 32 := Scalar.addi c0_i32_2689 v2248
  v2249.toNat
def k0_dev90 (d0 : Dev nD) : Nat :=
  let c0_i32_2699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2692 : BitVec 32 := 26#32
  let v2258 : BitVec 32 := Scalar.addi v2 c26_i32_2692
  let c32_i32_2693 : BitVec 32 := 32#32
  let v2259 : BitVec 32 := Scalar.remsi v2258 c32_i32_2693
  let c1_i32_2698 : BitVec 32 := 1#32
  let v2260 : BitVec 32 := Scalar.muli v2259 c1_i32_2698
  let v2261 : BitVec 32 := Scalar.addi c0_i32_2699 v2260
  v2261.toNat
def k0_dev91 (d0 : Dev nD) : Nat :=
  let c0_i32_2709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2702 : BitVec 32 := 27#32
  let v2270 : BitVec 32 := Scalar.addi v2 c27_i32_2702
  let c32_i32_2703 : BitVec 32 := 32#32
  let v2271 : BitVec 32 := Scalar.remsi v2270 c32_i32_2703
  let c1_i32_2708 : BitVec 32 := 1#32
  let v2272 : BitVec 32 := Scalar.muli v2271 c1_i32_2708
  let v2273 : BitVec 32 := Scalar.addi c0_i32_2709 v2272
  v2273.toNat
def k0_dev92 (d0 : Dev nD) : Nat :=
  let c0_i32_2719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2712 : BitVec 32 := 28#32
  let v2282 : BitVec 32 := Scalar.addi v2 c28_i32_2712
  let c32_i32_2713 : BitVec 32 := 32#32
  let v2283 : BitVec 32 := Scalar.remsi v2282 c32_i32_2713
  let c1_i32_2718 : BitVec 32 := 1#32
  let v2284 : BitVec 32 := Scalar.muli v2283 c1_i32_2718
  let v2285 : BitVec 32 := Scalar.addi c0_i32_2719 v2284
  v2285.toNat
def k0_dev93 (d0 : Dev nD) : Nat :=
  let c0_i32_2729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2722 : BitVec 32 := 29#32
  let v2294 : BitVec 32 := Scalar.addi v2 c29_i32_2722
  let c32_i32_2723 : BitVec 32 := 32#32
  let v2295 : BitVec 32 := Scalar.remsi v2294 c32_i32_2723
  let c1_i32_2728 : BitVec 32 := 1#32
  let v2296 : BitVec 32 := Scalar.muli v2295 c1_i32_2728
  let v2297 : BitVec 32 := Scalar.addi c0_i32_2729 v2296
  v2297.toNat
def k0_dev94 (d0 : Dev nD) : Nat :=
  let c0_i32_2739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2732 : BitVec 32 := 30#32
  let v2306 : BitVec 32 := Scalar.addi v2 c30_i32_2732
  let c32_i32_2733 : BitVec 32 := 32#32
  let v2307 : BitVec 32 := Scalar.remsi v2306 c32_i32_2733
  let c1_i32_2738 : BitVec 32 := 1#32
  let v2308 : BitVec 32 := Scalar.muli v2307 c1_i32_2738
  let v2309 : BitVec 32 := Scalar.addi c0_i32_2739 v2308
  v2309.toNat
def k0_dev95 (d0 : Dev nD) : Nat :=
  let c0_i32_2749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2742 : BitVec 32 := 31#32
  let v2318 : BitVec 32 := Scalar.addi v2 c31_i32_2742
  let c32_i32_2743 : BitVec 32 := 32#32
  let v2319 : BitVec 32 := Scalar.remsi v2318 c32_i32_2743
  let c1_i32_2748 : BitVec 32 := 1#32
  let v2320 : BitVec 32 := Scalar.muli v2319 c1_i32_2748
  let v2321 : BitVec 32 := Scalar.addi c0_i32_2749 v2320
  v2321.toNat
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S33 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Events.lean ====
/- The kernel's body as a list of events.

   Almost all of the body is a long straight line of four kinds of operation: start a transfer round the ring,
   wait for one to land, multiply a slot that has landed, wait for a transfer to have left.  `Ev` names one such
   operation by its coordinates, `run` gives a list of them its meaning, and `body_eq` says that the printed body
   is a short beginning, the run of `ringEvs`, a store of the device's maximum, the run of `rowEvs` (the exchange
   of the maxima), and a short end. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- The two ways round the ring: towards the right neighbour, towards the left one. -/
inductive Dir
  | r
  | l
  deriving DecidableEq

/-- One operation of the body's straight line.  Hop `h` is counted from zero; `j` is the half of the slot. -/
inductive Ev
  /-- Start the transfer of hop `h`, half `j`. -/
  | start (d : Dir) (h : Fin 16) (j : Fin 2)
  /-- Wait until the transfer of hop `h`, half `j` has landed here. -/
  | recv (d : Dir) (h : Fin 16) (j : Fin 2)
  /-- Multiply slot `s` and store the product at the rows that entry `k` of the table of origins names. -/
  | gemm (s : Fin 32) (k : Fin 33)
  /-- Wait until the transfer of hop `h`, half `j` has left. -/
  | sent (d : Dir) (h : Fin 16) (j : Fin 2)
  /-- Send this device's maximum to the device `e + 1` places after it. -/
  | put (e : Fin 31)
  /-- Wait until the maximum with the same number has landed here. -/
  | got (e : Fin 31)
  /-- Wait until the send of `put e` has left. -/
  | gone (e : Fin 31)
  deriving DecidableEq

/-- The slot that hop `h` reads on the sender. -/
def srcSlot : Dir → Fin 16 → Fin 32
  | .r, h => ⟨h.val, by omega⟩
  | .l, h => ⟨(32 - h.val) % 32, Nat.mod_lt _ (by omega)⟩

/-- The slot that hop `h` fills on the receiver. -/
def dstSlot : Dir → Fin 16 → Fin 32
  | .r, h => ⟨h.val + 1, by omega⟩
  | .l, h => ⟨31 - h.val, by omega⟩

/-! ## The buffers, and their parts -/

/-- The staged block of `x`. -/
abbrev xM : Memref sig .tc .vmem S128x4096 .bf16 := Memref.whole cc0_stg0_0
/-- The staged block of `w`. -/
abbrev wM : Memref sig .tc .vmem S4096x256 .bf16 := Memref.whole cc0_stg1_0
/-- The staged table of origins. -/
abbrev tM : Memref sig .tc .smem S33 .i32 := Memref.whole cc0_stg2_0
/-- The staged result. -/
abbrev oM : Memref sig .tc .vmem S4096x256 .f32 := Memref.whole cc0_stg3_0
/-- The 32 slots of gathered blocks. -/
abbrev gM : Memref sig .tc .vmem S32x128x4096 .bf16 := Memref.whole cc0_scratch0
/-- The kernel's copy of `w`. -/
abbrev vM : Memref sig .tc .vmem S4096x256 .bf16 := Memref.whole cc0_scratch1
/-- The 32 rows of maxima. -/
abbrev mM : Memref sig .tc .vmem S32x128 .f32 := Memref.whole cc0_scratch2

theorem inb_half (s : Fin 32) (j : Fin 2) :
    ∀ a, (![s.val, 0, 2048 * j.val] : Fin 3 → Nat) a + S1x128x2048.size a ≤ S32x128x4096.size a := by
  intro a; have := s.isLt; have := j.isLt; fin_cases a <;> simp <;> omega

theorem inb_slot (s : Fin 32) :
    ∀ a, (![s.val, 0, 0] : Fin 3 → Nat) a + S1x128x4096.size a ≤ S32x128x4096.size a := by
  intro a; have := s.isLt; fin_cases a <;> simp; omega

theorem inb_row (i : Fin 32) : ∀ a, (![i.val, 0] : Fin 2 → Nat) a + S1x128.size a ≤ S32x128.size a := by
  intro a; have := i.isLt; fin_cases a <;> simp; omega

theorem inb_sem2 (h : Fin 16) (j : Fin 2) : ∀ a, (![h.val, j.val] : Fin 2 → Nat) a + S1x1.size a ≤ S16x2.size a := by
  intro a; have := h.isLt; have := j.isLt; fin_cases a <;> simp <;> omega

theorem inb_sem1 (e : Fin 31) : ∀ a, (![e.val] : Fin 1 → Nat) a + S1.size a ≤ S31.size a := by
  intro a; have := e.isLt; fin_cases a; simp; omega

theorem inb_tab (k : Fin 33) : ∀ a, (![k.val] : Fin 1 → Nat) a + S1.size a ≤ S33.size a := by
  intro a; have := k.isLt; fin_cases a; simp; omega

/-- The rectangle of half `j` of slot `s`. -/
abbrev halfR (s : Fin 32) (j : Fin 2) : Rect S32x128x4096 :=
  Rect.unit (s := S32x128x4096) ![s.val, 0, 2048 * j.val] S1x128x2048.size (inb_half s j)

/-- The rectangle of slot `s`. -/
abbrev slotR (s : Fin 32) : Rect S32x128x4096 :=
  Rect.unit (s := S32x128x4096) ![s.val, 0, 0] S1x128x4096.size (inb_slot s)

/-- The rectangle of row `i` of the maxima. -/
abbrev rowR (i : Fin 32) : Rect S32x128 := Rect.unit (s := S32x128) ![i.val, 0] S1x128.size (inb_row i)

/-- Half `j` of slot `s`, as the transfers name it. -/
abbrev halfM (s : Fin 32) (j : Fin 2) : Memref sig .tc .vmem S128x2048 .bf16 :=
  (gM.slice (halfR s j) (fun _ => rfl)).squeeze S128x2048 squeezes_S1x128x2048_S128x2048

/-- Row `i` of the maxima, as the transfers name it. -/
abbrev rowM (i : Fin 32) : Memref sig .tc .vmem S128 .f32 :=
  (mM.slice (rowR i) (fun _ => rfl)).squeeze S128 squeezes_S1x128_S128

/-- The row that `put e` fills on its receiver. -/
def rowOf (e : Fin 31) : Fin 32 := ⟨31 - e.val, by omega⟩

theorem words_half (s : Fin 32) (j : Fin 2) : (halfR s j).WholeWords (EltTy.packing .bf16) := by
  revert s j; decide

/-! ## The semaphores -/

/-- Entry `(h, j)` of one of the arrays of 16 × 2 semaphores. -/
abbrev semAt (a : DmaSems sig S16x2) (h : Fin 16) (j : Fin 2) : DmaSem sig :=
  ((a.slice (Rect.unit (s := S16x2) ![h.val, j.val] S1x1.size (inb_sem2 h j))).squeeze S_ squeezes_S1x1_S_).sem

/-- Entry `e` of one of the arrays of 31 semaphores. -/
abbrev semAt1 (a : DmaSems sig S31) (e : Fin 31) : DmaSem sig :=
  ((a.slice (Rect.unit (s := S31) ![e.val] S1.size (inb_sem1 e))).squeeze S_ squeezes_S1_S_).sem

/-- The semaphores that count transfers as they leave. -/
def sndA : Dir → DmaSems sig S16x2
  | .r => cc0_scratch3
  | .l => cc0_scratch5

/-- The semaphores that count transfers as they land. -/
def rcvA : Dir → DmaSems sig S16x2
  | .r => cc0_scratch4
  | .l => cc0_scratch6

abbrev sndS (d : Dir) (h : Fin 16) (j : Fin 2) : DmaSem sig := semAt (sndA d) h j
abbrev rcvS (d : Dir) (h : Fin 16) (j : Fin 2) : DmaSem sig := semAt (rcvA d) h j
abbrev rowSndS (e : Fin 31) : DmaSem sig := semAt1 cc0_scratch7 e
abbrev rowRcvS (e : Fin 31) : DmaSem sig := semAt1 cc0_scratch8 e

/-- The barrier's semaphore. -/
abbrev barS : Sem sig := (SemArray.scalar (sig.barrier 0 rfl) : Sems sig S_).sem

/-! ## The values -/

/-- The product of a slot and the block of `w`. -/
abbrev prod (x : Vec F S1x128x4096 .bf16) (w : Vec F S4096x256 .bf16) : FVec F S128x256 .f32 := k0_pay3 x w

/-- The largest magnitude of a product. -/
abbrev peak (x : Vec F S1x128x4096 .bf16) (w : Vec F S4096x256 .bf16) : F .f32 := k0_pay4 x w

/-- The device that `put e` on device `d` sends to. -/
def rowDev (d : Dev nD) (e : Fin 31) : Nat :=
  (Scalar.addi 0#32 (Scalar.muli (Scalar.remsi (Scalar.addi (Scalar.remsi (Scalar.divsi (Dev.word d) 1#32) 32#32)
    (BitVec.ofNat 32 (e.val + 1))) 32#32) 1#32)).toNat

theorem rowDev_lt : ∀ (d : Dev nD) (e : Fin 31), rowDev d e < nD := by decide +kernel

/-- The program's events and answers. -/
abbrev P (F : FTy → Type) : Type 1 := Prog (TpuEff nD τ sig (Elt F) Λ₀ .tc) PUnit

/-! ## The meaning of a list of events -/

/-- One event on a device whose neighbours are `rt` and `lf`: its operations in the kernel's order, then `k` at
    the largest magnitude so far. -/
def step (d0 rt lf : Dev nD) (e : Ev) (a : F .f32) (k : F .f32 → P F) : P F :=
  match e with
  | .start d h j =>
      .op (.enqueueDma (halfM (srcSlot d h) j)
        (.remote (Dev.tc (match d with | .r => rt | .l => lf)) (halfM (dstSlot d h) j) (.dma (sndS d h j)))
        (.dma (rcvS d h j))
        (((Memref.isWhole_whole cc0_scratch0).wordExact_slice rfl _ (words_half _ _)).reshape _ _)
        (((Memref.isWhole_whole cc0_scratch0).wordExact_slice rfl _ (words_half _ _)).reshape _ _)
        ⟨⟨rfl, Or.inl rfl⟩, trivial⟩) fun _ => k a
  | .recv d h j =>
      .op (.waitDma2 (rcvS d h j) (halfM (srcSlot d h) j) (halfM (dstSlot d h) j)
        (((Memref.isWhole_whole cc0_scratch0).wordExact_slice rfl _ (words_half _ _)).reshape _ _)
        (((Memref.isWhole_whole cc0_scratch0).wordExact_slice rfl _ (words_half _ _)).reshape _ _)) fun _ => k a
  | .sent d h j =>
      .op (.waitDma2 (sndS d h j) (halfM (dstSlot d h) j) (halfM (srcSlot d h) j)
        (((Memref.isWhole_whole cc0_scratch0).wordExact_slice rfl _ (words_half _ _)).reshape _ _)
        (((Memref.isWhole_whole cc0_scratch0).wordExact_slice rfl _ (words_half _ _)).reshape _ _)) fun _ => k a
  | .gemm s i =>
      (smemLoad tM (Rect.unit (s := S33) ![i.val] S1.size (inb_tab i)) numel1_S1 rfl).bind fun (v : BitVec 32) =>
      .op (.assume (k0_chk3 v) (k0_chk3.dec v)) fun hv =>
      .op (.load gM (slotR s).toLoadRect (View.loadsAt_vmem h_S1x128x4096)) fun x =>
      .op (.load vM (Rect.unit (s := S4096x256) ![0, 0] S4096x256.size inb_S4096x256_S4096x256_0_0).toLoadRect
        (View.loadsAt_vmem h_S4096x256)) fun w =>
      .op (.load oM (Rect.unit (s := S4096x256) (k0_off2 v) S128x256.size (k0_off2_inb v hv.down)).toLoadRect
        (View.loadsAt_vmem h_S128x256)) fun _ =>
      .op (.store oM (Rect.unit (s := S4096x256) (k0_off2 v) S128x256.size (k0_off2_inb v hv.down)) (prod x w)
        Finset.univ (View.stores_vmem_bits_univ h_S128x256 rfl) (.inl rfl)) fun _ =>
      k (Scalar.maximumf a (peak x w))
  | .put e =>
      .op (.enqueueDma (rowM 0)
        (.remote (Dev.tc (⟨rowDev d0 e, rowDev_lt d0 e⟩ : Dev nD)) (rowM (rowOf e)) (.dma (rowSndS e)))
        (.dma (rowRcvS e)) ((View.wordExact_bits rfl).reshape _ _) ((View.wordExact_bits rfl).reshape _ _)
        ⟨⟨rfl, Or.inl rfl⟩, trivial⟩) fun _ => k a
  | .got e =>
      .op (.waitDma2 (rowRcvS e) (rowM 0) (rowM (rowOf e)) ((View.wordExact_bits rfl).reshape _ _)
        ((View.wordExact_bits rfl).reshape _ _)) fun _ => k a
  | .gone e =>
      .op (.waitDma2 (rowSndS e) (rowM (rowOf e)) (rowM 0) ((View.wordExact_bits rfl).reshape _ _)
        ((View.wordExact_bits rfl).reshape _ _)) fun _ => k a

/-- A list of events in order, then `k`. -/
def run (d0 rt lf : Dev nD) : List Ev → F .f32 → (F .f32 → P F) → P F
  | [], a, k => k a
  | e :: es, a, k => step d0 rt lf e a fun a' => run d0 rt lf es a' k

/-! ## The kernel's lists -/

/-- One middle hop: what has landed is passed on half by half, the other way round's previous slot is multiplied
    between, and the right-going slot is multiplied at the end. -/
def hop (h : Fin 14) : List Ev :=
  let a : Fin 16 := ⟨h.val + 1, by omega⟩
  let b : Fin 16 := ⟨h.val + 2, by omega⟩
  [.recv .r a 0, .start .r b 0, .recv .l a 0] ++ (if h.val < 13 then [.start .l b 0] else [])
    ++ [.gemm (dstSlot .l ⟨h.val, by omega⟩) ⟨18 + h.val, by omega⟩, .recv .r a 1]
    ++ (if h.val < 13 then [.start .r b 1] else []) ++ [.recv .l a 1, .start .l b 1]
    ++ [.gemm (dstSlot .r a) ⟨3 + h.val, by omega⟩]

/-- The transfers in the order in which the body waits for them to leave. -/
def drain (d : Dir) : List Ev :=
  (List.finRange 15).flatMap (fun h => [.sent d ⟨h.val, by omega⟩ 0, .sent d ⟨h.val, by omega⟩ 1])

/-- The four transfers of the first hop. -/
def firstEvs : List Ev := [.start .r 0 0, .start .r 0 1, .start .l 0 0, .start .l 0 1]

/-- Everything round the ring after the device's own product. -/
def ringEvs : List Ev :=
  [.recv .r 0 0, .start .r 1 0, .recv .l 0 0, .start .l 1 0, .recv .r 0 1, .start .r 1 1, .recv .l 0 1, .start .l 1 1,
    .gemm 1 2]
  ++ (List.finRange 14).flatMap hop
  ++ [.recv .r 15 0, .gemm 17 32, .recv .l 15 1, .gemm 16 17]
  ++ drain .r ++ [.sent .r 15 0] ++ drain .l ++ [.sent .l 15 1]

/-- The exchange of the maxima. -/
def rowEvs : List Ev :=
  (List.finRange 31).map .put ++ (List.finRange 31).map .got ++ (List.finRange 31).map .gone

/-! ## The whole body -/

/-- The end: read all maxima, scale, round, clip, scale back. -/
def finish : P F :=
  .op (.load mM (Rect.unit (s := S32x128) ![0, 0] S32x128.size inb_S32x128_S32x128_0_0).toLoadRect
    (View.loadsAt_vmem h_S32x128)) fun m =>
  .op (.load oM (Rect.unit (s := S4096x256) ![0, 0] S4096x256.size inb_S4096x256_S4096x256_0_0).toLoadRect
    (View.loadsAt_vmem h_S4096x256)) fun y =>
  .op (.load oM (Rect.unit (s := S4096x256) ![0, 0] S4096x256.size inb_S4096x256_S4096x256_0_0).toLoadRect
    (View.loadsAt_vmem h_S4096x256)) fun _ =>
  .op (.store oM (Rect.unit (s := S4096x256) ![0, 0] S4096x256.size inb_S4096x256_S4096x256_0_0)
    (k0_pay78 (k0_pay76 m) (k0_pay77 m y)) Finset.univ (View.stores_vmem_bits_univ h_S4096x256 rfl) (.inl rfl))
    fun _ => .ret ⟨⟩

/-- From the store of the device's maximum on. -/
def rows (d0 rt lf : Dev nD) (a : F .f32) : P F :=
  .op (.load mM (rowR 0).toLoadRect (View.loadsAt_vmem h_S1x128)) fun _ =>
  .op (.store mM (rowR 0) (k0_pay74 a) Finset.univ (View.stores_vmem_bits_univ h_S1x128 rfl) (.inl rfl)) fun _ =>
  run d0 rt lf rowEvs a fun _ => finish

/-- From the device's own product on. -/
def own (d0 rt lf : Dev nD) : P F :=
  .op (.load wM (Rect.unit (s := S4096x256) ![0, 0] S4096x256.size inb_S4096x256_S4096x256_0_0).toLoadRect
    (View.loadsAt_vmem h_S4096x256)) fun w =>
  .op (.load vM (Rect.unit (s := S4096x256) ![0, 0] S4096x256.size inb_S4096x256_S4096x256_0_0).toLoadRect
    (View.loadsAt_vmem h_S4096x256)) fun _ =>
  .op (.store vM (Rect.unit (s := S4096x256) ![0, 0] S4096x256.size inb_S4096x256_S4096x256_0_0) (k0_pay2 w)
    Finset.univ (View.stores_vmem h_S4096x256 ((Memref.isWhole_whole cc0_scratch1).storeExact_slice rfl _
      packedbf16_S4096x256_S4096x256_0_0) (fun _ => rfl)) (.inl rfl)) fun _ =>
  .op (.load gM (slotR 0).toLoadRect (View.loadsAt_vmem h_S1x128x4096)) fun x =>
  .op (.load vM (Rect.unit (s := S4096x256) ![0, 0] S4096x256.size inb_S4096x256_S4096x256_0_0).toLoadRect
    (View.loadsAt_vmem h_S4096x256)) fun w' =>
  .op (.load oM (Rect.unit (s := S4096x256) (k0_off1 d0) S128x256.size (k0_off1_inb d0)).toLoadRect
    (View.loadsAt_vmem h_S128x256)) fun _ =>
  .op (.store oM (Rect.unit (s := S4096x256) (k0_off1 d0) S128x256.size (k0_off1_inb d0)) (prod x w')
    Finset.univ (View.stores_vmem_bits_univ h_S128x256 rfl) (.inl rfl)) fun _ =>
  run d0 rt lf ringEvs (peak x w') fun a => rows d0 rt lf a

/-- The body, with its neighbours read from the table. -/
def body : P F :=
  .op .deviceId fun d0 =>
  (smemLoad tM (Rect.unit (s := S33) ![0] S1.size inb_S33_S1_0) numel1_S1 rfl).bind fun (v3 : BitVec 32) =>
  .op (.assume (k0_chk2 v3) (k0_chk2.dec v3)) fun h2 =>
  (smemLoad tM (Rect.unit (s := S33) ![1] S1.size inb_S33_S1_1) numel1_S1 rfl).bind fun (v4 : BitVec 32) =>
  .op (.assume (k0_chk1 v4) (k0_chk1.dec v4)) fun h1 =>
  (semSignalWord (⟨k0_dev1 v4, k0_dev1_lt v4 h1.down⟩ : Dev nD) barS 1#32).bind fun _ =>
  (semSignalWord (⟨k0_dev2 v3, k0_dev2_lt v3 h2.down⟩ : Dev nD) barS 1#32).bind fun _ =>
  .op (.load xM (Rect.unit (s := S128x4096) ![0, 0] S128x4096.size inb_S128x4096_S128x4096_0_0).toLoadRect
    (View.loadsAt_vmem h_S128x4096)) fun x =>
  .op (.load gM (slotR 0).toLoadRect (View.loadsAt_vmem h_S1x128x4096)) fun _ =>
  .op (.store gM (slotR 0) (k0_pay1 x) Finset.univ (View.stores_vmem h_S1x128x4096
    ((Memref.isWhole_whole cc0_scratch0).storeExact_slice rfl _ packedbf16_S32x128x4096_S1x128x4096_0_0_0)
    (fun _ => rfl)) (.inl rfl)) fun _ =>
  (semWaitWord barS 2#32).bind fun _ =>
  run d0 ⟨k0_dev2 v3, k0_dev2_lt v3 h2.down⟩ ⟨k0_dev1 v4, k0_dev1_lt v4 h1.down⟩ firstEvs
    (Scalar.ofBits .f32 0#32) fun _ => own d0 ⟨k0_dev2 v3, k0_dev2_lt v3 h2.down⟩ ⟨k0_dev1 v4, k0_dev1_lt v4 h1.down⟩

end Cert.KernelIdeal.Ring

end
-- ==== Proof.Geometry.lean ====
/- The ring the devices stand in.

   The 32 devices stand in a ring whose order is a fixed table.  A device's slots hold the blocks of the devices
   to its left: slot `s` that of the device `s` places to the left.  This module states the neighbours, the origin
   of a slot, the device a maximum is sent to, and the few finite facts about them that the proof uses. -/
module

public import proofs.«01_k».proof.Proof.Events

@[expose] public section

noncomputable section

namespace Cert.KernelIdeal.Ring

open Idealize.ShloMosaic Idealize.ShloMosaic.TcCoe Idealize.SL.Sem
open Cert.KernelIdeal Cert.KernelIdeal.Gen

/-- A device's place in the ring. -/
def place (c : Dev nD) : Fin 32 := Fin.ofNat 32 (lit1 c).toNat

/-- The device at a place of the ring. -/
def devAt (p : Fin 32) : Dev nD := Fin.ofNat 32 (lit0 p).toNat

/-- The neighbour a transfer of direction `d` goes to. -/
def nb : Dir → Dev nD → Dev nD
  | .r, c => devAt (place c + 1)
  | .l, c => devAt (place c - 1)

/-- The neighbour a transfer of direction `d` comes from. -/
def bn : Dir → Dev nD → Dev nD
  | .r, c => nb .l c
  | .l, c => nb .r c

/-- The device whose block slot `s` of device `c` holds. -/
def orig (c : Dev nD) (s : Fin 32) : Dev nD := devAt (place c - s)

/-- The slot of device `c` that holds device `o`'s block. -/
def slotFor (c o : Dev nD) : Fin 32 := place c - place o

/-- The device `put e` on device `c` sends to. -/
def rowTo (c : Dev nD) (e : Fin 31) : Dev nD := ⟨rowDev c e, rowDev_lt c e⟩

/-- The device whose `put e` lands on device `c`. -/
def rowFrom (c : Dev nD) (e : Fin 31) : Dev nD := Fin.ofNat 32 (c.val + 31 - e.val)

/-- The device `i` places after `c` in the numbering: the one whose maximum row `i` of `c` holds. -/
def rowDevice (c : Dev nD) (i : Fin 32) : Dev nD := Fin.ofNat 32 (c.val + i.val)

/-- The device that hop `h` of direction `d` brings device `o`'s block to. -/
def reach (d : Dir) (o : Dev nD) (h : ℕ) : Dev nD :=
  match d with
  | .r => devAt (place o + Fin.ofNat 32 (h + 1))
  | .l => devAt (place o - Fin.ofNat 32 (h + 1))

/-- The number under which the device that hop `h` of direction `d` brings `o`'s block to sends its maximum to `o`. -/
def rowNo (d : Dir) (o : Dev nD) (h : ℕ) : Fin 31 :=
  Fin.ofNat 31 ((o.val + 31 - (reach d o h).val) % 32)

/-- How many hops carry permissions for rows: all sixteen to the right, fifteen to the left. -/
def lim : Dir → ℕ
  | .r => 16
  | .l => 15

theorem nb_bn : ∀ (d : Dir) (c : Dev nD), nb d (bn d c) = c := by
  intro d; cases d <;> decide +kernel

theorem bn_nb : ∀ (d : Dir) (c : Dev nD), bn d (nb d c) = c := by
  intro d; cases d <;> decide +kernel

theorem rowTo_rowFrom : ∀ (c : Dev nD) (e : Fin 31), rowTo (rowFrom c e) e = c := by decide +kernel

theorem rowFrom_rowTo : ∀ (c : Dev nD) (e : Fin 31), rowFrom (rowTo c e) e = c := by decide +kernel

theorem orig_zero : ∀ c : Dev nD, orig c 0 = c := by decide +kernel

theorem orig_nb : ∀ (d : Dir) (c : Dev nD) (h : Fin 16), orig (nb d c) (dstSlot d h) = orig c (srcSlot d h) := by
  intro d; cases d <;> decide +kernel

theorem slotFor_orig : ∀ (c : Dev nD) (s : Fin 32), slotFor c (orig c s) = s := by decide +kernel

theorem orig_slotFor : ∀ (c o : Dev nD), orig c (slotFor c o) = o := by decide +kernel

theorem orig_inj {c : Dev nD} {s s' : Fin 32} (h : orig c s = orig c s') : s = s' := by
  rw [← slotFor_orig c s, h, slotFor_orig]

theorem srcSlot_succ : ∀ (d : Dir) (h : Fin 15),
    srcSlot d ⟨h.val + 1, by omega⟩ = dstSlot d ⟨h.val, by omega⟩ := by
  intro d; cases d <;> decide +kernel

/-- The row that `put e` of device `c` fills on its receiver is the row for device `c` there. -/
theorem rowDevice_rowTo : ∀ (c : Dev nD) (e : Fin 31), rowDevice (rowTo c e) (rowOf e) = c := by decide +kernel

theorem rowDevice_zero : ∀ c : Dev nD, rowDevice c 0 = c := by decide +kernel

/-- Every device is the one some row stands for. -/
theorem rowDevice_surj : ∀ c o : Dev nD, ∃ i, rowDevice c i = o := by decide +kernel

/-- A permission that arrives with a block is for the block's origin. -/
theorem rowTo_rowNo : ∀ (d : Dir) (c : Dev nD) (h : Fin 16), h.val < lim d →
    rowTo c (rowNo d (orig c (dstSlot d h)) h.val) = orig c (dstSlot d h) := by
  intro d; cases d <;> decide +kernel

/-- The permissions a device sends round the ring are those for all of its rows but its own. -/
theorem rowNo_perm : ∀ o : Dev nD,
    ((List.range' 0 16).map (rowNo .r o) ++ (List.range' 0 15).map (rowNo .l o)).isPerm (List.finRange 31) = true := by
  decide +kernel

/-- The permissions a device receives are those for a row on every other device. -/
theorem rowNo_perm' : ∀ c : Dev nD,
    ((List.finRange 16).map (fun h => rowNo .r (orig c (dstSlot .r h)) h.val)
      ++ (List.finRange 15).map (fun h => rowNo .l (orig c (dstSlot .l (Fin.castLE (by omega) h))) h.val)).isPerm
      (List.finRange 31) = true := by
  decide +kernel

end Cert.KernelIdeal.Ring

end
-- ==== Proof.Contents.lean ====
/- What the buffers hold, and how the transfers and stores fill them.

   `X c` is device `c`'s block of rows of `x`, `B c` its block of columns of `w`.  Once filled, slot `s` of device
   `c` holds the block of the device it stands for, row `i` of its table of maxima that of the device `i` places
   after it, and the rows of its result that belong to device `o` the product of `o`'s rows and its own columns. -/
module

public import proofs.«01_k».proof.Proof.Geometry
public import Idealize.ShloMosaic.Lib.Pipeline.ValueKit.Geometry

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]
variable (X : Dev nD → Vec F S128x4096 .bf16) (B : Dev nD → Vec F S4096x256 .bf16)

/-! ## The contents -/

/-- Device `o`'s block as a slot holds it. -/
abbrev slotV (o : Dev nD) : Vec F S1x128x4096 .bf16 := k0_pay1 (X o)

/-- The kernel's copy of the block of `w`. -/
abbrev colsV (c : Dev nD) : Vec F S4096x256 .bf16 := k0_pay2 (B c)

/-- The position in a slot of a row and a column. -/
def inSlot (r : Fin 128) (k : Fin 4096) : S1x128x4096.Idx := fun a => match a with
  | ⟨0, _⟩ => (0 : Fin 1)
  | ⟨1, _⟩ => r
  | ⟨2, _⟩ => k

/-- The position in a block of the product of a row and a column. -/
def inBlock (r : Fin 128) (k : Fin 256) : S128x256.Idx := fun a => match a with
  | ⟨0, _⟩ => r
  | ⟨1, _⟩ => k

/-- All slots of device `c`, filled. -/
def slots (c : Dev nD) : (cc0_scratch0 : Ref sig .tc).ty.Contents (Elt F) :=
  fun i => slotV X (orig c (i 0)) (inSlot (i 1) (i 2))

/-- The largest magnitude after a list of events, from `a`. -/
def scan (c : Dev nD) : List Ev → F .f32 → F .f32
  | [], a => a
  | .gemm s _ :: es, a => scan c es (Scalar.maximumf a (peak (slotV X (orig c s)) (colsV B c)))
  | _ :: es, a => scan c es a

/-- The largest magnitude of device `c`'s block of the product. -/
def amax (c : Dev nD) : F .f32 := scan X B c ringEvs (peak (slotV X c) (colsV B c))

/-- The table of maxima of device `c`, filled. -/
def maxima (c : Dev nD) : (cc0_scratch2 : Ref sig .tc).ty.Contents (Elt F) :=
  fun i => amax X B (rowDevice c (i 0))

/-- The device whose rows of the product row `i` belongs to. -/
def ownerOf (i : Fin 4096) : Dev nD := ⟨i.val / 128, by have := i.isLt; show _ < 32; omega⟩

/-- The whole block of the product on device `c`. -/
def product (c : Dev nD) : (cc0_stg3_0 : Ref sig .tc).ty.Contents (Elt F) :=
  fun i => prod (slotV X (ownerOf (i 0))) (colsV B c)
    (inBlock ⟨(i 0).val % 128, Nat.mod_lt _ (by omega)⟩ (i 1))

/-- The contents `f` agree with the product at the rows of the devices in `os`. -/
def Agrees (c : Dev nD) (os : List (Dev nD)) (f : (cc0_stg3_0 : Ref sig .tc).ty.Contents (Elt F)) : Prop :=
  ∀ i : S4096x256.Idx, ownerOf (i 0) ∈ os → f i = product X B c i

/-! ## Where the parts lie -/

theorem half_set (s : Fin 32) (j : Fin 2) : (halfM s j).view.set = (halfR s j).set := by
  show (((View.whole cc0_scratch0).slice (halfR s j)).reshape S128x2048 _).set = _
  rw [View.set_reshape]; exact View.set_slice_whole _ _

theorem row_set (i : Fin 32) : (rowM i).view.set = (rowR i).set := by
  show (((View.whole cc0_scratch2).slice (rowR i)).reshape S128 _).set = _
  rw [View.set_reshape]; exact View.set_slice_whole _ _

theorem mem_half {s : Fin 32} {j : Fin 2} {i : S32x128x4096.Idx} :
    i ∈ (halfM s j).view.set ↔ (i 0).val = s.val ∧ (i 2).val / 2048 = j.val := by
  rw [half_set, Rect.mem_set_unit]
  constructor
  · intro h
    have h0 := h 0; have h2 := h 2
    simp at h0 h2
    omega
  · rintro ⟨h0, h2⟩ a
    have h1 : (i 1).val < 128 := (i 1).isLt
    fin_cases a <;> simp <;> omega

theorem mem_row {r : Fin 32} {i : S32x128.Idx} : i ∈ (rowM r).view.set ↔ (i 0).val = r.val := by
  rw [row_set, Rect.mem_set_unit]
  constructor
  · intro h
    have h0 := h 0
    simp at h0
    omega
  · rintro h0 a
    have h1 : (i 1).val < 128 := (i 1).isLt
    fin_cases a <;> simp <;> omega

theorem half_disjoint {p q : Fin 32 × Fin 2} (h : p ≠ q) :
    Disjoint (halfM p.1 p.2).view.set (halfM q.1 q.2).view.set := by
  rw [Finset.disjoint_left]
  intro i hi hi'
  have h1 := mem_half.mp hi
  have h2 := mem_half.mp hi'
  exact h (Prod.ext (Fin.ext (h1.1.symm.trans h2.1)) (Fin.ext (h1.2.symm.trans h2.2)))

/-- The elements of a half. -/
abbrev halfSet (p : Fin 32 × Fin 2) : Finset S32x128x4096.Idx := (halfM p.1 p.2).view.set

/-- The elements of a row. -/
abbrev rowSet (p : Fin 32) : Finset S32x128.Idx := (rowM p).view.set

theorem half_cover : (Finset.univ : Finset (Fin 32 × Fin 2)).biUnion halfSet = Finset.univ := by
  ext i
  simp only [Finset.mem_biUnion, Finset.mem_univ, true_and, iff_true]
  have h2 : (i 2).val < 4096 := (i 2).isLt
  exact ⟨(⟨(i 0).val, (i 0).isLt⟩, ⟨(i 2).val / 2048, by omega⟩), mem_half.mpr ⟨rfl, rfl⟩⟩

theorem slot_split (s : Fin 32) : (slotR s).set = (halfM s 0).view.set ∪ (halfM s 1).view.set := by
  ext i
  have h1 : (i 1).val < 128 := (i 1).isLt
  have h2 : (i 2).val < 4096 := (i 2).isLt
  rw [Finset.mem_union, mem_half, mem_half, Rect.mem_set_unit]
  constructor
  · intro h
    have h0 := h 0
    simp at h0
    have : (i 2).val / 2048 < 2 := by omega
    simp; omega
  · intro h a
    simp at h
    fin_cases a <;> simp <;> omega

theorem row_disjoint {p q : Fin 32} (h : p ≠ q) : Disjoint (rowM p).view.set (rowM q).view.set := by
  rw [Finset.disjoint_left]
  intro i hi hi'
  exact h (Fin.ext ((mem_row.mp hi).symm.trans (mem_row.mp hi')))

theorem row_cover : (Finset.univ : Finset (Fin 32)).biUnion rowSet = Finset.univ := by
  ext i
  simp only [Finset.mem_biUnion, Finset.mem_univ, true_and, iff_true]
  exact ⟨⟨(i 0).val, (i 0).isLt⟩, mem_row.mpr rfl⟩

/-! ## What transfers, loads and stores do to them -/

/-- A half that lands on the neighbour is the neighbour's filled slot there. -/
theorem half_lands (d : Dir) (c : Dev nD) (h : Fin 16) (j : Fin 2)
    (fd : (cc0_scratch0 : Ref sig .tc).ty.Contents (Elt F)) :
    ∀ i ∈ (halfM (dstSlot d h) j).view.set,
      (halfM (dstSlot d h) j).view.write (Elt F) fd ((halfM (srcSlot d h) j).view.read (Elt F) (slots X c)) Finset.univ i
        = slots X (nb d c) i := by
  intro i hi
  obtain ⟨y, -, rfl⟩ := Finset.mem_map.mp hi
  rw [View.write_emb_of_mem _ _ (Finset.mem_univ y)]
  show slots X c ((halfR (srcSlot d h) j).emb _) = slots X (nb d c) ((halfR (dstSlot d h) j).emb _)
  generalize Shape.reshapeEquiv _ y = z
  have e0 : ∀ s : Fin 32, (halfR s j).emb z 0 = s := fun s => Fin.ext (by
    rw [ValueKit.rect_emb_unit_val]
    have : (z 0).val < 1 := (z 0).isLt
    show s.val + (z 0).val = s.val
    omega)
  have e1 : ∀ a : Fin 3, a ≠ 0 → ((halfR (srcSlot d h) j).emb z a).val = ((halfR (dstSlot d h) j).emb z a).val := by
    intro a ha
    rw [ValueKit.rect_emb_unit_val, ValueKit.rect_emb_unit_val]
    fin_cases a
    · exact absurd rfl ha
    · rfl
    · rfl
  unfold slots
  have h1 : (halfR (srcSlot d h) j).emb z 1 = (halfR (dstSlot d h) j).emb z 1 := Fin.ext (e1 1 (by decide))
  have h2 : (halfR (srcSlot d h) j).emb z 2 = (halfR (dstSlot d h) j).emb z 2 := Fin.ext (e1 2 (by decide))
  rw [e0, e0, orig_nb, h1, h2]

/-- The filled slot, as a load of it sees it. -/
theorem slot_read (c : Dev nD) (s : Fin 32) :
    gM.view.readAt (Elt F) (slotR s).toLoadRect (slots X c) = slotV X (orig c s) := by
  funext z
  show slots X c ((slotR s).emb z) = _
  unfold slots
  have e0 : (slotR s).emb z 0 = s := Fin.ext (by
    rw [ValueKit.rect_emb_unit_val]
    have : (z 0).val < 1 := (z 0).isLt
    show s.val + (z 0).val = s.val
    omega)
  rw [e0]
  congr 1
  funext a
  fin_cases a
  · exact Fin.ext (by have : (z 0).val < 1 := (z 0).isLt; show 0 = (z 0).val; omega)
  · exact Fin.ext (by show ((slotR s).emb z 1).val = (z 1).val; rw [ValueKit.rect_emb_unit_val]; simp)
  · exact Fin.ext (by show ((slotR s).emb z 2).val = (z 2).val; rw [ValueKit.rect_emb_unit_val]; simp)

/-- The device's own block, stored, is its slot 0 filled. -/
theorem slot_store (c : Dev nD) (f : (cc0_scratch0 : Ref sig .tc).ty.Contents (Elt F)) :
    ∀ i ∈ (slotR 0).set, (gM.access (slotR 0)).write (Elt F) f (k0_pay1 (X c)) Finset.univ i = slots X c i := by
  intro i hi
  have hi' : i ∈ (gM.access (slotR 0)).set := by rw [View.set_slice_whole]; exact hi
  obtain ⟨z, -, rfl⟩ := Finset.mem_map.mp hi'
  rw [View.write_emb_of_mem _ _ (Finset.mem_univ z)]
  have h := congrFun (slot_read X c 0) z
  rw [orig_zero] at h
  exact h.symm

/-- A row of maxima that lands is the receiver's row for the sender. -/
theorem row_lands (c : Dev nD) (e : Fin 31) (fd : (cc0_scratch2 : Ref sig .tc).ty.Contents (Elt F)) :
    ∀ i ∈ (rowM (rowOf e)).view.set,
      (rowM (rowOf e)).view.write (Elt F) fd ((rowM 0).view.read (Elt F) (maxima X B c)) Finset.univ i
        = maxima X B (rowTo c e) i := by
  intro i hi
  have h0 : i 0 = rowOf e := Fin.ext (mem_row.mp hi)
  obtain ⟨y, -, rfl⟩ := Finset.mem_map.mp hi
  rw [View.write_emb_of_mem _ _ (Finset.mem_univ y)]
  show maxima X B c ((rowM 0).view.emb y) = maxima X B (rowTo c e) ((rowM (rowOf e)).view.emb y)
  have h1 : (rowM 0).view.emb y 0 = (0 : Fin 32) := Fin.ext (mem_row.mp (View.emb_mem_set _ y))
  unfold maxima
  rw [h0, h1, rowDevice_rowTo, rowDevice_zero]

/-- The device's own maximum, stored, is its row 0. -/
theorem row_store (c : Dev nD) (f : (cc0_scratch2 : Ref sig .tc).ty.Contents (Elt F)) :
    ∀ i ∈ (rowM 0).view.set,
      (mM.access (rowR 0)).write (Elt F) f (k0_pay74 (amax X B c)) Finset.univ i = maxima X B c i := by
  intro i hi
  have h0 : i 0 = (0 : Fin 32) := Fin.ext (mem_row.mp hi)
  have hi' : i ∈ (mM.access (rowR 0)).set := by rw [View.set_slice_whole, ← row_set]; exact hi
  obtain ⟨z, -, rfl⟩ := Finset.mem_map.mp hi'
  rw [View.write_emb_of_mem _ _ (Finset.mem_univ z)]
  unfold maxima
  rw [h0, rowDevice_zero]
  rfl

/-- Storing the product for device `o` at its rows makes these agree, and leaves the others. -/
theorem store_agrees (c o : Dev nD) (os : List (Dev nD)) (off : Fin 2 → Nat) (hoff : off = ![128 * o.val, 0])
    (inb : ∀ a, off a + S128x256.size a ≤ S4096x256.size a)
    (f : (cc0_stg3_0 : Ref sig .tc).ty.Contents (Elt F)) (hf : Agrees X B c os f) :
    Agrees X B c (o :: os) ((oM.access (Rect.unit (s := S4096x256) off S128x256.size inb)).write (Elt F) f
      (prod (slotV X o) (colsV B c)) Finset.univ) := by
  subst hoff
  intro i hi
  have hlt : (i 0).val < 4096 := (i 0).isLt
  have hlt1 : (i 1).val < 256 := (i 1).isLt
  by_cases h : i ∈ (oM.access (Rect.unit (s := S4096x256) ![128 * o.val, 0] S128x256.size inb)).set
  · obtain ⟨z, -, rfl⟩ := Finset.mem_map.mp h
    rw [View.write_emb_of_mem _ _ (Finset.mem_univ z)]
    have hz : (z 0).val < 128 := (z 0).isLt
    have e0 : ((oM.access (Rect.unit (s := S4096x256) ![128 * o.val, 0] S128x256.size inb)).emb z 0).val
        = 128 * o.val + (z 0).val := by
      show ((Rect.unit (s := S4096x256) ![128 * o.val, 0] S128x256.size inb).emb z 0).val = _
      rw [ValueKit.rect_emb_unit_val]; rfl
    have e1 : ((oM.access (Rect.unit (s := S4096x256) ![128 * o.val, 0] S128x256.size inb)).emb z 1).val
        = (z 1).val := by
      show ((Rect.unit (s := S4096x256) ![128 * o.val, 0] S128x256.size inb).emb z 1).val = _
      rw [ValueKit.rect_emb_unit_val]; show 0 + _ = _; omega
    unfold product
    have eo : ownerOf ((oM.access (Rect.unit (s := S4096x256) ![128 * o.val, 0] S128x256.size inb)).emb z 0) = o := by
      apply Fin.ext
      show _ / 128 = o.val
      rw [e0]; omega
    rw [eo]
    show prod (slotV X o) (colsV B c) z = _
    congr 1
    funext a
    fin_cases a
    · refine Fin.ext ?_
      show (z 0).val = _ % 128
      rw [e0]; omega
    · exact Fin.ext e1.symm
  · rw [View.write_of_not_mem _ _ _ h]
    refine hf i ?_
    rcases List.mem_cons.mp hi with e | e
    · exfalso; apply h
      rw [View.set_slice_whole, Rect.mem_set_unit]
      have e' : (i 0).val / 128 = o.val := congrArg Fin.val e
      intro a
      fin_cases a <;> simp <;> omega
    · exact e

end Cert.KernelIdeal.Ring

end
-- ==== Proof.Protocol.lean ====
/- The protocol: what every semaphore counts, and what is handed over with each count.

   Every semaphore serves one round.  The barrier of a device is raised by its two neighbours; each hands over the
   slots of its own that this device will fill.  A send semaphore hands back the share of the source that the
   transfer read; a receive semaphore hands over the half slot that has landed, and with the first half of a block
   the permissions to fill, on the block's origin, the rows of maxima of the devices the block still travels to.
   A receive semaphore of the exchange of maxima hands over the row that has landed. -/
module

public import proofs.«01_k».proof.Proof.Contents
public import Idealize.ShloMosaic.Lib.Rounds
public import Idealize.ShloMosaic.Lib.Pipeline.BigSepL
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → Vec F S128x4096 .bf16) (B : Dev nD → Vec F S4096x256 .bf16)

/-! ## The resource algebra: the launch's own copy, and the ring's, whose rounds may have two duties -/

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The cells -/

/-- What a DMA semaphore is for. -/
inductive Role
  | snd (d : Dir) (h : Fin 16) (j : Fin 2)
  | rcv (d : Dir) (h : Fin 16) (j : Fin 2)
  | rowSnd (e : Fin 31)
  | rowRcv (e : Fin 31)
  | stage
  deriving DecidableEq

/-- The use of a DMA semaphore, by its number. -/
def role (s : DmaSem sig) : Role :=
  if s.val < 4 then .stage
  else if s.val < 36 then .snd .r (Fin.ofNat 16 ((s.val - 4) / 2)) (Fin.ofNat 2 ((s.val - 4) % 2))
  else if s.val < 68 then .rcv .r (Fin.ofNat 16 ((s.val - 36) / 2)) (Fin.ofNat 2 ((s.val - 36) % 2))
  else if s.val < 100 then .snd .l (Fin.ofNat 16 ((s.val - 68) / 2)) (Fin.ofNat 2 ((s.val - 68) % 2))
  else if s.val < 132 then .rcv .l (Fin.ofNat 16 ((s.val - 100) / 2)) (Fin.ofNat 2 ((s.val - 100) % 2))
  else if s.val < 163 then .rowSnd (Fin.ofNat 31 (s.val - 132))
  else .rowRcv (Fin.ofNat 31 (s.val - 163))

theorem role_snd : ∀ (d : Dir) (h : Fin 16) (j : Fin 2), role (sndS d h j) = .snd d h j := by
  intro d; cases d <;> decide +kernel
theorem role_rcv : ∀ (d : Dir) (h : Fin 16) (j : Fin 2), role (rcvS d h j) = .rcv d h j := by
  intro d; cases d <;> decide +kernel
theorem role_rowSnd : ∀ e : Fin 31, role (rowSndS e) = .rowSnd e := by decide +kernel
theorem role_rowRcv : ∀ e : Fin 31, role (rowRcvS e) = .rowRcv e := by decide +kernel

/-- The transfers that the ring makes: both halves of fifteen hops each way, and of the sixteenth one half each. -/
def live (d : Dir) (h : Fin 16) (j : Fin 2) : Bool :=
  decide (h.val < 15) || (match d with | .r => decide (j = 0) | .l => decide (j = 1))

abbrev barCell (c : Dev nD) : GSem nD τ sig := ((c : Thread nD τ), .reg barS)
abbrev sndCell (c : Dev nD) (d : Dir) (h : Fin 16) (j : Fin 2) : GSem nD τ sig := ((c : Thread nD τ), .dma (sndS d h j))
abbrev rcvCell (c : Dev nD) (d : Dir) (h : Fin 16) (j : Fin 2) : GSem nD τ sig := ((c : Thread nD τ), .dma (rcvS d h j))
abbrev rowSndCell (c : Dev nD) (e : Fin 31) : GSem nD τ sig := ((c : Thread nD τ), .dma (rowSndS e))
abbrev rowRcvCell (c : Dev nD) (e : Fin 31) : GSem nD τ sig := ((c : Thread nD τ), .dma (rowRcvS e))

/-- What the transfer of half a slot counts. -/
abbrev NH : ℕ := (halfM 0 0).view.dmaCredit
/-- What the transfer of a row counts. -/
abbrev NR : ℕ := (rowM 0).view.dmaCredit

theorem NH_pos : 0 < NH := View.dmaCredit_pos _ (by decide)
theorem NR_pos : 0 < NR := View.dmaCredit_pos _ (by decide)

/-! ## The assertions -/

/-- Half `j` of slot `s` of device `c`, filled, at share `q`. -/
def halfAt (c : Dev nD) (s : Fin 32) (j : Fin 2) (q : PosShare TreeShare) : sProp 𝕄 :=
  (halfM s j).view.loc (c : Thread nD τ) ↦[(halfM s j).view.set]{q} slots X c

/-- Half `j` of slot `s` of device `c`, at any contents. -/
def halfAny (c : Dev nD) (s : Fin 32) (j : Fin 2) : sProp 𝕄 :=
  iprop(∃ f, (halfM s j).view.loc (c : Thread nD τ) ↦[(halfM s j).view.set]{fullShare} f)

/-- Row `i` of the maxima of device `c`, filled, at share `q`. -/
def rowAt (c : Dev nD) (i : Fin 32) (q : PosShare TreeShare) : sProp 𝕄 :=
  (rowM i).view.loc (c : Thread nD τ) ↦[(rowM i).view.set]{q} maxima X B c

/-- Row `i` of the maxima of device `c`, at any contents. -/
def rowAny (c : Dev nD) (i : Fin 32) : sProp 𝕄 :=
  iprop(∃ f, (rowM i).view.loc (c : Thread nD τ) ↦[(rowM i).view.set]{fullShare} f)

/-- The share of a half slot that its transfer onwards reads: of the own block, which travels both ways, a quarter;
    of the others a half. -/
def sq (d : Dir) (h : Fin 16) : PosShare TreeShare :=
  if h.val = 0 then (match d with | .r => fullShare.right.left | .l => fullShare.right.right) else fullShare.right

/-- What is left of the own row's share after `n` sends have taken theirs. -/
def rowRest : ℕ → PosShare TreeShare
  | 0 => fullShare
  | n + 1 => (rowRest n).right

/-- The share of the own row that send `n` reads. -/
def rq (n : ℕ) : PosShare TreeShare := (rowRest n).left

/-- The permission to fill row `rowOf e` of device `o`. -/
def gift (o : Dev nD) (e : Fin 31) : sProp 𝕄 :=
  iprop(rowAny o (rowOf e) ∗ reached ER (rowRcvCell o e) 0)

/-- The permissions for device `o`'s rows that travel with its block from hop `h` on. -/
def bundle (d : Dir) (o : Dev nD) (h : ℕ) : sProp 𝕄 :=
  bigSepL (List.range' h (lim d - h)) fun n => gift o (rowNo d o n)

/-- The place that the transfer of hop `h`, half `j` fills on the neighbour, with the fact that the neighbour is
    ready to count it. -/
def dest (d : Dir) (c : Dev nD) (h : Fin 16) (j : Fin 2) : sProp 𝕄 :=
  iprop(halfAny (nb d c) (dstSlot d h) j ∗ reached ER (rcvCell (nb d c) d h j) 0)

/-- The transfers of direction `d`. -/
def lives (d : Dir) : List (Fin 16 × Fin 2) :=
  ((List.finRange 16).flatMap fun h => [(h, 0), (h, 1)]).filter fun p => live d p.1 p.2

/-- What the neighbour in direction `d` hands over at the barrier. -/
def barPay (d : Dir) (c : Dev nD) : sProp 𝕄 := bigSepL (lives d) fun p => dest d c p.1 p.2

/-- What lands with the transfer of hop `h`, half `j`. -/
def rcvPay (c : Dev nD) (d : Dir) (h : Fin 16) (j : Fin 2) : sProp 𝕄 :=
  iprop(halfAt X c (dstSlot d h) j fullShare ∗ if j = 0 then bundle d (orig c (dstSlot d h)) h.val else emp)

/-- The direction that a barrier's duty stands for. -/
def dirOf : Bool → Dir
  | false => .r
  | true => .l

/-! ## The schedule -/

/-- The duties of the one round of a semaphore of this use. -/
def dutiesAs : Role → Finset Bool
  | .snd d h j => if live d h j then {false} else ∅
  | .rcv d h j => if live d h j then {false} else ∅
  | .rowSnd _ => {false}
  | .rowRcv _ => {false}
  | .stage => ∅

/-- The duties of a semaphore's one round. -/
def dutiesOf : SemLoc sig → Finset Bool
  | .reg s => if s = barS then Finset.univ else ∅
  | .dma s => dutiesAs (role s)

/-- What one duty of a semaphore of this use counts. -/
def amountAs : Role → ℕ
  | .snd _ _ _ => NH
  | .rcv _ _ _ => NH
  | .rowSnd _ => NR
  | .rowRcv _ => NR
  | .stage => 1

/-- What one duty counts. -/
def amountOf : SemLoc sig → ℕ
  | .reg _ => 1
  | .dma s => amountAs (role s)

/-- What one duty of a semaphore of this use hands over. -/
def payloadAs (c : Dev nD) : Role → sProp 𝕄
  | .snd d h j => halfAt X c (srcSlot d h) j (sq d h)
  | .rcv d h j => rcvPay X c d h j
  | .rowSnd e => rowAt X B c 0 (rq e.val)
  | .rowRcv e => rowAt X B c (rowOf e) fullShare
  | .stage => iprop(emp)

/-- What one duty hands over. -/
def payloadOf (c : Dev nD) (u : Bool) : SemLoc sig → sProp 𝕄
  | .reg _ => barPay (dirOf u) c
  | .dma s => payloadAs X B c (role s)

/-- One round of every cell. -/
def Rd : Rounds.Schedule (GSem nD τ sig) Bool 𝕄 where
  duties g r := if r = 0 ∧ g.1.2 = .tc then dutiesOf g.2 else ∅
  unitless _ := False
  amount g _ _ := amountOf g.2
  payload g _ u := payloadOf X B g.1.1 u g.2
  amount_pos g _ _ _ := by
    cases h : g.2 with
    | reg s => exact Nat.one_pos
    | dma s =>

      show 0 < amountAs (role s)
      unfold amountAs
      split <;> first | exact NH_pos | exact NR_pos | exact Nat.one_pos

omit [FloatOps F] in
theorem storable_list {I : Type} (l : List I) (Φ : I → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance

instance gift_storable (o : Dev nD) (e : Fin 31) : BI.Storable (upEmb : UEmb _ 𝕄) (gift (F := F) o e) := by
  unfold gift rowAny; infer_instance

instance bundle_storable (d : Dir) (o : Dev nD) (h : ℕ) : BI.Storable (upEmb : UEmb _ 𝕄) (bundle (F := F) d o h) :=
  storable_list _ _

instance dest_storable (d : Dir) (c : Dev nD) (h : Fin 16) (j : Fin 2) :
    BI.Storable (upEmb : UEmb _ 𝕄) (dest (F := F) d c h j) := by
  unfold dest halfAny; infer_instance

instance payload_storable (g : GSem nD τ sig) (r : ℕ) (u : Bool) :
    BI.Storable (upEmb : UEmb _ 𝕄) ((Rd X B).payload g r u) := by
  show BI.Storable upEmb (payloadOf X B g.1.1 u g.2)
  cases g.2 with
  | reg s => show BI.Storable upEmb (barPay (dirOf u) g.1.1); exact storable_list _ _
  | dma s =>
    show BI.Storable upEmb (payloadAs X B g.1.1 (role s))
    unfold payloadAs
    split
    · unfold halfAt; infer_instance
    · unfold rcvPay halfAt; split <;> infer_instance
    · unfold rowAt; infer_instance
    · unfold rowAt; infer_instance
    · infer_instance

theorem duties_later (g : GSem nD τ sig) : ∀ r, 1 ≤ r → (Rd X B).duties g r = ∅ :=
  fun r hr => by dsimp only [Rd]; exact if_neg fun h => by omega

theorem duties_at (c : Dev nD) (sm : SemLoc sig) : (Rd X B).duties ((c : Thread nD τ), sm) 0 = dutiesOf sm := by
  dsimp only [Rd]; exact if_pos ⟨rfl, rfl⟩

section Duties

variable (c : Dev nD) (d : Dir) (h : Fin 16) (j : Fin 2) (e : Fin 31)

theorem duties_snd (hl : live d h j = true) : (Rd X B).duties (sndCell c d h j) 0 = {false} := by
  rw [duties_at]; show dutiesAs (role _) = _; rw [role_snd]; exact if_pos hl
theorem duties_rcv (hl : live d h j = true) : (Rd X B).duties (rcvCell c d h j) 0 = {false} := by
  rw [duties_at]; show dutiesAs (role _) = _; rw [role_rcv]; exact if_pos hl
theorem duties_rowSnd : (Rd X B).duties (rowSndCell c e) 0 = {false} := by
  rw [duties_at]; show dutiesAs (role _) = _; rw [role_rowSnd]; rfl
theorem duties_rowRcv : (Rd X B).duties (rowRcvCell c e) 0 = {false} := by
  rw [duties_at]; show dutiesAs (role _) = _; rw [role_rowRcv]; rfl
theorem duties_bar : (Rd X B).duties (barCell c) 0 = Finset.univ := by
  rw [duties_at]; show (if barS = barS then Finset.univ else ∅) = _; exact if_pos rfl

theorem amount_snd (u : Bool) : (Rd X B).amount (sndCell c d h j) 0 u = NH := by
  show amountAs (role _) = _; rw [role_snd]; rfl
theorem amount_rcv (u : Bool) : (Rd X B).amount (rcvCell c d h j) 0 u = NH := by
  show amountAs (role _) = _; rw [role_rcv]; rfl
theorem amount_rowSnd (u : Bool) : (Rd X B).amount (rowSndCell c e) 0 u = NR := by
  show amountAs (role _) = _; rw [role_rowSnd]; rfl
theorem amount_rowRcv (u : Bool) : (Rd X B).amount (rowRcvCell c e) 0 u = NR := by
  show amountAs (role _) = _; rw [role_rowRcv]; rfl
theorem amount_bar (u : Bool) : (Rd X B).amount (barCell c) 0 u = 1 := rfl

theorem payload_snd (u : Bool) : (Rd X B).payload (sndCell c d h j) 0 u = halfAt X c (srcSlot d h) j (sq d h) := by
  show payloadAs X B c (role _) = _; rw [role_snd]; rfl
theorem payload_rcv (u : Bool) : (Rd X B).payload (rcvCell c d h j) 0 u = rcvPay X c d h j := by
  show payloadAs X B c (role _) = _; rw [role_rcv]; rfl
theorem payload_rowSnd (u : Bool) : (Rd X B).payload (rowSndCell c e) 0 u = rowAt X B c 0 (rq e.val) := by
  show payloadAs X B c (role _) = _; rw [role_rowSnd]; rfl
theorem payload_rowRcv (u : Bool) : (Rd X B).payload (rowRcvCell c e) 0 u = rowAt X B c (rowOf e) fullShare := by
  show payloadAs X B c (role _) = _; rw [role_rowRcv]; rfl
theorem payload_bar (u : Bool) : (Rd X B).payload (barCell c) 0 u = barPay (dirOf u) c := rfl

/-- What a cell of a single duty expects. -/
theorem expect_one (g : GSem nD τ sig) (N : ℕ) (hd : (Rd X B).duties g 0 = {false}) (ha : ∀ u, (Rd X B).amount g 0 u = N) :
    (Rd X B).expect g 0 = N := by
  unfold Schedule.expect Schedule.amountOf; rw [hd, Finset.sum_singleton, ha]

/-- What its round hands over. -/
theorem rest_one (g : GSem nD τ sig) (Φ : sProp 𝕄) (hd : (Rd X B).duties g 0 = {false})
    (hp : ∀ u, (Rd X B).payload g 0 u = Φ) :
    bigSep ((Rd X B).duties g 0 \ ∅) (fun u => (Rd X B).payload g 0 u) = Φ := by
  rw [Finset.sdiff_empty, hd, bigSep_singleton, hp]

theorem expect_bar : (Rd X B).expect (barCell c) 0 = 2 := by
  unfold Schedule.expect Schedule.amountOf; rw [duties_bar]; rfl

theorem rest_bar : bigSep ((Rd X B).duties (barCell c) 0 \ ∅) (fun u => (Rd X B).payload (barCell c) 0 u)
    = iprop(barPay .r c ∗ barPay .l c) := by
  rw [Finset.sdiff_empty, duties_bar, show (Finset.univ : Finset Bool) = {false, true} from by decide,
    bigSep_insert (by decide), bigSep_singleton]
  rfl

end Duties

/-! ## What is owed, and the levels -/

/-- The order in which the receive semaphores of the ring are counted up. -/
def lvl (d : Dir) (h : Fin 16) (j : Fin 2) : ℕ := 10 + 4 * h.val + 2 * j.val + (match d with | .r => 0 | .l => 1)

/-- The level of a cell: sends below the barrier, the barrier below the ring's receives, these in the order of
    their transfers, the receives of the maxima above all. -/
def lvAs : Role → ℕ
  | .snd _ _ _ => 1
  | .rcv d h j => lvl d h j
  | .rowSnd _ => 1
  | .rowRcv _ => 1000
  | .stage => 0

def lvOf : SemLoc sig → ℕ
  | .reg s => if s = barS then 2 else 0
  | .dma s => lvAs (role s)

def lv (g : GSem nD τ sig) (_ : Unit) : ℕ := lvOf g.2

def L (g : GSem nD τ sig) : Finset Unit := if g.1.2 = .tc then {()} else ∅

theorem L_tc (c : Dev nD) (sm : SemLoc sig) : L ((c : Thread nD τ), sm) = {()} := if_pos rfl

theorem lv_rcv (c : Dev nD) (d : Dir) (h : Fin 16) (j : Fin 2) : lv (rcvCell c d h j) () = lvl d h j := by
  show lvAs (role _) = _; rw [role_rcv]; rfl
theorem lv_snd (c : Dev nD) (d : Dir) (h : Fin 16) (j : Fin 2) : lv (sndCell c d h j) () = 1 := by
  show lvAs (role _) = _; rw [role_snd]; rfl
theorem lv_rowSnd (c : Dev nD) (e : Fin 31) : lv (rowSndCell c e) () = 1 := by
  show lvAs (role _) = _; rw [role_rowSnd]; rfl
theorem lv_rowRcv (c : Dev nD) (e : Fin 31) : lv (rowRcvCell c e) () = 1000 := by
  show lvAs (role _) = _; rw [role_rowRcv]; rfl
theorem lv_bar (c : Dev nD) : lv (barCell c) () = 2 := by
  show (if barS = barS then 2 else 0) = 2; exact if_pos rfl

/-- What an event pays. -/
def debt (c : Dev nD) : Ev → CellTallies nD τ sig Unit
  | .start d h j => tallyAt (rcvCell (nb d c) d h j) () NH
  | .put e => tallyAt (rowRcvCell (rowTo c e) e) () NR
  | _ => 0

/-- What is owed before a list of events. -/
def owed (c : Dev nD) : List Ev → CellTallies nD τ sig Unit
  | [] => 0
  | e :: es => owed c es + debt c e

/-- The level of what an event pays; beyond all levels if nothing. -/
def debtLv : Ev → ℕ
  | .start d h j => lvl d h j
  | .put _ => 1000
  | _ => 2000

/-- All that is owed lies above level `n`. -/
def Above (n : ℕ) (O : CellTallies nD τ sig Unit) : Prop :=
  ∀ g u, 0 < O g u → g.1.2 = .tc ∧ n < lv g u

theorem above_zero (n : ℕ) : Above n 0 := fun _ _ h => absurd h (Nat.lt_irrefl 0)

theorem above_add {n : ℕ} {O O' : CellTallies nD τ sig Unit} (h : Above n O) (h' : Above n O') : Above n (O + O') := by
  intro g u hg
  rw [Pi.add_apply, Finsupp.add_apply] at hg
  rcases Nat.add_pos_iff_pos_or_pos.mp hg with hg | hg
  · exact h g u hg
  · exact h' g u hg

theorem above_tally {n N : ℕ} (c : Dev nD) (sm : SemLoc sig) (h : n < lv ((c : Thread nD τ), sm) ()) :
    Above n (tallyAt ((c : Thread nD τ), sm) () N) := by
  intro g u hg
  rw [tallyAt_apply] at hg
  by_cases e : g = ((c : Thread nD τ), sm) ∧ u = ()
  · rw [e.1]; exact ⟨rfl, h⟩
  · rw [if_neg e] at hg; exact absurd hg (Nat.lt_irrefl 0)

theorem above_debt {n : ℕ} (c : Dev nD) (e : Ev) (h : n < debtLv e) : Above n (debt c e) := by
  cases e with
  | start d h' j => exact above_tally _ _ (by rw [lv_rcv]; exact h)
  | put e => exact above_tally _ _ (by rw [lv_rowRcv]; exact h)
  | _ => exact above_zero n

theorem above_owed {n : ℕ} (c : Dev nD) (es : List Ev) (h : ∀ e ∈ es, n < debtLv e) : Above n (owed c es) := by
  induction es with
  | nil => exact above_zero n
  | cons e es ih =>
    exact above_add (ih fun e' he => h e' (List.mem_cons_of_mem _ he)) (above_debt c e (h e List.mem_cons_self))

omit [FloatOps F] in
/-- A wait on a cell below all that is owed. -/
theorem mayWait (c : Dev nD) (sm : SemLoc sig) (O : CellTallies nD τ sig Unit)
    (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.KernelIdeal.Ring

end
-- ==== Proof.Steps.lean ====
/- One event at a time.

   What a device holds between two events is a collection of atoms: parts of the gathered slots, permissions to
   start a transfer, transfers under way, semaphores done with.  Each event takes a few atoms and leaves a few
   others (`pre`, `post`), and the rest of the state is the copy of `w`, the table of origins, the product so far,
   and what the device owes.  `step_wp` is the rule of one event. -/
module

public import proofs.«01_k».proof.Proof.Protocol

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → Vec F S128x4096 .bf16) (B : Dev nD → Vec F S4096x256 .bf16)

local notation "𝕄" => MT nD τ sig Unit (Elt F) ℕ UU ℕ

abbrev 𝒱₀ : Variants := Variants.none

/-! ## All cells, and what every device knows of them -/

theorem barCell_inj : Function.Injective barCell := fun c c' h => by
  have := congrArg (fun g : GSem nD τ sig => g.1.1) h; exact this

/-- The kernel's own DMA semaphores, by number. -/
abbrev ownDma (k : Fin 190) : DmaSem sig := ⟨4 + k.val, by have := k.isLt; show 4 + k.val < 194; omega⟩

/-- The cell of such a semaphore on a device. -/
abbrev dmaCell (p : Dev nD × Fin 190) : GSem nD τ sig := ((p.1 : Thread nD τ), .dma (ownDma p.2))

theorem dmaCell_inj : Function.Injective dmaCell := fun p p' h => by
  have h1 := congrArg (fun g : GSem nD τ sig => g.1.1) h
  have h2 : SemLoc.dma (ownDma p.2) = SemLoc.dma (ownDma p'.2) := congrArg Prod.snd h
  have h3 : (ownDma p.2).val = (ownDma p'.2).val := congrArg Fin.val (SemLoc.dma.inj h2)
  refine Prod.ext h1 (Fin.ext ?_)
  have : 4 + p.2.val = 4 + p'.2.val := h3
  omega

/-- The barriers' cells. -/
def bars : Finset (GSem nD τ sig) := Finset.univ.map ⟨barCell, barCell_inj⟩
/-- The transfers' cells. -/
def dmas : Finset (GSem nD τ sig) := Finset.univ.map ⟨dmaCell, dmaCell_inj⟩

theorem mem_bars (c : Dev nD) : barCell c ∈ bars ∪ dmas :=
  Finset.mem_union_left _ (Finset.mem_map_of_mem _ (Finset.mem_univ c))

theorem mem_dmas (c : Dev nD) (s : DmaSem sig) (h : 4 ≤ s.val) : ((c : Thread nD τ), SemLoc.dma s) ∈ bars ∪ dmas := by
  refine Finset.mem_union_right _ (Finset.mem_map.mpr ⟨(c, ⟨s.val - 4, ?_⟩), Finset.mem_univ _, ?_⟩)
  · have : s.val < 194 := s.isLt
    omega
  · show ((c : Thread nD τ), SemLoc.dma (ownDma ⟨s.val - 4, _⟩)) = _
    congr 2
    exact Fin.ext (by show 4 + (s.val - 4) = s.val; omega)

theorem ge_snd : ∀ (d : Dir) (h : Fin 16) (j : Fin 2), 4 ≤ (sndS d h j).val := by intro d; cases d <;> decide +kernel
theorem ge_rcv : ∀ (d : Dir) (h : Fin 16) (j : Fin 2), 4 ≤ (rcvS d h j).val := by intro d; cases d <;> decide +kernel
theorem ge_rowSnd : ∀ e : Fin 31, 4 ≤ (rowSndS e).val := by decide +kernel
theorem ge_rowRcv : ∀ e : Fin 31, 4 ≤ (rowRcvS e).val := by decide +kernel

theorem mem_snd (c : Dev nD) (d : Dir) (h : Fin 16) (j : Fin 2) : sndCell c d h j ∈ bars ∪ dmas := mem_dmas c _ (ge_snd d h j)
theorem mem_rcv (c : Dev nD) (d : Dir) (h : Fin 16) (j : Fin 2) : rcvCell c d h j ∈ bars ∪ dmas := mem_dmas c _ (ge_rcv d h j)
theorem mem_rowSnd (c : Dev nD) (e : Fin 31) : rowSndCell c e ∈ bars ∪ dmas := mem_dmas c _ (ge_rowSnd e)
theorem mem_rowRcv (c : Dev nD) (e : Fin 31) : rowRcvCell c e ∈ bars ∪ dmas := mem_dmas c _ (ge_rowRcv e)

/-- What every device knows: every cell's invariant, and every cell's level. -/
def Ctx (κ : GSem nD τ sig → ℕ) : sProp 𝕄 :=
  iprop((bigSep (bars ∪ dmas) fun g => cellInv ER (Rd X B) (κ g) g) ∗ levAts L lv)

instance ctx_persistent (κ : GSem nD τ sig → ℕ) : BI.Persistent (Ctx X B κ) := by unfold Ctx; infer_instance

theorem inv_of (κ : GSem nD τ sig → ℕ) {g : GSem nD τ sig} (hg : g ∈ bars ∪ dmas) :
    Ctx X B κ ⊢ cellInv ER (Rd X B) (κ g) g := by
  unfold Ctx; exact sep_elim_left.trans (bigSep_elim hg)

theorem mayWait_of (κ : GSem nD τ sig → ℕ) (c : Dev nD) (sm : SemLoc sig) (O : CellTallies nD τ sig Unit)
    (h : Above (lv ((c : Thread nD τ), sm) ()) O) : Ctx X B κ ⊢ MayWait (c : Thread nD τ) sm () O := by
  unfold Ctx; exact sep_elim_right.trans (mayWait c sm O h)

/-! ## The table of origins -/

/-- The slot whose origin an entry names. -/
def slotOf (i : Fin 33) : Fin 32 := if i.val ≤ 17 then Fin.ofNat 32 (i.val - 1) else Fin.ofNat 32 (49 - i.val)

/-- Entry `i`: the right neighbour, the left neighbour, then the origins of the slots in the order of use. -/
def entry (c : Dev nD) (i : Fin 33) : BitVec 32 :=
  if i.val = 0 then BitVec.ofNat 32 (nb .r c).val
  else if i.val = 1 then BitVec.ofNat 32 (nb .l c).val
  else BitVec.ofNat 32 (orig c (slotOf i)).val

/-- The table that device `c` reads. -/
def table (c : Dev nD) : Vec F S33 .i32 := fun i => entry c (i 0)

theorem origin_ok : ∀ o : Dev nD, k0_chk3 (BitVec.ofNat 32 o.val) := by decide +kernel
theorem origin_off : ∀ o : Dev nD, k0_off2 (BitVec.ofNat 32 o.val) = ![128 * o.val, 0] := by decide +kernel

/-! ## The atoms -/

/-- One thing that a device may hold between two events. -/
inductive At
  /-- The share of the own block's half that goes round in direction `d`. -/
  | own (d : Dir) (j : Fin 2)
  /-- The share of a half slot that the products read. -/
  | keep (s : Fin 32) (j : Fin 2)
  /-- The share of a half slot that is passed on. -/
  | send (s : Fin 32) (j : Fin 2)
  /-- What starting a transfer needs besides its source. -/
  | go (d : Dir) (h : Fin 16) (j : Fin 2)
  /-- A transfer that may not have left yet. -/
  | out (d : Dir) (h : Fin 16) (j : Fin 2)
  /-- A transfer that is to land here. -/
  | inc (d : Dir) (h : Fin 16) (j : Fin 2)
  | doneS (d : Dir) (h : Fin 16) (j : Fin 2)
  | doneR (d : Dir) (h : Fin 16) (j : Fin 2)
  /-- The permissions that travel on with the block of hop `h`. -/
  | rest (d : Dir) (h : Fin 16)
  /-- The permission that came with the block of hop `h`, by the hop … -/
  | gift (d : Dir) (h : Fin 16)
  /-- … and by the send that uses it. -/
  | rgift (e : Fin 31)
  /-- What a send of the maximum needs besides. -/
  | rgo (e : Fin 31)
  | rsh (e : Fin 31)
  | rout (e : Fin 31)
  | rinc (e : Fin 31)
  | rrow (e : Fin 31)
  | doneP (e : Fin 31)
  | doneG (e : Fin 31)
  deriving DecidableEq

/-- What an atom stands for on device `c`. -/
def At.holds (c : Dev nD) : At → sProp 𝕄
  | .own d j => halfAt X c 0 j (sq d 0)
  | .keep s j => halfAt X c s j fullShare.left
  | .send s j => halfAt X c s j fullShare.right
  | .go d h j => iprop((halfAny (nb d c) (dstSlot d h) j ∗ reached ER (rcvCell (nb d c) d h j) 0)
      ∗ dutyTok ER (sndCell c d h j) 0 false ∗ dutyTok ER (rcvCell (nb d c) d h j) 0 false
      ∗ reached ER (sndCell c d h j) 0 ∗ atPos ER (sndCell c d h j) 0 ∅ 0)
  | .out d h j => iprop(cred (tallyAt (sndCell c d h j) () NH) ∗ atPos ER (sndCell c d h j) 0 ∅ 0)
  | .inc d h j => iprop(cred (tallyAt (rcvCell c d h j) () NH) ∗ atPos ER (rcvCell c d h j) 0 ∅ 0)
  | .doneS d h j => atPos ER (sndCell c d h j) 1 ∅ 0
  | .doneR d h j => atPos ER (rcvCell c d h j) 1 ∅ 0
  | .rest d h => bundle d (orig c (srcSlot d h)) h.val
  | .gift d h => Ring.gift (orig c (dstSlot d h)) (rowNo d (orig c (dstSlot d h)) h.val)
  | .rgift e => Ring.gift (rowTo c e) e
  | .rgo e => iprop(dutyTok ER (rowSndCell c e) 0 false ∗ dutyTok ER (rowRcvCell (rowTo c e) e) 0 false
      ∗ reached ER (rowSndCell c e) 0 ∗ atPos ER (rowSndCell c e) 0 ∅ 0)
  | .rsh e => rowAt X B c 0 (rq e.val)
  | .rout e => iprop(cred (tallyAt (rowSndCell c e) () NR) ∗ atPos ER (rowSndCell c e) 0 ∅ 0)
  | .rinc e => iprop(cred (tallyAt (rowRcvCell c e) () NR) ∗ atPos ER (rowRcvCell c e) 0 ∅ 0)
  | .rrow e => rowAt X B c (rowOf e) fullShare
  | .doneP e => atPos ER (rowSndCell c e) 1 ∅ 0
  | .doneG e => atPos ER (rowRcvCell c e) 1 ∅ 0

/-- The share that a transfer's source is read at. -/
def srcAt (d : Dir) (h : Fin 16) (j : Fin 2) : At := if h.val = 0 then .own d j else .send (srcSlot d h) j

theorem srcAt_holds (c : Dev nD) (d : Dir) (h : Fin 16) (j : Fin 2) :
    (srcAt d h j).holds X B c = halfAt X c (srcSlot d h) j (sq d h) := by
  unfold srcAt
  by_cases h0 : h.val = 0
  · obtain rfl : h = 0 := Fin.ext h0
    cases d <;> rfl
  · rw [if_neg h0]
    show halfAt X c (srcSlot d h) j fullShare.right = _
    unfold sq; rw [if_neg h0]

/-- What an event takes. -/
def pre : Ev → List At
  | .start d h j => srcAt d h j :: .go d h j :: if j = 0 then [.rest d h] else []
  | .recv d h j => [.inc d h j]
  | .gemm s _ => [.keep s 0, .keep s 1]
  | .sent d h j => [.out d h j]
  | .put e => [.rgift e, .rgo e, .rsh e]
  | .got e => [.rinc e]
  | .gone e => [.rout e]

/-- What an event leaves. -/
def post : Ev → List At
  | .start d h j => [.out d h j]
  | .recv d h j => .keep (dstSlot d h) j :: .send (dstSlot d h) j :: .doneR d h j ::
      if j = 0 then .gift d h :: (if hh : h.val + 1 < 16 then [.rest d ⟨h.val + 1, hh⟩] else []) else []
  | .gemm s _ => [.keep s 0, .keep s 1]
  | .sent d h j => [srcAt d h j, .doneS d h j]
  | .put e => [.rout e]
  | .got e => [.rrow e, .doneG e]
  | .gone e => [.rsh e, .doneP e]

/-- The event is one that the protocol provides for. -/
def ok : Ev → Bool
  | .start d h j => live d h j
  | .recv d h j => live d h j
  | .gemm s i => decide (2 ≤ i.val) && decide (slotOf i = s)
  | .sent d h j => live d h j
  | _ => true

/-- The level of the cell that an event waits on. -/
def waitLv : Ev → ℕ
  | .recv d h j => lvl d h j
  | .sent _ _ _ => 1
  | .got _ => 1000
  | .gone _ => 1
  | _ => 0

/-- The origins whose products are stored, after an event. -/
def stored (c : Dev nD) : Ev → List (Dev nD) → List (Dev nD)
  | .gemm s _, os => orig c s :: os
  | _, os => os

/-- The largest magnitude, after an event. -/
def peaked (c : Dev nD) : Ev → F .f32 → F .f32
  | .gemm s _, a => Scalar.maximumf a (peak (slotV X (orig c s)) (colsV B c))
  | _, a => a

/-- The copy of `w` and the table of origins. -/
def Fix (c : Dev nD) : sProp 𝕄 :=
  iprop((vM.view.loc (c : Thread nD τ) ↦[Finset.univ]{fullShare} colsV B c)
    ∗ (tM.view.loc (c : Thread nD τ) ↦[Finset.univ]{fullShare} table (F := F) c))

/-- The result's buffer, holding the products of the origins `os`. -/
def Out (c : Dev nD) (os : List (Dev nD)) : sProp 𝕄 :=
  iprop(∃ f, (oM.view.loc (c : Thread nD τ) ↦[Finset.univ]{fullShare} f) ∗ ⌜Agrees X B c os f⌝)

/-- The device owes this. -/
def Owes (c : Dev nD) (O : CellTallies nD τ sig Unit) : sProp 𝕄 := iprop(∃ W, owes (c : Thread nD τ) O W)

/-- The program's weakest precondition on device `c`. -/
abbrev wpOn (c : Dev nD) (p : P F) (Q : PUnit.{1} → sProp (MT nD τ sig Unit (Elt F) ℕ UU ℕ)) : sProp 𝕄 :=
  wp frame (wpE (defs₀ (F := F)) 𝒱₀ (c : Thread nD τ) none) Set.univ p Q

section Events

variable (κ : GSem nD τ sig → ℕ) (c : Dev nD) (O : CellTallies nD τ sig Unit) (Q : PUnit.{1} → sProp (MT nD τ sig Unit (Elt F) ℕ UU ℕ))
variable (a : F .f32) (k : F .f32 → P F)

/-- The start of a transfer round the ring. -/
theorem start_wp (d : Dir) (h : Fin 16) (j : Fin 2) (hl : live d h j = true) :
    iprop(Ctx X B κ ∗ halfAt X c (srcSlot d h) j (sq d h) ∗ (At.go d h j).holds X B c
        ∗ (if j = 0 then bundle d (orig c (srcSlot d h)) h.val else emp)
        ∗ Owes c (O + debt c (.start d h j))
        ∗ (((At.out d h j).holds X B c ∗ Owes c O) -∗ wpOn c (k a) Q))
      ⊢ wpOn c (step c (nb .r c) (nb .l c) (.start d h j) a k) Q := by
  have hstep : step c (nb .r c) (nb .l c) (.start d h j) a k
      = .op (.enqueueDma (halfM (srcSlot d h) j)
        (.remote (Dev.tc (nb d c)) (halfM (dstSlot d h) j) (.dma (sndS d h j))) (.dma (rcvS d h j))
        (((Memref.isWhole_whole cc0_scratch0).wordExact_slice rfl _ (words_half _ _)).reshape _ _)
        (((Memref.isWhole_whole cc0_scratch0).wordExact_slice rfl _ (words_half _ _)).reshape _ _)
        ⟨⟨rfl, Or.inl rfl⟩, trivial⟩) fun _ => k a := by cases d <;> rfl
  have hsend := fun (fd : Buf (Elt F) ((halfM (dstSlot d h) j).view.loc (Dev.tc (nb d c) : Thread nD τ))) (W : Waits sig Unit) =>
    Rounds.wp_send_pointsTo_with (Q := Q) (Γ := .empty) 𝒱₀ ER (Rd X B) (c : Thread nD τ) none
    (κ₁ := κ (sndCell c d h j)) (κ₂ := κ (rcvCell (nb d c) d h j)) (r₁ := 0) (r₂ := 0) (d₁ := false) (d₂ := false)
    (c' := Dev.tc (nb d c)) (src := halfM (srcSlot d h) j) (dst := halfM (dstSlot d h) j)
    (sS := .dma (sndS d h j)) (sem := .dma (rcvS d h j)) (k := fun _ => k a) (defs := defs₀ (F := F))
    (hsrc := ((Memref.isWhole_whole cc0_scratch0).wordExact_slice rfl _ (words_half _ _)).reshape _ _)
    (hdst := ((Memref.isWhole_whole cc0_scratch0).wordExact_slice rfl _ (words_half _ _)).reshape _ _)
    (hsem := ⟨⟨rfl, Or.inl rfl⟩, trivial⟩) (hsc := rfl)
    (q := sq d h) (fs := slots X c) (fd := fd)
    (F := if j = 0 then bundle d (orig c (srcSlot d h)) h.val else iprop(emp))
    (by rw [duties_snd X B c d h j hl]; exact Finset.mem_singleton_self _)
    (by rw [show ((Dev.tc (nb d c) : Thread nD τ), SemLoc.dma (rcvS d h j)) = rcvCell (nb d c) d h j from rfl,
          duties_rcv X B (nb d c) d h j hl]; exact Finset.mem_singleton_self _)
    () () NH rfl (amount_snd X B c d h j false) (amount_rcv X B (nb d c) d h j false)
    O (O₀ := O + debt c (.start d h j)) rfl (W := W) (Es := Set.univ)
    (by rw [payload_snd]; unfold halfAt; exact BI.Entails.refl _)
    (by
      rw [show ((Dev.tc (nb d c) : Thread nD τ), SemLoc.dma (rcvS d h j)) = rcvCell (nb d c) d h j from rfl, payload_rcv]
      unfold rcvPay halfAt
      rw [orig_nb, pointsTo_congr (half_lands X d c h j fd)])
  iintro ⟨#HC, Hs, Hgo, HF, HO, Hk⟩
  unfold At.holds Owes halfAny
  icases Hgo with ⟨⟨⟨%fd, Hd⟩, #Hrr⟩, Ht, Ht', #Hrs, Hat⟩
  icases HO with ⟨%W, HO⟩
  ihave #HI := (inv_of X B κ (mem_snd c d h j)) $$ HC
  ihave #HI' := (inv_of X B κ (mem_rcv (nb d c) d h j)) $$ HC
  rw [hstep]
  iapply (hsend fd W) $$ [Hs Hd HF HO Ht Ht']
  · isplitr; · iexact HI
    isplitr; · iexact HI'
    isplitl [Hs]; · unfold halfAt; iexact Hs
    isplitl [Hd HF]
    · isplitl [Hd]; · iexact Hd
      iexact HF
    isplitl [HO]; · iexact HO
    isplitl [Ht]; · iexact Ht
    isplitr; · iexact Hrs
    isplitl [Ht']; · iexact Ht'
    iexact Hrr
  iintro ⟨Hc, HO⟩
  iapply Hk
  isplitl [Hc Hat]
  · isplitl [Hc]; · iexact Hc
    iexact Hat
  iexists W; iexact HO

/-- A wait on a cell of one round and one duty: its payload comes, and the cell is at its end. -/
theorem wait_wp (sm : DmaSem sig) (hm : 4 ≤ sm.val) (N : ℕ) (Φ : sProp 𝕄)
    {s : Shape} {e : EltTy} {sp sp' : Space} {src : Memref sig .tc sp s e} {dst : Memref sig .tc sp' s e}
    {hs : src.view.WordExact} {hd : dst.view.WordExact} (hN : dst.view.dmaCredit = N)
    (hdu : (Rd X B).duties ((c : Thread nD τ), .dma sm) 0 = {false})
    (ham : ∀ u, (Rd X B).amount ((c : Thread nD τ), .dma sm) 0 u = N)
    (hpa : ∀ u, (Rd X B).payload ((c : Thread nD τ), .dma sm) 0 u = Φ)
    (hO : Above (lv ((c : Thread nD τ), .dma sm) ()) O) (k' : P F) :
    iprop(Ctx X B κ ∗ cred (tallyAt ((c : Thread nD τ), .dma sm) () N) ∗ atPos ER ((c : Thread nD τ), .dma sm) 0 ∅ 0
        ∗ Owes c O ∗ ((Φ ∗ atPos ER ((c : Thread nD τ), .dma sm) 1 ∅ 0 ∗ Owes c O) -∗ wpOn c k' Q))
      ⊢ wpOn c (.op (.waitDma2 sm src dst hs hd) fun _ => k') Q := by
  iintro ⟨#HC, Hc, Hat, HO, Hk⟩
  unfold Owes
  icases HO with ⟨%W, HO⟩
  ihave #HI := (inv_of X B κ (mem_dmas c sm hm)) $$ HC
  ihave #HM := (mayWait_of X B κ c (.dma sm) O hO) $$ HC
  iapply (Rounds.wp_wait_rest_token 𝒱₀ ER (Rd X B) (c : Thread nD τ) none (κ := κ ((c : Thread nD τ), .dma sm))
      (wpE_waitDma2_eq 𝒱₀ (c : Thread nD τ) none Set.univ) (Set.mem_univ _) () (O := O) (W := W) (R := 0) (m := 0) (T := ∅)
      (by rw [Nat.zero_add, expect_one X B _ N hdu ham, hN])) $$ [Hc HO Hat]
  · isplitr; · iexact HI
    isplitl [Hc]; · rw [hN]; iexact Hc
    isplitl [HO]; · iexact HO
    isplitr; · iexact HM
    iexact Hat
  iintro ⟨HO, Hat, -, Hpay⟩
  ihave Hp := (Entails.of_eq (rest_one X B _ Φ hdu hpa)) $$ Hpay
  iapply Hk
  isplitl [Hp]; · iexact Hp
  isplitl [Hat]; · iexact Hat
  iexists _; iexact HO

/-- A transfer that lands: the slot is filled, and with its first half come the permissions. -/
theorem recv_wp (d : Dir) (h : Fin 16) (j : Fin 2) (hl : live d h j = true) (hO : Above (lvl d h j) O) :
    iprop(Ctx X B κ ∗ (At.inc d h j).holds X B c ∗ Owes c O
        ∗ ((rcvPay X c d h j ∗ (At.doneR d h j).holds X B c ∗ Owes c O) -∗ wpOn c (k a) Q))
      ⊢ wpOn c (step c (nb .r c) (nb .l c) (.recv d h j) a k) Q := by
  unfold At.holds step; dsimp only
  refine BIBase.Entails.trans ?_ (wait_wp X B κ c O Q (rcvS d h j) (ge_rcv d h j) NH (rcvPay X c d h j) (by rfl)
    (duties_rcv X B c d h j hl) (amount_rcv X B c d h j) (payload_rcv X B c d h j) (by rw [lv_rcv]; exact hO) (k a))
  iintro ⟨#HC, ⟨Hc, Hat⟩, HO, Hk⟩
  isplitr; · iexact HC
  isplitl [Hc]; · iexact Hc
  isplitl [Hat]; · iexact Hat
  isplitl [HO]; · iexact HO
  iexact Hk

/-- A transfer that has left: the share of its source comes back. -/
theorem sent_wp (d : Dir) (h : Fin 16) (j : Fin 2) (hl : live d h j = true) (hO : Above 1 O) :
    iprop(Ctx X B κ ∗ (At.out d h j).holds X B c ∗ Owes c O
        ∗ ((halfAt X c (srcSlot d h) j (sq d h) ∗ (At.doneS d h j).holds X B c ∗ Owes c O) -∗ wpOn c (k a) Q))
      ⊢ wpOn c (step c (nb .r c) (nb .l c) (.sent d h j) a k) Q := by
  unfold At.holds step; dsimp only
  refine BIBase.Entails.trans ?_ (wait_wp X B κ c O Q (sndS d h j) (ge_snd d h j) NH _ (by rfl)
    (duties_snd X B c d h j hl) (amount_snd X B c d h j) (payload_snd X B c d h j) (by rw [lv_snd]; exact hO) (k a))
  iintro ⟨#HC, ⟨Hc, Hat⟩, HO, Hk⟩
  isplitr; · iexact HC
  isplitl [Hc]; · iexact Hc
  isplitl [Hat]; · iexact Hat
  isplitl [HO]; · iexact HO
  iexact Hk

/-- A maximum that lands. -/
theorem got_wp (e : Fin 31) (hO : Above 1000 O) :
    iprop(Ctx X B κ ∗ (At.rinc e).holds X B c ∗ Owes c O
        ∗ (((At.rrow e).holds X B c ∗ (At.doneG e).holds X B c ∗ Owes c O) -∗ wpOn c (k a) Q))
      ⊢ wpOn c (step c (nb .r c) (nb .l c) (.got e) a k) Q := by
  unfold At.holds step; dsimp only
  refine BIBase.Entails.trans ?_ (wait_wp X B κ c O Q (rowRcvS e) (ge_rowRcv e) NR _ (by rfl)
    (duties_rowRcv X B c e) (amount_rowRcv X B c e) (payload_rowRcv X B c e) (by rw [lv_rowRcv]; exact hO) (k a))
  iintro ⟨#HC, ⟨Hc, Hat⟩, HO, Hk⟩
  isplitr; · iexact HC
  isplitl [Hc]; · iexact Hc
  isplitl [Hat]; · iexact Hat
  isplitl [HO]; · iexact HO
  iexact Hk

/-- A maximum that has left. -/
theorem gone_wp (e : Fin 31) (hO : Above 1 O) :
    iprop(Ctx X B κ ∗ (At.rout e).holds X B c ∗ Owes c O
        ∗ (((At.rsh e).holds X B c ∗ (At.doneP e).holds X B c ∗ Owes c O) -∗ wpOn c (k a) Q))
      ⊢ wpOn c (step c (nb .r c) (nb .l c) (.gone e) a k) Q := by
  unfold At.holds step; dsimp only
  refine BIBase.Entails.trans ?_ (wait_wp X B κ c O Q (rowSndS e) (ge_rowSnd e) NR _ (by rfl)
    (duties_rowSnd X B c e) (amount_rowSnd X B c e) (payload_rowSnd X B c e) (by rw [lv_rowSnd]; exact hO) (k a))
  iintro ⟨#HC, ⟨Hc, Hat⟩, HO, Hk⟩
  isplitr; · iexact HC
  isplitl [Hc]; · iexact Hc
  isplitl [Hat]; · iexact Hat
  isplitl [HO]; · iexact HO
  iexact Hk

/-- The send of the device's maximum. -/
theorem put_wp (e : Fin 31) :
    iprop(Ctx X B κ ∗ (At.rgift e).holds X B c ∗ (At.rgo e).holds X B c ∗ (At.rsh e).holds X B c
        ∗ Owes c (O + debt c (.put e)) ∗ (((At.rout e).holds X B c ∗ Owes c O) -∗ wpOn c (k a) Q))
      ⊢ wpOn c (step c (nb .r c) (nb .l c) (.put e) a k) Q := by
  have hsend := fun (fd : Buf (Elt F) ((rowM (rowOf e)).view.loc (Dev.tc (rowTo c e) : Thread nD τ))) (W : Waits sig Unit) =>
    Rounds.wp_send_pointsTo_with (Q := Q) (Γ := .empty) 𝒱₀ ER (Rd X B) (c : Thread nD τ) none
    (κ₁ := κ (rowSndCell c e)) (κ₂ := κ (rowRcvCell (rowTo c e) e)) (r₁ := 0) (r₂ := 0) (d₁ := false) (d₂ := false)
    (c' := Dev.tc (rowTo c e)) (src := rowM 0) (dst := rowM (rowOf e))
    (sS := .dma (rowSndS e)) (sem := .dma (rowRcvS e)) (k := fun _ => k a) (defs := defs₀ (F := F))
    (hsrc := (View.wordExact_bits rfl).reshape _ _) (hdst := (View.wordExact_bits rfl).reshape _ _)
    (hsem := ⟨⟨rfl, Or.inl rfl⟩, trivial⟩) (hsc := rfl)
    (q := rq e.val) (fs := maxima X B c) (fd := fd) (F := iprop(emp))
    (by rw [duties_rowSnd]; exact Finset.mem_singleton_self _)
    (by rw [show ((Dev.tc (rowTo c e) : Thread nD τ), SemLoc.dma (rowRcvS e)) = rowRcvCell (rowTo c e) e from rfl,
          duties_rowRcv]; exact Finset.mem_singleton_self _)
    () () NR rfl (amount_rowSnd X B c e false) (amount_rowRcv X B (rowTo c e) e false)
    O (O₀ := O + debt c (.put e)) rfl (W := W) (Es := Set.univ)
    (by rw [payload_rowSnd]; unfold rowAt; exact BI.Entails.refl _)
    (by
      rw [show ((Dev.tc (rowTo c e) : Thread nD τ), SemLoc.dma (rowRcvS e)) = rowRcvCell (rowTo c e) e from rfl,
        payload_rowRcv]
      unfold rowAt
      rw [pointsTo_congr (row_lands X B c e fd)]
      exact sep_elim_left)
  iintro ⟨#HC, Hg, Hgo, Hs, HO, Hk⟩
  unfold At.holds Owes gift rowAny
  icases Hg with ⟨⟨%fd, Hd⟩, #Hrr⟩
  icases Hgo with ⟨Ht, Ht', #Hrs, Hat⟩
  icases HO with ⟨%W, HO⟩
  ihave #HI := (inv_of X B κ (mem_rowSnd c e)) $$ HC
  ihave #HI' := (inv_of X B κ (mem_rowRcv (rowTo c e) e)) $$ HC
  unfold step; dsimp only
  iapply (hsend fd W) $$ [Hs Hd HO Ht Ht']
  · isplitr; · iexact HI
    isplitr; · iexact HI'
    isplitl [Hs]; · unfold rowAt; iexact Hs
    isplitl [Hd]
    · isplitl [Hd]; · iexact Hd
      iempintro
    isplitl [HO]; · iexact HO
    isplitl [Ht]; · iexact Ht
    isplitr; · iexact Hrs
    isplitl [Ht']; · iexact Ht'
    iexact Hrr
  iintro ⟨Hc, HO⟩
  iapply Hk
  isplitl [Hc Hat]
  · isplitl [Hc]; · iexact Hc
    iexact Hat
  iexists W; iexact HO

/-- A word read from the table of origins. -/
theorem tab_wp (i : Fin 33) (off : Fin 1 → Nat) (hoff : off = ![i.val]) (inb : ∀ x, off x + S1.size x ≤ S33.size x)
    (kk : BitVec 32 → P F) :
    iprop((tM.view.loc (c : Thread nD τ) ↦[Finset.univ]{fullShare} table (F := F) c)
        ∗ ((tM.view.loc (c : Thread nD τ) ↦[Finset.univ]{fullShare} table (F := F) c) -∗ wpOn c (kk (entry c i)) Q))
      ⊢ wpOn c ((smemLoad tM (Rect.unit (s := S33) off S1.size inb) numel1_S1 rfl).bind kk) Q := by
  subst hoff
  have hval : ∀ x : S1.Idx, (tM.access (Rect.unit (s := S33) ![i.val] S1.size inb)).read (Elt F) (table c) x
      = entry c i := by
    intro x
    show entry c ((Rect.unit (s := S33) ![i.val] S1.size inb).emb x 0) = _
    have hx : (x 0).val < 1 := (x 0).isLt
    congr 1
    refine Fin.ext ?_
    rw [ValueKit.rect_emb_unit_val]
    show i.val + (x 0).val = i.val
    omega
  show _ ⊢ wpOn c (smemLoadElt tM (Rect.unit (s := S33) ![i.val] S1.size inb) (View.loads_smem_one rfl numel1_S1)
      (Shape.Idx.first (numel1_S1.symm ▸ Nat.one_pos)) kk) Q
  iintro ⟨Ht, Hk⟩
  iapply (wp_smemLoadElt 𝒱₀ (c : Thread nD τ) none Set.univ (S := Finset.univ) (Finset.subset_univ _)) $$ [Ht]
  · iexact Ht
  rw [hval]
  iexact Hk

omit [FloatOps F] in
/-- A load of a whole buffer reads its contents. -/
theorem load_whole (f : Vec F S4096x256 .bf16) :
    vM.view.readAt (Elt F) (Rect.unit (s := S4096x256) ![0, 0] S4096x256.size inb_S4096x256_S4096x256_0_0).toLoadRect f
      = f := by
  funext z
  show f ((Rect.unit (s := S4096x256) ![0, 0] S4096x256.size inb_S4096x256_S4096x256_0_0).emb z) = f z
  congr 1
  funext x
  refine Fin.ext ?_
  rw [ValueKit.rect_emb_unit_val]
  fin_cases x <;> simp

/-- The product of a slot, stored at its origin's rows. -/
theorem gemm_wp (s : Fin 32) (i : Fin 33) (os : List (Dev nD)) (h2 : 2 ≤ i.val) (hs : slotOf i = s) :
    iprop(Fix B c ∗ Out X B c os ∗ (At.keep s 0).holds X B c ∗ (At.keep s 1).holds X B c
        ∗ ((Fix B c ∗ Out X B c (orig c s :: os) ∗ (At.keep s 0).holds X B c ∗ (At.keep s 1).holds X B c)
          -∗ wpOn c (k (Scalar.maximumf a (peak (slotV X (orig c s)) (colsV B c)))) Q))
      ⊢ wpOn c (step c (nb .r c) (nb .l c) (.gemm s i) a k) Q := by
  have hdisj : Disjoint (halfM s 0).view.set (halfM s 1).view.set :=
    half_disjoint (p := (s, 0)) (q := (s, 1)) (by simp)
  have hsub : gM.view.setOn (slotR s).toLoadRect.set ⊆ (halfM s 0).view.set ∪ (halfM s 1).view.set := by
    rw [← slot_split s]
    intro x hx
    obtain ⟨y, hy, rfl⟩ := Finset.mem_map.mp hx
    exact hy
  have hw : entry c i = BitVec.ofNat 32 (orig c s).val := by
    unfold entry; rw [if_neg (by omega), if_neg (by omega), hs]
  unfold At.holds Fix Out step halfAt; dsimp only
  iintro ⟨⟨Hv, Ht⟩, ⟨%f, Ho, %hf⟩, H0, H1, Hk⟩
  iapply (tab_wp c Q i _ rfl (inb_tab i) _)
  isplitl [Ht]; · iexact Ht
  iintro Ht
  rw [hw]
  iapply (wp_assume 𝒱₀ (c : Thread nD τ) none Set.univ (origin_ok (orig c s)))
  ihave Hg := (pointsTo_union (ℓ := gM.view.loc (c : Thread nD τ)) hdisj).2 $$ [H0 H1]
  · isplitl [H0]; · iexact H0
    iexact H1
  iapply (wp_load 𝒱₀ (c : Thread nD τ) none Set.univ (m := gM) hsub) $$ [Hg]
  · iexact Hg
  iintro Hg
  rw [slot_read]
  iapply (wp_load 𝒱₀ (c : Thread nD τ) none Set.univ (S := Finset.univ) (Finset.subset_univ _)) $$ [Hv]
  · iexact Hv
  iintro Hv
  rw [load_whole]
  iapply (wp_load 𝒱₀ (c : Thread nD τ) none Set.univ (S := Finset.univ) (Finset.subset_univ _)) $$ [Ho]
  · iexact Ho
  iintro Ho
  iapply (wp_store 𝒱₀ (c : Thread nD τ) none Set.univ (S := Finset.univ) (Finset.subset_univ _)) $$ [Ho]
  · iexact Ho
  iintro Ho
  ihave H01 := (pointsTo_union (ℓ := gM.view.loc (c : Thread nD τ)) hdisj).1 $$ Hg
  icases H01 with ⟨H0, H1⟩
  iapply Hk
  isplitl [Hv Ht]
  · isplitl [Hv] <;> iassumption
  isplitl [Ho]
  · iexists _
    isplitl [Ho]; · iexact Ho
    ipureintro
    exact store_agrees X B c (orig c s) os _ (origin_off (orig c s)) _ f hf
  isplitl [H0] <;> iassumption

end Events

end Cert.KernelIdeal.Ring

end
-- ==== Proof.Check.lean ====
/- Many events at once.

   `passes` follows the atoms through a list of events and compares what is left with what should be; `run_wp` says
   that a list which passes runs. -/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → Vec F S128x4096 .bf16) (B : Dev nD → Vec F S4096x256 .bf16)

local notation "𝕄" => MT nD τ sig Unit (Elt F) ℕ UU ℕ

/-- A collection of atoms on device `c`. -/
def Hold (c : Dev nD) (S : List At) : sProp 𝕄 := bigSepL S fun a => a.holds X B c

theorem hold_nil (c : Dev nD) : Hold X B c [] = iprop(emp) := rfl

theorem hold_cons (c : Dev nD) (x : At) (S : List At) :
    Hold X B c (x :: S) = iprop(x.holds X B c ∗ Hold X B c S) := by
  unfold Hold; rw [bigSepL_cons']

theorem hold_append (c : Dev nD) (S T : List At) :
    Hold X B c (S ++ T) ⊣⊢ iprop(Hold X B c S ∗ Hold X B c T) := by
  unfold Hold
  induction S with
  | nil => exact ⟨by iintro H; isplitr; · iempintro
                     iexact H, by iintro ⟨-, H⟩; iexact H⟩
  | cons x S ih =>
    rw [List.cons_append, bigSepL_cons', bigSepL_cons']
    constructor
    · iintro ⟨H, HS⟩
      ihave H2 := ih.1 $$ HS
      icases H2 with ⟨HS, HT⟩
      isplitr [HT]
      · isplitl [H] <;> iassumption
      iexact HT
    · iintro ⟨⟨H, HS⟩, HT⟩
      isplitl [H]; · iexact H
      iapply ih.2
      isplitl [HS] <;> iassumption

theorem hold_perm (c : Dev nD) {S T : List At} (h : S.Perm T) : Hold X B c S ⊢ Hold X B c T := by
  induction h with
  | nil => exact .rfl
  | cons x _ ih =>
    rw [hold_cons, hold_cons]
    exact sep_mono_right ih
  | swap x y l =>
    rw [hold_cons, hold_cons, hold_cons, hold_cons]
    iintro ⟨H1, H2, H3⟩
    isplitl [H2]; · iexact H2
    isplitl [H1] <;> iassumption
  | trans _ _ h1 h2 => exact h1.trans h2

/-! ## The check -/

/-- A number for an atom, to tell most atoms apart quickly. -/
def At.code : At → Nat
  | .own d j => 1 + 2 * j.val + (match d with | .r => 0 | .l => 1)
  | .keep s j => 1000 + 2 * s.val + j.val
  | .send s j => 2000 + 2 * s.val + j.val
  | .go d h j => 3000 + 4 * h.val + 2 * j.val + (match d with | .r => 0 | .l => 1)
  | .out d h j => 4000 + 4 * h.val + 2 * j.val + (match d with | .r => 0 | .l => 1)
  | .inc d h j => 5000 + 4 * h.val + 2 * j.val + (match d with | .r => 0 | .l => 1)
  | .doneS d h j => 6000 + 4 * h.val + 2 * j.val + (match d with | .r => 0 | .l => 1)
  | .doneR d h j => 7000 + 4 * h.val + 2 * j.val + (match d with | .r => 0 | .l => 1)
  | .rest d h => 8000 + 2 * h.val + (match d with | .r => 0 | .l => 1)
  | .gift d h => 9000 + 2 * h.val + (match d with | .r => 0 | .l => 1)
  | .rgift e => 10000 + e.val
  | .rgo e => 11000 + e.val
  | .rsh e => 12000 + e.val
  | .rout e => 13000 + e.val
  | .rinc e => 14000 + e.val
  | .rrow e => 15000 + e.val
  | .doneP e => 16000 + e.val
  | .doneG e => 17000 + e.val

/-- Take one atom out of a collection. -/
def take (x : At) : List At → Option (List At)
  | [] => none
  | y :: S => if x.code = y.code then (if x = y then some S else none)
    else match take x S with
      | some S' => some (y :: S')
      | none => none

/-- Take several. -/
def takeAll : List At → List At → Option (List At)
  | [], S => some S
  | x :: xs, S => match take x S with
    | some S' => takeAll xs S'
    | none => none

/-- Follow a list of events, `fut` being what is still to come after it. -/
def follow (fut : List Ev) : List Ev → List At → Option (List At)
  | [], S => some S
  | e :: es, S =>
    if ok e && (es.all fun e' => decide (waitLv e < debtLv e')) && (fut.all fun e' => decide (waitLv e < debtLv e')) then
      match takeAll (pre e) S with
      | some S' => follow fut es (post e ++ S')
      | none => none
    else none

/-- The list of events takes the collection `S` to the collection `T`. -/
def passes (fut es : List Ev) (S T : List At) : Bool :=
  match follow fut es S with
  | some S' => match takeAll T S' with
    | some _ => true
    | none => false
  | none => false

theorem take_holds (c : Dev nD) (x : At) (S S' : List At) (h : take x S = some S') :
    Hold X B c S ⊢ iprop(x.holds X B c ∗ Hold X B c S') := by
  induction S generalizing S' with
  | nil => exact absurd h (by simp [take])
  | cons y S ih =>
    unfold take at h
    split at h
    · split at h
      · rename_i hxy
        obtain rfl := Option.some.inj h
        subst hxy
        rw [hold_cons]
      · exact absurd h (by simp)
    · split at h
      · rename_i S1 hS1
        obtain rfl := Option.some.inj h
        rw [hold_cons, hold_cons]
        iintro ⟨Hy, HS⟩
        ihave H := (ih S1 hS1) $$ HS
        icases H with ⟨Hx, HS⟩
        isplitl [Hx]; · iexact Hx
        isplitl [Hy] <;> iassumption
      · exact absurd h (by simp)

theorem takeAll_holds (c : Dev nD) (xs S S' : List At) (h : takeAll xs S = some S') :
    Hold X B c S ⊢ iprop(Hold X B c xs ∗ Hold X B c S') := by
  induction xs generalizing S with
  | nil =>
    obtain rfl := Option.some.inj h
    iintro H; isplitr; · rw [hold_nil]; iempintro
    iexact H
  | cons x xs ih =>
    unfold takeAll at h
    split at h
    · rename_i S1 hS1
      rw [hold_cons]
      iintro H
      ihave H1 := (take_holds X B c x S S1 hS1) $$ H
      icases H1 with ⟨Hx, H⟩
      ihave H2 := (ih S1 h) $$ H
      icases H2 with ⟨Hxs, H⟩
      isplitr [H]
      · isplitl [Hx] <;> iassumption
      iexact H
    · exact absurd h (by simp)

omit [FloatOps F] in
/-- The permissions from hop `h` on are that of hop `h` and those from the next hop on. -/
theorem bundle_step (d : Dir) (o : Dev nD) (h : ℕ) (hl : h < lim d) :
    (bundle d o h : sProp 𝕄) ⊢ iprop(gift o (rowNo d o h) ∗ bundle d o (h + 1)) := by
  unfold bundle
  rw [show lim d - h = (lim d - (h + 1)) + 1 by omega, List.range'_succ, bigSepL_cons']

/-- A hop whose first half is sent is one that carries permissions. -/
theorem live_lim : ∀ (d : Dir) (h : Fin 16), live d h 0 = true → h.val < lim d := by
  intro d; cases d <;> decide

/-! ## One event, all kinds together -/

/-- The rule of one event. -/
theorem step_wp (κ : GSem nD τ sig → ℕ) (c : Dev nD) (O : CellTallies nD τ sig Unit)
    (Q : PUnit.{1} → sProp (MT nD τ sig Unit (Elt F) ℕ UU ℕ)) (a : F .f32) (k : F .f32 → P F)
    (e : Ev) (hok : ok e = true) (os : List (Dev nD)) (hO : Above (waitLv e) O) :
    iprop(Ctx X B κ ∗ Fix B c ∗ Out X B c os ∗ Hold X B c (pre e) ∗ Owes c (O + debt c e)
        ∗ ((Fix B c ∗ Out X B c (stored c e os) ∗ Hold X B c (post e) ∗ Owes c O) -∗ wpOn c (k (peaked X B c e a)) Q))
      ⊢ wpOn c (step c (nb .r c) (nb .l c) e a k) Q := by
  cases e with
  | start d h j =>
    refine BIBase.Entails.trans ?_ (start_wp X B κ c O Q a k d h j hok)
    show iprop(Ctx X B κ ∗ Fix B c ∗ Out X B c os
      ∗ Hold X B c (srcAt d h j :: .go d h j :: if j = 0 then [.rest d h] else []) ∗ Owes c (O + debt c (.start d h j))
      ∗ ((Fix B c ∗ Out X B c os ∗ Hold X B c [.out d h j] ∗ Owes c O) -∗ wpOn c (k a) Q)) ⊢ _
    have hF : Hold X B c (if j = 0 then [.rest d h] else []) ⊢
        (if j = 0 then bundle d (orig c (srcSlot d h)) h.val else iprop(emp) : sProp 𝕄) := by
      by_cases hj : j = 0
      · rw [if_pos hj, if_pos hj, hold_cons]; exact sep_elim_left
      · rw [if_neg hj, if_neg hj, hold_nil]
    rw [hold_cons, hold_cons, srcAt_holds, hold_cons, hold_nil]
    iintro ⟨#HC, HF, HU, ⟨Hs, Hgo, Hr⟩, HO, Hk⟩
    isplitr; · iexact HC
    isplitl [Hs]; · iexact Hs
    isplitl [Hgo]; · iexact Hgo
    isplitl [Hr]; · iapply hF; iexact Hr
    isplitl [HO]; · iexact HO
    iintro ⟨H, HO⟩
    iapply Hk
    isplitl [HF]; · iexact HF
    isplitl [HU]; · iexact HU
    isplitl [H]
    · isplitl [H]; · iexact H
      iempintro
    iexact HO
  | recv d h j =>
    refine BIBase.Entails.trans ?_ (recv_wp X B κ c O Q a k d h j hok hO)
    show iprop(Ctx X B κ ∗ Fix B c ∗ Out X B c os ∗ Hold X B c [.inc d h j] ∗ Owes c (O + 0)
      ∗ ((Fix B c ∗ Out X B c os ∗ Hold X B c (.keep (dstSlot d h) j :: .send (dstSlot d h) j :: .doneR d h j ::
          if j = 0 then .gift d h :: (if hh : h.val + 1 < 16 then [.rest d ⟨h.val + 1, hh⟩] else []) else [])
          ∗ Owes c O) -∗ wpOn c (k a) Q)) ⊢ _
    rw [add_zero]
    have hF : (if j = 0 then bundle d (orig c (dstSlot d h)) h.val else iprop(emp) : sProp 𝕄) ⊢
        Hold X B c (if j = 0 then .gift d h :: (if hh : h.val + 1 < 16 then [.rest d ⟨h.val + 1, hh⟩] else []) else []) := by
      by_cases hj : j = 0
      · subst hj
        rw [if_pos rfl, if_pos rfl, hold_cons]
        refine (bundle_step d _ h.val (live_lim d h hok)).trans (sep_mono_right ?_)
        by_cases hh : h.val + 1 < 16
        · rw [dif_pos hh, hold_cons, hold_nil]
          show _ ⊢ iprop(bundle d (orig c (srcSlot d ⟨h.val + 1, hh⟩)) (h.val + 1) ∗ emp)
          rw [show srcSlot d ⟨h.val + 1, hh⟩ = dstSlot d h from srcSlot_succ d ⟨h.val, by omega⟩]
          iintro H
          isplitl [H]; · iexact H
          iempintro
        · rw [dif_neg hh, hold_nil]; iintro -; iempintro
      · rw [if_neg hj, if_neg hj, hold_nil]
    rw [hold_cons, hold_nil, hold_cons, hold_cons, hold_cons]
    iintro ⟨#HC, HF, HU, ⟨Hi, -⟩, HO, Hk⟩
    isplitr; · iexact HC
    isplitl [Hi]; · iexact Hi
    isplitl [HO]; · iexact HO
    iintro ⟨H, Hd, HO⟩
    unfold rcvPay halfAt
    icases H with ⟨Hs, Hr⟩
    ihave Hs2 := (pointsTo_share (PosShare.mem_left_op_right fullShare)).1 $$ Hs
    icases Hs2 with ⟨Hs1, Hs2⟩
    iapply Hk
    isplitl [HF]; · iexact HF
    isplitl [HU]; · iexact HU
    isplitr [HO]
    · isplitl [Hs1]; · unfold At.holds halfAt; iexact Hs1
      isplitl [Hs2]; · unfold At.holds halfAt; iexact Hs2
      isplitl [Hd]; · iexact Hd
      iapply hF; iexact Hr
    iexact HO
  | gemm s i =>
    have h2 : 2 ≤ i.val ∧ slotOf i = s := by
      have : (decide (2 ≤ i.val) && decide (slotOf i = s)) = true := hok
      simpa using this
    refine BIBase.Entails.trans ?_ (gemm_wp X B c Q a k s i os h2.1 h2.2)
    show iprop(Ctx X B κ ∗ Fix B c ∗ Out X B c os ∗ Hold X B c [.keep s 0, .keep s 1] ∗ Owes c (O + 0)
      ∗ ((Fix B c ∗ Out X B c (orig c s :: os) ∗ Hold X B c [.keep s 0, .keep s 1] ∗ Owes c O)
        -∗ wpOn c (k (Scalar.maximumf a (peak (slotV X (orig c s)) (colsV B c)))) Q)) ⊢ _
    rw [add_zero, hold_cons, hold_cons, hold_nil]
    iintro ⟨-, HF, HU, ⟨H0, H1, -⟩, HO, Hk⟩
    isplitl [HF]; · iexact HF
    isplitl [HU]; · iexact HU
    isplitl [H0]; · iexact H0
    isplitl [H1]; · iexact H1
    iintro ⟨HF, HU, H0, H1⟩
    iapply Hk
    isplitl [HF]; · iexact HF
    isplitl [HU]; · iexact HU
    isplitl [H0 H1]
    · isplitl [H0]; · iexact H0
      isplitl [H1]; · iexact H1
      iempintro
    iexact HO
  | sent d h j =>
    refine BIBase.Entails.trans ?_ (sent_wp X B κ c O Q a k d h j hok hO)
    show iprop(Ctx X B κ ∗ Fix B c ∗ Out X B c os ∗ Hold X B c [.out d h j] ∗ Owes c (O + 0)
      ∗ ((Fix B c ∗ Out X B c os ∗ Hold X B c [srcAt d h j, .doneS d h j] ∗ Owes c O) -∗ wpOn c (k a) Q)) ⊢ _
    rw [add_zero, hold_cons, hold_nil, hold_cons, hold_cons, hold_nil, srcAt_holds]
    iintro ⟨#HC, HF, HU, ⟨Hi, -⟩, HO, Hk⟩
    isplitr; · iexact HC
    isplitl [Hi]; · iexact Hi
    isplitl [HO]; · iexact HO
    iintro ⟨H, Hd, HO⟩
    iapply Hk
    isplitl [HF]; · iexact HF
    isplitl [HU]; · iexact HU
    isplitr [HO]
    · isplitl [H]; · iexact H
      isplitl [Hd]; · iexact Hd
      iempintro
    iexact HO
  | put e =>
    refine BIBase.Entails.trans ?_ (put_wp X B κ c O Q a k e)
    show iprop(Ctx X B κ ∗ Fix B c ∗ Out X B c os ∗ Hold X B c [.rgift e, .rgo e, .rsh e] ∗ Owes c (O + debt c (.put e))
      ∗ ((Fix B c ∗ Out X B c os ∗ Hold X B c [.rout e] ∗ Owes c O) -∗ wpOn c (k a) Q)) ⊢ _
    rw [hold_cons, hold_cons, hold_cons, hold_nil, hold_cons, hold_nil]
    iintro ⟨#HC, HF, HU, ⟨H1, H2, H3, -⟩, HO, Hk⟩
    isplitr; · iexact HC
    isplitl [H1]; · iexact H1
    isplitl [H2]; · iexact H2
    isplitl [H3]; · iexact H3
    isplitl [HO]; · iexact HO
    iintro ⟨H, HO⟩
    iapply Hk
    isplitl [HF]; · iexact HF
    isplitl [HU]; · iexact HU
    isplitl [H]
    · isplitl [H]; · iexact H
      iempintro
    iexact HO
  | got e =>
    refine BIBase.Entails.trans ?_ (got_wp X B κ c O Q a k e hO)
    show iprop(Ctx X B κ ∗ Fix B c ∗ Out X B c os ∗ Hold X B c [.rinc e] ∗ Owes c (O + 0)
      ∗ ((Fix B c ∗ Out X B c os ∗ Hold X B c [.rrow e, .doneG e] ∗ Owes c O) -∗ wpOn c (k a) Q)) ⊢ _
    rw [add_zero, hold_cons, hold_nil, hold_cons, hold_cons, hold_nil]
    iintro ⟨#HC, HF, HU, ⟨Hi, -⟩, HO, Hk⟩
    isplitr; · iexact HC
    isplitl [Hi]; · iexact Hi
    isplitl [HO]; · iexact HO
    iintro ⟨H, Hd, HO⟩
    iapply Hk
    isplitl [HF]; · iexact HF
    isplitl [HU]; · iexact HU
    isplitr [HO]
    · isplitl [H]; · iexact H
      isplitl [Hd]; · iexact Hd
      iempintro
    iexact HO
  | gone e =>
    refine BIBase.Entails.trans ?_ (gone_wp X B κ c O Q a k e hO)
    show iprop(Ctx X B κ ∗ Fix B c ∗ Out X B c os ∗ Hold X B c [.rout e] ∗ Owes c (O + 0)
      ∗ ((Fix B c ∗ Out X B c os ∗ Hold X B c [.rsh e, .doneP e] ∗ Owes c O) -∗ wpOn c (k a) Q)) ⊢ _
    rw [add_zero, hold_cons, hold_nil, hold_cons, hold_cons, hold_nil]
    iintro ⟨#HC, HF, HU, ⟨Hi, -⟩, HO, Hk⟩
    isplitr; · iexact HC
    isplitl [Hi]; · iexact Hi
    isplitl [HO]; · iexact HO
    iintro ⟨H, Hd, HO⟩
    iapply Hk
    isplitl [HF]; · iexact HF
    isplitl [HU]; · iexact HU
    isplitr [HO]
    · isplitl [H]; · iexact H
      isplitl [Hd]; · iexact Hd
      iempintro
    iexact HO

/-! ## A list of events -/

/-- The origins whose products are stored, after a list of events. -/
def storedAll (c : Dev nD) : List Ev → List (Dev nD) → List (Dev nD)
  | [], os => os
  | e :: es, os => storedAll c es (stored c e os)

theorem scan_cons (c : Dev nD) (e : Ev) (es : List Ev) (a : F .f32) :
    scan X B c (e :: es) a = scan X B c es (peaked X B c e a) := by
  cases e <;> rfl

theorem follow_wp (κ : GSem nD τ sig → ℕ) (c : Dev nD) (Q : PUnit.{1} → sProp (MT nD τ sig Unit (Elt F) ℕ UU ℕ))
    (k : F .f32 → P F) (fut es : List Ev) (S S' : List At) (hf : follow fut es S = some S') (a : F .f32)
    (os : List (Dev nD)) :
    iprop(Ctx X B κ ∗ Fix B c ∗ Out X B c os ∗ Hold X B c S ∗ Owes c (owed c (es ++ fut))
        ∗ ((Fix B c ∗ Out X B c (storedAll c es os) ∗ Hold X B c S' ∗ Owes c (owed c fut))
          -∗ wpOn c (k (scan X B c es a)) Q))
      ⊢ wpOn c (run c (nb .r c) (nb .l c) es a k) Q := by
  induction es generalizing S a os with
  | nil =>
    obtain rfl := Option.some.inj hf
    iintro ⟨-, HF, HU, HS, HO, Hk⟩
    iapply Hk
    isplitl [HF]; · iexact HF
    isplitl [HU]; · iexact HU
    isplitl [HS]; · iexact HS
    iexact HO
  | cons e es ih =>
    unfold follow at hf
    split at hf
    · rename_i hc
      rw [Bool.and_eq_true, Bool.and_eq_true, List.all_eq_true, List.all_eq_true] at hc
      obtain ⟨⟨hok, h1⟩, h2⟩ := hc
      have hab : Above (waitLv e) (owed c (es ++ fut)) := above_owed c _ fun e' he => by
        rcases List.mem_append.mp he with he | he
        · exact of_decide_eq_true (h1 e' he)
        · exact of_decide_eq_true (h2 e' he)
      split at hf
      · rename_i S1 hS1
        refine BIBase.Entails.trans ?_ (step_wp X B κ c (owed c (es ++ fut)) Q a
          (fun a' => run c (nb .r c) (nb .l c) es a' k) e hok os hab)
        iintro ⟨#HC, HF, HU, HS, HO, Hk⟩
        ihave HS2 := (takeAll_holds X B c (pre e) S S1 hS1) $$ HS
        icases HS2 with ⟨Hp, HS⟩
        isplitr; · iexact HC
        isplitl [HF]; · iexact HF
        isplitl [HU]; · iexact HU
        isplitl [Hp]; · iexact Hp
        isplitl [HO]; · iexact HO
        iintro ⟨HF, HU, Hp, HO⟩
        iapply (ih (post e ++ S1) hf (peaked X B c e a) (stored c e os))
        isplitr; · iexact HC
        isplitl [HF]; · iexact HF
        isplitl [HU]; · iexact HU
        isplitl [Hp HS]
        · iapply (hold_append X B c (post e) S1).2
          isplitl [Hp] <;> iassumption
        isplitl [HO]; · iexact HO
        rw [← scan_cons]
        iexact Hk
      · exact absurd hf (by simp)
    · exact absurd hf (by simp)

/-- A list of events that passes runs. -/
theorem run_wp (κ : GSem nD τ sig → ℕ) (c : Dev nD) (Q : PUnit.{1} → sProp (MT nD τ sig Unit (Elt F) ℕ UU ℕ))
    (k : F .f32 → P F) (fut es : List Ev) (S T : List At) (hp : passes fut es S T = true) (a : F .f32)
    (os : List (Dev nD)) :
    iprop(Ctx X B κ ∗ Fix B c ∗ Out X B c os ∗ Hold X B c S ∗ Owes c (owed c (es ++ fut))
        ∗ ((Fix B c ∗ Out X B c (storedAll c es os) ∗ Hold X B c T ∗ Owes c (owed c fut))
          -∗ wpOn c (k (scan X B c es a)) Q))
      ⊢ wpOn c (run c (nb .r c) (nb .l c) es a k) Q := by
  unfold passes at hp
  split at hp
  · rename_i S' hS'
    split at hp
    · rename_i S'' hS''
      refine BIBase.Entails.trans ?_ (follow_wp X B κ c Q k fut es S S' hS' a os)
      iintro ⟨#HC, HF, HU, HS, HO, Hk⟩
      isplitr; · iexact HC
      isplitl [HF]; · iexact HF
      isplitl [HU]; · iexact HU
      isplitl [HS]; · iexact HS
      isplitl [HO]; · iexact HO
      iintro ⟨HF, HU, HS, HO⟩
      ihave HS2 := (takeAll_holds X B c T S' S'' hS'') $$ HS
      icases HS2 with ⟨HT, -⟩
      iapply Hk
      isplitl [HF]; · iexact HF
      isplitl [HU]; · iexact HU
      isplitl [HT]; · iexact HT
      iexact HO
    · exact absurd hp (by simp)
  · exact absurd hp (by simp)

/-! ## The kernel's lists -/

/-- Both halves of all slots, in the order of the slots. -/
def halves : List (Fin 32 × Fin 2) := (List.finRange 32).flatMap fun s => [(s, 0), (s, 1)]

/-- The transfers of both directions. -/
def moves (f : Dir → Fin 16 → Fin 2 → At) : List At :=
  (lives .r).map (fun p => f .r p.1 p.2) ++ (lives .l).map fun p => f .l p.1 p.2

/-- Before the first transfer: the own block, all that the transfers need, all transfers to come. -/
def atStart : List At :=
  [.own .r 0, .own .r 1, .own .l 0, .own .l 1, .keep 0 0, .keep 0 1, .rest .r 0, .rest .l 0] ++ moves .go ++ moves .inc

/-- After the first hop's transfers have been started: the same without these. -/
def atFirst : List At :=
  [.keep 0 0, .keep 0 1, .out .r 0 0, .out .r 0 1, .out .l 0 0, .out .l 0 1]
    ++ (moves .go).filter (fun x => match x with | .go _ h _ => decide (h ≠ 0) | _ => true) ++ moves .inc

/-- All slots filled, with the own block's shares for the two directions apart. -/
def slotAtoms : List At :=
  (halves.map fun p => .keep p.1 p.2) ++ [.own .r 0, .own .r 1, .own .l 0, .own .l 1]
    ++ ((halves.filter fun p => decide (p.1 ≠ 0)).map fun p => .send p.1 p.2)

/-- The permissions that came round. -/
def giftAtoms : List At :=
  ((List.finRange 16).map fun h => .gift .r h) ++ (List.finRange 15).map fun h => .gift .l (Fin.castLE (by omega) h)

/-- After the ring. -/
def atRing : List At := giftAtoms ++ slotAtoms ++ moves .doneS ++ moves .doneR

/-- One atom for each send of the maximum. -/
def rowAtoms (f : Fin 31 → At) : List At := (List.finRange 31).map f

theorem first_passes : passes (ringEvs ++ rowEvs) firstEvs atStart atFirst = true := by decide +kernel

theorem ring_passes : passes rowEvs ringEvs atFirst atRing = true := by decide +kernel

theorem rows_pass : passes [] rowEvs (rowAtoms .rgift ++ rowAtoms .rgo ++ rowAtoms .rsh ++ rowAtoms .rinc)
    (rowAtoms .rsh ++ rowAtoms .rrow ++ rowAtoms .doneP ++ rowAtoms .doneG) = true := by decide +kernel

/-- The ring and the own product store every origin's rows. -/
theorem all_stored : ∀ c o : Dev nD, o ∈ storedAll c ringEvs [c] := by decide +kernel

end Cert.KernelIdeal.Ring

end
-- ==== Proof.Parts.lean ====
/- Taking the buffers and the semaphores apart for the ring, and putting them together again. -/
module

public import proofs.«01_k».proof.Proof.Check

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → Vec F S128x4096 .bf16) (B : Dev nD → Vec F S4096x256 .bf16)

local notation "𝕄" => MT nD τ sig Unit (Elt F) ℕ UU ℕ

/-! ## Lists of assertions -/

section Lists

variable {M : Type} [URA M] {I : Type}

theorem list_sep (l : List I) (Φ Ψ : I → sProp M) :
    bigSepL l (fun i => iprop(Φ i ∗ Ψ i)) ⊣⊢ iprop(bigSepL l Φ ∗ bigSepL l Ψ) := by
  induction l with
  | nil => exact ⟨by iintro H; isplitr; · iempintro
                     iexact H, by iintro ⟨-, H⟩; iexact H⟩
  | cons i l ih =>
    rw [bigSepL_cons', bigSepL_cons', bigSepL_cons']
    constructor
    · iintro ⟨⟨H1, H2⟩, H⟩
      ihave H' := ih.1 $$ H
      icases H' with ⟨H3, H4⟩
      isplitl [H1 H3]
      · isplitl [H1] <;> iassumption
      isplitl [H2] <;> iassumption
    · iintro ⟨⟨H1, H3⟩, H2, H4⟩
      isplitl [H1 H2]
      · isplitl [H1] <;> iassumption
      iapply ih.2
      isplitl [H3] <;> iassumption

theorem list_perm {l l' : List I} (h : l.Perm l') (Φ : I → sProp M) : bigSepL l Φ ⊢ bigSepL l' Φ := by
  induction h with
  | nil => exact .rfl
  | cons x _ ih => rw [bigSepL_cons', bigSepL_cons']; exact sep_mono_right ih
  | swap x y l =>
    rw [bigSepL_cons', bigSepL_cons', bigSepL_cons', bigSepL_cons']
    iintro ⟨H1, H2, H3⟩
    isplitl [H2]; · iexact H2
    isplitl [H1] <;> iassumption
  | trans _ _ h1 h2 => exact h1.trans h2

instance list_persistent (l : List I) (Φ : I → sProp M) [∀ i, BI.Persistent (Φ i)] : BI.Persistent (bigSepL l Φ) := by
  induction l with
  | nil => exact (inferInstance : BI.Persistent (iprop(emp) : sProp M))
  | cons i l ih => rw [bigSepL_cons']; infer_instance

/-- Something known besides is known at every member. -/
theorem list_with (P : sProp M) [BI.Persistent P] (l : List I) (Φ Ψ : I → sProp M)
    (h : ∀ i ∈ l, iprop(P ∗ Φ i) ⊢ Ψ i) : iprop(P ∗ bigSepL l Φ) ⊢ bigSepL l Ψ := by
  induction l with
  | nil => iintro ⟨-, H⟩; iexact H
  | cons i l ih =>
    rw [bigSepL_cons', bigSepL_cons']
    iintro ⟨#HP, H, Hl⟩
    isplitl [H]
    · iapply (h i List.mem_cons_self)
      isplitr; · iexact HP
      iexact H
    · iapply (ih fun i hi => h i (List.mem_cons_of_mem _ hi))
      isplitr; · iexact HP
      iexact Hl

end Lists

/-! ## The transfers of the ring, and the semaphores -/

/-- All transfers that a device makes round the ring. -/
def trips : List (Dir × Fin 16 × Fin 2) := (lives .r).map (fun p => (.r, p)) ++ (lives .l).map fun p => (.l, p)

/-- The sends of the maximum. -/
abbrev sends : List (Fin 31) := List.finRange 31

/-- A device's own DMA semaphores, by their use; the last four are never used. -/
def ownSems : List (DmaSem sig) :=
  trips.map (fun t => sndS t.1 t.2.1 t.2.2) ++ (trips.map (fun t => rcvS t.1 t.2.1 t.2.2)
    ++ (sends.map rowSndS ++ (sends.map rowRcvS ++ [sndS .r 15 1, rcvS .r 15 1, sndS .l 15 0, rcvS .l 15 0])))

theorem ownSems_perm : ((List.finRange 190).map ownDma).isPerm ownSems = true := by decide +kernel

theorem trips_live : ∀ t ∈ trips, live t.1 t.2.1 t.2.2 = true := by decide +kernel

theorem hold_moves (c : Dev nD) (f : Dir → Fin 16 → Fin 2 → At) :
    Hold X B c (moves f) = bigSepL trips fun t => (f t.1 t.2.1 t.2.2).holds X B c := by
  unfold Hold moves trips
  rw [bigSepL_append, bigSepL_append, bigSepL_map, bigSepL_map, bigSepL_map, bigSepL_map]

theorem hold_map {I : Type} (c : Dev nD) (l : List I) (f : I → At) :
    Hold X B c (l.map f) = bigSepL l fun e => (f e).holds X B c := by
  unfold Hold; rw [bigSepL_map]

/-- A property of all the own semaphores is one of all by number. -/
theorem ownSems_list (Φ : DmaSem sig → sProp 𝕄) :
    bigSep Finset.univ (fun k : Fin 190 => Φ (ownDma k)) ⊣⊢ bigSepL ownSems Φ := by
  rw [bigSep_univ_eq_bigSepL (List.finRange 190) (by ext; simp) (List.nodup_finRange 190),
    ← bigSepL_map (ownDma : Fin 190 → DmaSem sig)]
  exact ⟨list_perm (List.isPerm_iff.mp ownSems_perm) Φ, list_perm (List.isPerm_iff.mp ownSems_perm).symm Φ⟩

/-- Both neighbours' handings-over, as one list. -/
theorem barPays (c : Dev nD) :
    iprop(barPay .r c ∗ barPay .l c : sProp 𝕄) = bigSepL trips fun t => dest t.1 c t.2.1 t.2.2 := by
  unfold barPay trips
  rw [bigSepL_append, bigSepL_map, bigSepL_map]

/-! ## The slots -/

/-- All halves but the own slot's. -/
theorem halves_perm : (((0 : Fin 32), (0 : Fin 2)) :: (0, 1) :: trips.map fun t => (dstSlot t.1 t.2.1, t.2.2)).Nodup
    ∧ ∀ p : Fin 32 × Fin 2, p ∈ ((0 : Fin 32), (0 : Fin 2)) :: (0, 1) :: trips.map fun t => (dstSlot t.1 t.2.1, t.2.2) := by
  constructor
  · decide +kernel
  · decide +kernel

omit [FloatOps F] in
/-- The slots' buffer is the own slot and the halves that land. -/
theorem slots_split (c : Dev nD) (f : Vec F S32x128x4096 .bf16) :
    (gM.view.loc (c : Thread nD τ) ↦[Finset.univ]{fullShare} f : sProp 𝕄)
      ⊣⊢ iprop((gM.view.loc (c : Thread nD τ) ↦[(slotR 0).set]{fullShare} f)
        ∗ bigSepL trips fun t => gM.view.loc (c : Thread nD τ) ↦[halfSet (dstSlot t.1 t.2.1, t.2.2)]{fullShare} f) := by
  rw [← half_cover, pointsTo_biUnion _ _ (fun p _ q _ h => half_disjoint h),
    bigSep_univ_eq_bigSepL _ (by ext p; simpa only [Finset.mem_univ, List.mem_toFinset, true_iff] using halves_perm.2 p) halves_perm.1,
    bigSepL_cons', bigSepL_cons', bigSepL_map, slot_split]
  have hu := pointsTo_union (Ix := Unit) (Val := Elt F) (Name := ℕ) (U := UU) (Lvl := ℕ) (ℓ := gM.view.loc (c : Thread nD τ)) (q := fullShare) (f := f)
    (half_disjoint (p := (0, 0)) (q := (0, 1)) (by simp))
  constructor
  · iintro ⟨H0, H1, H⟩
    isplitr [H]
    · iapply hu.2
      isplitl [H0] <;> iassumption
    iexact H
  · iintro ⟨H, H2⟩
    ihave H' := hu.1 $$ H
    icases H' with ⟨H0, H1⟩
    isplitl [H0]; · iexact H0
    isplitl [H1] <;> iassumption

/-- The own slot's atoms. -/
def ownAtoms : List At := [.own .r 0, .own .r 1, .own .l 0, .own .l 1, .keep 0 0, .keep 0 1]

/-- A half of the own slot is the share that stays and those that go round. -/
theorem half_shares (c : Dev nD) (j : Fin 2) :
    halfAt X c 0 j fullShare ⊣⊢ iprop((At.keep 0 j).holds X B c ∗ (At.own .r j).holds X B c ∗ (At.own .l j).holds X B c) := by
  have h1 := pointsTo_share (Ix := Unit) (Val := Elt F) (Name := ℕ) (U := UU) (Lvl := ℕ) (ℓ := (halfM 0 j).view.loc (c : Thread nD τ)) (I := (halfM 0 j).view.set) (f := slots X c)
    (PosShare.mem_left_op_right fullShare)
  have h2 := pointsTo_share (Ix := Unit) (Val := Elt F) (Name := ℕ) (U := UU) (Lvl := ℕ) (ℓ := (halfM 0 j).view.loc (c : Thread nD τ)) (I := (halfM 0 j).view.set) (f := slots X c)
    (PosShare.mem_left_op_right fullShare.right)
  unfold At.holds halfAt
  constructor
  · iintro H
    ihave H' := h1.1 $$ H
    icases H' with ⟨H1, H⟩
    ihave H' := h2.1 $$ H
    icases H' with ⟨H2, H3⟩
    isplitl [H1]; · iexact H1
    isplitl [H2]; · iexact H2
    iexact H3
  · iintro ⟨H1, H2, H3⟩
    iapply h1.2
    isplitl [H1]; · iexact H1
    iapply h2.2
    isplitl [H2]; · iexact H2
    iexact H3

/-- The own slot, filled, is its atoms. -/
theorem own_slot (c : Dev nD) :
    (gM.view.loc (c : Thread nD τ) ↦[(slotR 0).set]{fullShare} slots X c : sProp 𝕄) ⊣⊢ Hold X B c ownAtoms := by
  have hu := pointsTo_union (Ix := Unit) (Val := Elt F) (Name := ℕ) (U := UU) (Lvl := ℕ) (ℓ := gM.view.loc (c : Thread nD τ)) (q := fullShare) (f := slots X c)
    (half_disjoint (p := (0, 0)) (q := (0, 1)) (by simp))
  have s0 := half_shares X B c 0
  have s1 := half_shares X B c 1
  rw [slot_split]
  unfold ownAtoms
  rw [hold_cons, hold_cons, hold_cons, hold_cons, hold_cons, hold_cons, hold_nil]
  constructor
  · iintro H
    ihave H' := hu.1 $$ H
    icases H' with ⟨H0, H1⟩
    ihave H0' := s0.1 $$ [H0]
    · unfold halfAt; iexact H0
    ihave H1' := s1.1 $$ [H1]
    · unfold halfAt; iexact H1
    icases H0' with ⟨K0, R0, L0⟩
    icases H1' with ⟨K1, R1, L1⟩
    isplitl [R0]; · iexact R0
    isplitl [R1]; · iexact R1
    isplitl [L0]; · iexact L0
    isplitl [L1]; · iexact L1
    isplitl [K0]; · iexact K0
    isplitl [K1]; · iexact K1
    iempintro
  · iintro ⟨R0, R1, L0, L1, K0, K1, -⟩
    iapply hu.2
    isplitl [R0 L0 K0]
    · ihave H := s0.2 $$ [R0 L0 K0]
      · isplitl [K0]; · iexact K0
        isplitl [R0] <;> iassumption
      unfold halfAt; iexact H
    · ihave H := s1.2 $$ [R1 L1 K1]
      · isplitl [K1]; · iexact K1
        isplitl [R1] <;> iassumption
      unfold halfAt; iexact H

/-- All slots' atoms, sorted: the own slot's, then the two shares of the halves that landed. -/
def sorted : List At :=
  ownAtoms ++ (trips.map (fun t => .keep (dstSlot t.1 t.2.1) t.2.2) ++ trips.map (fun t => .send (dstSlot t.1 t.2.1) t.2.2))

theorem sorted_take : (takeAll sorted slotAtoms).isSome = true := by decide +kernel

/-- All slots filled, back together. -/
theorem slots_join (c : Dev nD) :
    Hold X B c slotAtoms ⊢ (gM.view.loc (c : Thread nD τ) ↦[Finset.univ]{fullShare} slots X c : sProp 𝕄) := by
  obtain ⟨S, hS⟩ := Option.isSome_iff_exists.mp sorted_take
  iintro H
  ihave H' := (takeAll_holds X B c sorted slotAtoms S hS) $$ H
  icases H' with ⟨H, -⟩
  unfold sorted
  ihave H' := (hold_append X B c _ _).1 $$ H
  icases H' with ⟨H0, H⟩
  ihave H' := (hold_append X B c _ _).1 $$ H
  icases H' with ⟨H1, H2⟩
  iapply (slots_split c (slots X c)).2
  isplitl [H0]
  · iapply (own_slot X B c).2; iexact H0
  have hb : iprop(Hold X B c (trips.map fun t => .keep (dstSlot t.1 t.2.1) t.2.2)
        ∗ Hold X B c (trips.map fun t => .send (dstSlot t.1 t.2.1) t.2.2))
      ⊢ bigSepL trips fun t => gM.view.loc (c : Thread nD τ) ↦[halfSet (dstSlot t.1 t.2.1, t.2.2)]{fullShare} slots X c := by
    rw [hold_map, hold_map]
    refine (list_sep trips _ _).2.trans (bigSepL_mono fun t _ => ?_)
    unfold At.holds halfAt
    exact (pointsTo_share (PosShare.mem_left_op_right fullShare)).2
  iapply hb
  isplitl [H1] <;> iassumption

/-! ## The maxima -/

theorem rows_list : ((0 : Fin 32) :: sends.map rowOf).Nodup ∧ ∀ i : Fin 32, i ∈ (0 : Fin 32) :: sends.map rowOf := by
  constructor <;> decide +kernel

omit [FloatOps F] in
/-- The table of maxima is the own row and those that land. -/
theorem maxima_split (c : Dev nD) (f : Vec F S32x128 .f32) :
    (mM.view.loc (c : Thread nD τ) ↦[Finset.univ]{fullShare} f : sProp 𝕄)
      = iprop((mM.view.loc (c : Thread nD τ) ↦[rowSet 0]{fullShare} f)
        ∗ bigSepL sends fun e => mM.view.loc (c : Thread nD τ) ↦[rowSet (rowOf e)]{fullShare} f) := by
  rw [← row_cover, pointsTo_biUnion _ _ (fun p _ q _ h => row_disjoint h),
    bigSep_univ_eq_bigSepL _ (by ext p; simpa only [Finset.mem_univ, List.mem_toFinset, true_iff] using rows_list.2 p) rows_list.1,
    bigSepL_cons', bigSepL_map]

theorem row_shares (c : Dev nD) (n : ℕ) :
    rowAt X B c 0 (rowRest n) ⊣⊢ iprop(rowAt X B c 0 (rq n) ∗ rowAt X B c 0 (rowRest (n + 1))) := by
  unfold rowAt
  exact pointsTo_share (PosShare.mem_left_op_right (rowRest n))

theorem row_range (c : Dev nD) (m n : ℕ) :
    rowAt X B c 0 (rowRest n) ⊣⊢
      iprop((bigSepL (List.range' n m) fun i => rowAt X B c 0 (rq i)) ∗ rowAt X B c 0 (rowRest (n + m))) := by
  induction m generalizing n with
  | zero => exact ⟨by iintro H; isplitr; · iempintro
                      iexact H, by iintro ⟨-, H⟩; iexact H⟩
  | succ m ih =>
    rw [List.range'_succ, bigSepL_cons', show n + (m + 1) = n + 1 + m by omega]
    constructor
    · iintro H
      ihave H' := (row_shares X B c n).1 $$ H
      icases H' with ⟨H1, H⟩
      ihave H' := (ih (n + 1)).1 $$ H
      icases H' with ⟨H2, H⟩
      isplitr [H]
      · isplitl [H1] <;> iassumption
      iexact H
    · iintro ⟨⟨H1, H2⟩, H⟩
      iapply (row_shares X B c n).2
      isplitl [H1]; · iexact H1
      iapply (ih (n + 1)).2
      isplitl [H2] <;> iassumption

theorem range_sends : List.range' 0 31 = sends.map Fin.val := by decide +kernel

/-- The own row, filled, is a share for each send and a remainder. -/
theorem own_row (c : Dev nD) :
    rowAt X B c 0 fullShare ⊣⊢ iprop(Hold X B c (rowAtoms .rsh) ∗ rowAt X B c 0 (rowRest 31)) := by
  have h := row_range X B c 31 0
  rw [range_sends, bigSepL_map] at h
  unfold rowAtoms
  rw [hold_map]
  exact h

/-- All rows filled, back together. -/
theorem maxima_join (c : Dev nD) :
    iprop(rowAt X B c 0 fullShare ∗ Hold X B c (rowAtoms .rrow))
      ⊢ (mM.view.loc (c : Thread nD τ) ↦[Finset.univ]{fullShare} maxima X B c : sProp 𝕄) := by
  unfold rowAtoms
  rw [maxima_split, hold_map]
  unfold At.holds rowAt
  exact .rfl

/-- The permissions for the own rows, as they set out round the ring. -/
theorem gifts_out (c : Dev nD) :
    (bigSepL sends (gift (F := F) c)) ⊢ Hold X B c [.rest .r 0, .rest .l 0] := by
  have hz : ∀ d, orig c (srcSlot d 0) = c := by
    intro d; cases d <;> exact orig_zero c
  refine (list_perm (List.isPerm_iff.mp (rowNo_perm c)).symm _).trans ?_
  rw [bigSepL_append, bigSepL_map, bigSepL_map, hold_cons, hold_cons, hold_nil]
  show _ ⊢ iprop(bundle .r (orig c (srcSlot .r 0)) 0 ∗ bundle .l (orig c (srcSlot .l 0)) 0 ∗ emp)
  rw [hz, hz]
  unfold bundle
  iintro ⟨H1, H2⟩
  isplitl [H1]; · iexact H1
  isplitl [H2]; · iexact H2
  iempintro

/-- The permissions that came round are those for a row of every other device. -/
theorem gifts_in (c : Dev nD) : Hold X B c giftAtoms ⊢ Hold X B c (rowAtoms .rgift) := by
  unfold giftAtoms rowAtoms
  refine (hold_append X B c _ _).1.trans ?_
  rw [hold_map, hold_map, hold_map]
  refine BIBase.Entails.trans ?_ (list_perm (List.isPerm_iff.mp (rowNo_perm' c)) _)
  rw [bigSepL_append, bigSepL_map, bigSepL_map]
  refine BI.sep_mono (bigSepL_mono fun h _ => ?_) (bigSepL_mono fun h _ => ?_)
  · show Ring.gift (orig c (dstSlot .r h)) (rowNo .r (orig c (dstSlot .r h)) h.val) ⊢ Ring.gift (rowTo c _) _
    rw [rowTo_rowNo .r c h h.isLt]
  · show Ring.gift (orig c (dstSlot .l _)) (rowNo .l (orig c (dstSlot .l _)) h.val) ⊢ Ring.gift (rowTo c _) _
    have := rowTo_rowNo .l c (Fin.castLE (by omega) h) h.isLt
    rw [show (Fin.castLE (by omega) h : Fin 16).val = h.val from rfl] at this
    rw [this]

end Cert.KernelIdeal.Ring

end
-- ==== Proof.BodyEq.lean ====
/- The printed body is the list of events. -/
module

public import proofs.«01_k».proof.Proof.Events
public import Idealize.ShloMosaic.Lib.Tactic

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

set_option maxRecDepth 65536 in
/-- The printed body, on the region's buffers, is `body`. -/
theorem body_eq (t : Fin cfg0.N) : bodyAt0 (F := F) t = body := by
  sl_kernel_rfl

end Cert.KernelIdeal.Ring

end
-- ==== Proof.Body.lean ====
/- The whole body on one device.

   From its staged blocks, its own buffers at any contents, its semaphores at their beginnings and the tokens for
   what it pays, the body runs to its end: the result's buffer holds `result`, the own buffers come back, and every
   semaphore of the device is back at zero. -/
module

public import proofs.«01_k».proof.Proof.Parts
public import proofs.«01_k».proof.Proof.BodyEq

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → Vec F S128x4096 .bf16) (B : Dev nD → Vec F S4096x256 .bf16)

local notation "𝕄" => MT nD τ sig Unit (Elt F) ℕ UU ℕ

/-- What the kernel leaves as device `c`'s block of the result. -/
def result (c : Dev nD) : (cc0_stg3_0 : Ref sig .tc).ty.Contents (Elt F) :=
  k0_pay78 (k0_pay76 (maxima X B c)) (k0_pay77 (maxima X B c) (product X B c))

/-! ## Whole buffers -/

/-- The buffer of memref `m` of device `c`, whole, holding `f`. -/
abbrev whole {sp : Space} {s : Shape} {e : EltTy} (m : Memref sig .tc sp s e) (c : Dev nD)
    (f : Buf (Elt F) (m.view.loc (c : Thread nD τ))) : sProp 𝕄 :=
  m.view.loc (c : Thread nD τ) ↦[Finset.univ]{fullShare} f

omit [FloatOps F] in
theorem read_x (f : Vec F S128x4096 .bf16) :
    xM.view.readAt (Elt F) (Rect.unit (s := S128x4096) ![0, 0] S128x4096.size inb_S128x4096_S128x4096_0_0).toLoadRect f = f := by
  funext z
  show f ((Rect.unit (s := S128x4096) ![0, 0] S128x4096.size inb_S128x4096_S128x4096_0_0).emb z) = f z
  congr 1
  funext x
  refine Fin.ext ?_
  rw [ValueKit.rect_emb_unit_val]
  fin_cases x <;> simp

omit [FloatOps F] in
theorem read_w (f : Vec F S4096x256 .bf16) :
    wM.view.readAt (Elt F) (Rect.unit (s := S4096x256) ![0, 0] S4096x256.size inb_S4096x256_S4096x256_0_0).toLoadRect f = f :=
  load_whole f

omit [FloatOps F] in
theorem read_o (f : Vec F S4096x256 .f32) :
    oM.view.readAt (Elt F) (Rect.unit (s := S4096x256) ![0, 0] S4096x256.size inb_S4096x256_S4096x256_0_0).toLoadRect f = f := by
  funext z
  show f ((Rect.unit (s := S4096x256) ![0, 0] S4096x256.size inb_S4096x256_S4096x256_0_0).emb z) = f z
  congr 1
  funext x
  refine Fin.ext ?_
  rw [ValueKit.rect_emb_unit_val]
  fin_cases x <;> simp

omit [FloatOps F] in
theorem read_m (f : Vec F S32x128 .f32) :
    mM.view.readAt (Elt F) (Rect.unit (s := S32x128) ![0, 0] S32x128.size inb_S32x128_S32x128_0_0).toLoadRect f = f := by
  funext z
  show f ((Rect.unit (s := S32x128) ![0, 0] S32x128.size inb_S32x128_S32x128_0_0).emb z) = f z
  congr 1
  funext x
  refine Fin.ext ?_
  rw [ValueKit.rect_emb_unit_val]
  fin_cases x <;> simp

omit [FloatOps F] in
theorem emb_whole (z : S4096x256.Idx) :
    (Rect.unit (s := S4096x256) ![0, 0] S4096x256.size inb_S4096x256_S4096x256_0_0).emb z = z := by
  funext x
  refine Fin.ext ?_
  rw [ValueKit.rect_emb_unit_val]
  fin_cases x <;> simp

omit [FloatOps F] in
theorem write_o (f g : Vec F S4096x256 .f32) :
    (oM.access (Rect.unit (s := S4096x256) ![0, 0] S4096x256.size inb_S4096x256_S4096x256_0_0)).write (Elt F) f g Finset.univ = g := by
  funext z
  have hz : (oM.access (Rect.unit (s := S4096x256) ![0, 0] S4096x256.size inb_S4096x256_S4096x256_0_0)).emb z = z := emb_whole z
  conv_lhs => rw [← hz]
  rw [View.write_emb_of_mem _ _ (Finset.mem_univ z)]
  rfl

omit [FloatOps F] in
theorem write_v (f g : Vec F S4096x256 .bf16) :
    (vM.access (Rect.unit (s := S4096x256) ![0, 0] S4096x256.size inb_S4096x256_S4096x256_0_0)).write (Elt F) f g Finset.univ = g := by
  funext z
  have hz : (vM.access (Rect.unit (s := S4096x256) ![0, 0] S4096x256.size inb_S4096x256_S4096x256_0_0)).emb z = z := emb_whole z
  conv_lhs => rw [← hz]
  rw [View.write_emb_of_mem _ _ (Finset.mem_univ z)]
  rfl

/-! ## The end -/

section Run

variable (κ : GSem nD τ sig → ℕ) (c : Dev nD) (Q : PUnit.{1} → sProp (MT nD τ sig Unit (Elt F) ℕ UU ℕ))

/-- The last stage: all maxima read, the product scaled, rounded, clipped and scaled back. -/
theorem finish_wp (os : List (Dev nD)) (hos : ∀ o, o ∈ os) :
    iprop(whole mM c (maxima X B c) ∗ Out X B c os
        ∗ ((whole mM c (maxima X B c) ∗ whole oM c (result X B c)) -∗ |={Set.univ}=> Q ⟨⟩))
      ⊢ wpOn c (finish (F := F)) Q := by
  unfold Out finish
  iintro ⟨Hm, ⟨%f, Ho, %hf⟩, Hk⟩
  obtain rfl : f = product X B c := funext fun i => hf i (hos _)
  iapply (wp_load 𝒱₀ (c : Thread nD τ) none Set.univ (S := Finset.univ) (Finset.subset_univ _)) $$ [Hm]
  · iexact Hm
  iintro Hm
  rw [read_m]
  iapply (wp_load 𝒱₀ (c : Thread nD τ) none Set.univ (S := Finset.univ) (Finset.subset_univ _)) $$ [Ho]
  · iexact Ho
  iintro Ho
  rw [read_o]
  iapply (wp_load 𝒱₀ (c : Thread nD τ) none Set.univ (S := Finset.univ) (Finset.subset_univ _)) $$ [Ho]
  · iexact Ho
  iintro Ho
  iapply (wp_store 𝒱₀ (c : Thread nD τ) none Set.univ (S := Finset.univ) (Finset.subset_univ _)) $$ [Ho]
  · iexact Ho
  iintro Ho
  rw [write_o]
  rw [wp_ret]
  iapply Hk
  isplitl [Hm]; · iexact Hm
  unfold result
  iexact Ho

/-- From the store of the device's maximum on. -/
theorem rows_wp (os : List (Dev nD)) (hos : ∀ o, o ∈ storedAll c rowEvs os) :
    iprop(Ctx X B κ ∗ Fix B c ∗ Out X B c os ∗ rowAny c 0 ∗ Hold X B c (rowAtoms .rgift) ∗ Hold X B c (rowAtoms .rgo)
        ∗ Hold X B c (rowAtoms .rinc) ∗ Owes c (owed c rowEvs)
        ∗ ((Fix B c ∗ whole mM c (maxima X B c) ∗ whole oM c (result X B c) ∗ Hold X B c (rowAtoms .doneP)
            ∗ Hold X B c (rowAtoms .doneG) ∗ Owes c 0) -∗ |={Set.univ}=> Q ⟨⟩))
      ⊢ wpOn c (rows c (nb .r c) (nb .l c) (amax X B c)) Q := by
  have hsub : mM.view.setOn (rowR 0).toLoadRect.set ⊆ (rowM 0).view.set := by
    rw [row_set]
    intro x hx
    obtain ⟨y, hy, rfl⟩ := Finset.mem_map.mp hx
    exact hy
  have hsub' : (mM.access (rowR 0)).setOn Finset.univ ⊆ (rowM 0).view.set := by
    rw [row_set]
    exact (View.setOn_univ _ |>.trans (View.set_slice_whole _ _)).subset
  have hrun := run_wp X B κ c Q (fun _ => finish (F := F)) [] rowEvs _ _ rows_pass (amax X B c) os
  rw [List.append_nil] at hrun
  unfold rowAny rows
  iintro ⟨#HC, HF, HU, ⟨%f, Hr⟩, Hg, Hgo, Hi, HO, Hk⟩
  iapply (wp_load 𝒱₀ (c : Thread nD τ) none Set.univ (m := mM) hsub) $$ [Hr]
  · iexact Hr
  iintro Hr
  iapply (wp_store 𝒱₀ (c : Thread nD τ) none Set.univ hsub') $$ [Hr]
  · iexact Hr
  iintro Hr
  ihave Hr := (Entails.of_eq (pointsTo_congr (row_store X B c f))) $$ Hr
  ihave Hr := (own_row X B c).1 $$ [Hr]
  · unfold rowAt; iexact Hr
  icases Hr with ⟨Hs, Hrest⟩
  iapply hrun
  isplitr; · iexact HC
  isplitl [HF]; · iexact HF
  isplitl [HU]; · iexact HU
  isplitl [Hg Hgo Hs Hi]
  · iapply (hold_append X B c _ _).2
    isplitr [Hi]
    · iapply (hold_append X B c _ _).2
      isplitr [Hs]
      · iapply (hold_append X B c _ _).2
        isplitl [Hg] <;> iassumption
      iexact Hs
    iexact Hi
  isplitl [HO]; · iexact HO
  iintro ⟨HF, HU, H, HO⟩
  ihave H := (hold_append X B c _ _).1 $$ H
  icases H with ⟨H, HG⟩
  ihave H := (hold_append X B c _ _).1 $$ H
  icases H with ⟨H, HP⟩
  ihave H := (hold_append X B c _ _).1 $$ H
  icases H with ⟨Hs, Hr⟩
  iapply (finish_wp X B c Q _ hos)
  isplitl [Hs Hrest Hr]
  · iapply (maxima_join X B c)
    isplitl [Hs Hrest]
    · iapply (own_row X B c).2
      isplitl [Hs] <;> iassumption
    iexact Hr
  isplitl [HU]; · iexact HU
  iintro ⟨Hm, Ho⟩
  iapply Hk
  isplitl [HF]; · iexact HF
  isplitl [Hm]; · iexact Hm
  isplitl [Ho]; · iexact Ho
  isplitl [HP]; · iexact HP
  isplitl [HG]; · iexact HG
  iexact HO

/-- The atoms after the first hop's starts, but the own slot's. -/
def afterFirst : List At :=
  [.out .r 0 0, .out .r 0 1, .out .l 0 0, .out .l 0 1]
    ++ (moves .go).filter (fun x => match x with | .go _ h _ => decide (h ≠ 0) | _ => true) ++ moves .inc

theorem ring_split (c : Dev nD) : Hold X B c atRing
    ⊢ iprop(Hold X B c giftAtoms ∗ Hold X B c slotAtoms ∗ Hold X B c (moves .doneS) ∗ Hold X B c (moves .doneR)) := by
  have h1 := (hold_append X B c (giftAtoms ++ slotAtoms ++ moves .doneS) (moves .doneR)).1
  have h2 := (hold_append X B c (giftAtoms ++ slotAtoms) (moves .doneS)).1
  have h3 := (hold_append X B c giftAtoms slotAtoms).1
  unfold atRing
  iintro H
  ihave H := h1 $$ H
  icases H with ⟨H, HR⟩
  ihave H := h2 $$ H
  icases H with ⟨H, HS⟩
  ihave H := h3 $$ H
  icases H with ⟨HG, HT⟩
  isplitl [HG]; · iexact HG
  isplitl [HT]; · iexact HT
  isplitl [HS]; · iexact HS
  iexact HR

theorem stored_rows : ∀ c o : Dev nD, o ∈ storedAll c rowEvs (storedAll c ringEvs [c]) := by decide +kernel

theorem own_off : ∀ c : Dev nD, k0_off1 c = ![128 * c.val, 0] := by decide +kernel

/-- From the device's own product on. -/
theorem own_wp :
    iprop(Ctx X B κ ∗ whole wM c (B c) ∗ whole tM c (table (F := F) c) ∗ (∃ f, whole vM c f) ∗ (∃ f, whole oM c f)
        ∗ Hold X B c atFirst ∗ Owes c (owed c (ringEvs ++ rowEvs)) ∗ rowAny c 0 ∗ Hold X B c (rowAtoms .rgo)
        ∗ Hold X B c (rowAtoms .rinc)
        ∗ ((whole wM c (B c) ∗ whole tM c (table (F := F) c) ∗ (∃ f, whole vM c f) ∗ (∃ f, whole gM c f)
            ∗ (∃ f, whole mM c f) ∗ whole oM c (result X B c) ∗ Hold X B c (moves .doneS) ∗ Hold X B c (moves .doneR)
            ∗ Hold X B c (rowAtoms .doneP) ∗ Hold X B c (rowAtoms .doneG) ∗ Owes c 0) -∗ |={Set.univ}=> Q ⟨⟩))
      ⊢ wpOn c (own c (nb .r c) (nb .l c)) Q := by
  have hu := pointsTo_union (Ix := Unit) (Val := Elt F) (Name := ℕ) (U := UU) (Lvl := ℕ)
    (ℓ := gM.view.loc (c : Thread nD τ)) (q := fullShare.left) (f := slots X c)
    (half_disjoint (p := (0, 0)) (q := (0, 1)) (by simp))
  have hsub : gM.view.setOn (slotR 0).toLoadRect.set ⊆ (halfM 0 0).view.set ∪ (halfM 0 1).view.set := by
    rw [← slot_split 0]
    intro x hx
    obtain ⟨y, hy, rfl⟩ := Finset.mem_map.mp hx
    exact hy
  have hag : ∀ f : Vec F S4096x256 .f32, Agrees X B c [] f := fun f i hi => absurd hi List.not_mem_nil
  have hrun := run_wp X B κ c Q (fun a => rows c (nb .r c) (nb .l c) a) rowEvs ringEvs _ _ ring_passes
    (peak (slotV X c) (colsV B c)) [c]
  rw [show scan X B c ringEvs (peak (slotV X c) (colsV B c)) = amax X B c from by unfold amax; rfl] at hrun
  have hfirst : atFirst = .keep 0 0 :: .keep 0 1 :: afterFirst := rfl
  have hfirstH : Hold X B c atFirst = iprop(halfAt X c 0 0 fullShare.left ∗ halfAt X c 0 1 fullShare.left ∗ Hold X B c afterFirst) := by
    rw [hfirst, hold_cons, hold_cons]; rfl
  rw [hfirstH]
  unfold own
  iintro ⟨#HC, Hw, Ht, ⟨%fv, Hv⟩, ⟨%fo, Ho⟩, ⟨K0, K1, HA⟩, HO, Hr0, Hgo, Hi, Hk⟩
  iapply (wp_load 𝒱₀ (c : Thread nD τ) none Set.univ (S := Finset.univ) (Finset.subset_univ _)) $$ [Hw]
  · iexact Hw
  iintro Hw
  rw [read_w]
  iapply (wp_load 𝒱₀ (c : Thread nD τ) none Set.univ (S := Finset.univ) (Finset.subset_univ _)) $$ [Hv]
  · iexact Hv
  iintro Hv
  iapply (wp_store 𝒱₀ (c : Thread nD τ) none Set.univ (S := Finset.univ) (Finset.subset_univ _)) $$ [Hv]
  · iexact Hv
  iintro Hv
  rw [write_v]
  ihave Hg := hu.2 $$ [K0 K1]
  · unfold halfAt
    isplitl [K0]; · iexact K0
    iexact K1
  iapply (wp_load 𝒱₀ (c : Thread nD τ) none Set.univ (m := gM) hsub) $$ [Hg]
  · iexact Hg
  iintro Hg
  rw [slot_read, orig_zero]
  iapply (wp_load 𝒱₀ (c : Thread nD τ) none Set.univ (S := Finset.univ) (Finset.subset_univ _)) $$ [Hv]
  · iexact Hv
  iintro Hv
  rw [load_whole]
  iapply (wp_load 𝒱₀ (c : Thread nD τ) none Set.univ (S := Finset.univ) (Finset.subset_univ _)) $$ [Ho]
  · iexact Ho
  iintro Ho
  iapply (wp_store 𝒱₀ (c : Thread nD τ) none Set.univ (S := Finset.univ) (Finset.subset_univ _)) $$ [Ho]
  · iexact Ho
  iintro Ho
  ihave HK := hu.1 $$ Hg
  icases HK with ⟨K0, K1⟩
  iapply hrun
  isplitr; · iexact HC
  isplitl [Hv Ht]
  · unfold Fix
    isplitl [Hv] <;> iassumption
  isplitl [Ho]
  · unfold Out
    iexists _
    isplitl [Ho]; · iexact Ho
    ipureintro
    exact store_agrees X B c c [] _ (own_off c) _ fo (hag fo)
  isplitl [K0 K1 HA]
  · rw [hfirstH]
    unfold halfAt
    isplitl [K0]; · iexact K0
    isplitl [K1]; · iexact K1
    iexact HA
  isplitl [HO]; · iexact HO
  iintro ⟨HF, HU, HT, HO⟩
  ihave HT := (ring_split X B c) $$ HT
  icases HT with ⟨HG, HT, HS, HR⟩
  ihave Hslots := (slots_join X B c) $$ HT
  ihave HG := (gifts_in X B c) $$ HG
  iapply (rows_wp X B κ c Q (storedAll c ringEvs [c]) (stored_rows c))
  isplitr; · iexact HC
  isplitl [HF]; · iexact HF
  isplitl [HU]; · iexact HU
  isplitl [Hr0]; · iexact Hr0
  isplitl [HG]; · iexact HG
  isplitl [Hgo]; · iexact Hgo
  isplitl [Hi]; · iexact Hi
  isplitl [HO]; · iexact HO
  unfold Fix
  iintro ⟨⟨Hv, Ht⟩, Hm, Ho, HP, HD, HO⟩
  iapply Hk
  isplitl [Hw]; · iexact Hw
  isplitl [Ht]; · iexact Ht
  isplitl [Hv]; · iexists _; iexact Hv
  isplitl [Hslots]; · iexists _; iexact Hslots
  isplitl [Hm]; · iexists _; iexact Hm
  isplitl [Ho]; · iexact Ho
  isplitl [HS]; · iexact HS
  isplitl [HR]; · iexact HR
  isplitl [HP]; · iexact HP
  isplitl [HD]; · iexact HD
  iexact HO

/-! ## The beginning -/

/-- The tokens for what the device pays. -/
def Toks (c : Dev nD) : sProp 𝕄 :=
  iprop(dutyTok ER (barCell (nb .l c)) 0 false ∗ dutyTok ER (barCell (nb .r c)) 0 true
    ∗ (bigSepL trips fun t => dutyTok ER (sndCell c t.1 t.2.1 t.2.2) 0 false)
    ∗ (bigSepL trips fun t => dutyTok ER (rcvCell (nb t.1 c) t.1 t.2.1 t.2.2) 0 false)
    ∗ (bigSepL sends fun e => dutyTok ER (rowSndCell c e) 0 false)
    ∗ (bigSepL sends fun e => dutyTok ER (rowRcvCell (rowTo c e) e) 0 false))

/-- The credits for what others pay to the device. -/
def Creds (c : Dev nD) : sProp 𝕄 :=
  iprop(cred (tallyAt (barCell c) () 2)
    ∗ (bigSepL trips fun t => cred (tallyAt (rcvCell c t.1 t.2.1 t.2.2) () NH))
    ∗ (bigSepL sends fun e => cred (tallyAt (rowRcvCell c e) () NR)))

/-- A semaphore of the device's own at its beginning. -/
def Fresh (c : Dev nD) (s : DmaSem sig) : sProp 𝕄 :=
  iprop(atPos ER ((c : Thread nD τ), .dma s) 0 ∅ 0 ∗ reached ER ((c : Thread nD τ), .dma s) 0)

/-- A semaphore of the device's own never used. -/
abbrev idle : List (DmaSem sig) := [sndS .r 15 1, rcvS .r 15 1, sndS .l 15 0, rcvS .l 15 0]

/-- All the device's own semaphores at their beginnings, by use. -/
theorem fresh_split (c : Dev nD) :
    bigSepL ownSems (Fresh (F := F) c)
      = iprop((bigSepL trips fun t => Fresh c (sndS t.1 t.2.1 t.2.2)) ∗ (bigSepL trips fun t => Fresh c (rcvS t.1 t.2.1 t.2.2))
        ∗ (bigSepL sends fun e => Fresh c (rowSndS e)) ∗ (bigSepL sends fun e => Fresh c (rowRcvS e)) ∗ bigSepL idle (Fresh c)) := by
  unfold ownSems
  rw [bigSepL_append, bigSepL_append, bigSepL_append, bigSepL_append, bigSepL_map, bigSepL_map, bigSepL_map, bigSepL_map]

/-- What the device's body starts with besides its buffers. -/
def Ready (κ : GSem nD τ sig → ℕ) (c : Dev nD) : sProp 𝕄 :=
  iprop(Ctx X B κ ∗ reached ER (barCell (nb .l c)) 0 ∗ reached ER (barCell (nb .r c)) 0 ∗ atPos ER (barCell c) 0 ∅ 0
    ∗ Toks c ∗ Creds c ∗ bigSepL ownSems (Fresh c))

/-- What the device owes before its body. -/
def due (c : Dev nD) : CellTallies nD τ sig Unit :=
  owed c (firstEvs ++ (ringEvs ++ rowEvs)) + tallyAt (barCell (nb .r c)) () 1 + tallyAt (barCell (nb .l c)) () 1

/-- The body, its neighbours known, from the signals on. -/
def body₂ (d0 rt lf : Dev nD) : P F :=
  (semSignalWord lf barS 1#32).bind fun _ =>
  (semSignalWord rt barS 1#32).bind fun _ =>
  .op (.load xM (Rect.unit (s := S128x4096) ![0, 0] S128x4096.size inb_S128x4096_S128x4096_0_0).toLoadRect
    (View.loadsAt_vmem h_S128x4096)) fun x =>
  .op (.load gM (slotR 0).toLoadRect (View.loadsAt_vmem h_S1x128x4096)) fun _ =>
  .op (.store gM (slotR 0) (k0_pay1 x) Finset.univ (View.stores_vmem h_S1x128x4096
    ((Memref.isWhole_whole cc0_scratch0).storeExact_slice rfl _ packedbf16_S32x128x4096_S1x128x4096_0_0_0)
    (fun _ => rfl)) (.inl rfl)) fun _ =>
  (semWaitWord barS 2#32).bind fun _ =>
  run d0 rt lf firstEvs (Scalar.ofBits .f32 0#32) fun _ => own d0 rt lf

theorem right_ok : ∀ d : Dev nD, k0_chk2 (BitVec.ofNat 32 d.val) := by decide +kernel
theorem left_ok : ∀ d : Dev nD, k0_chk1 (BitVec.ofNat 32 d.val) := by decide +kernel
theorem right_dev : ∀ d : Dev nD, k0_dev2 (BitVec.ofNat 32 d.val) = d.val := by decide +kernel
theorem left_dev : ∀ d : Dev nD, k0_dev1 (BitVec.ofNat 32 d.val) = d.val := by decide +kernel

theorem entry_zero : entry c 0 = BitVec.ofNat 32 (nb .r c).val := by unfold entry; rw [if_pos (by decide)]
theorem entry_one : entry c 1 = BitVec.ofNat 32 (nb .l c).val := by
  unfold entry; rw [if_neg (by decide), if_pos (by decide)]

theorem device_wp (k : Dev nD → P F) : wpOn c (k c) Q ⊢ wpOn c (.op .deviceId k) Q :=
  Entails.of_eq (wp_deviceId 𝒱₀ (c : Thread nD τ) none Set.univ).symm

theorem assume_wp (p : Prop) (dec : Decidable p) (k : PLift p → P F) (h : p) :
    wpOn c (k ⟨h⟩) Q ⊢ wpOn c (.op (.assume p dec) k) Q :=
  wp_assume 𝒱₀ (c : Thread nD τ) none Set.univ h

/-- The check of the left neighbour's word, both words known to name the neighbours. -/
theorem assume_left (K : Dev nD → Dev nD → P F) (v3 v4 : BitVec 32) (h2 : k0_chk2 v3) (h1 : k0_chk1 v4)
    (rt lf : Dev nD) (hr : rt = ⟨k0_dev2 v3, k0_dev2_lt _ h2⟩) (hl : lf = ⟨k0_dev1 v4, k0_dev1_lt _ h1⟩) :
    wpOn c (K rt lf) Q
      ⊢ wpOn c (.op (.assume (k0_chk1 v4) (k0_chk1.dec v4)) fun h1 =>
          K ⟨k0_dev2 v3, k0_dev2_lt _ h2⟩ ⟨k0_dev1 v4, k0_dev1_lt _ h1.down⟩) Q := by
  subst hr hl
  exact assume_wp c Q (k0_chk1 v4) (k0_chk1.dec v4)
    (fun h => K ⟨k0_dev2 v3, k0_dev2_lt _ h2⟩ ⟨k0_dev1 v4, k0_dev1_lt _ h.down⟩) h1

/-- The two words of the table that name the neighbours, each checked, before any program that takes them. -/
def words (K : Dev nD → Dev nD → Dev nD → P F) : P F :=
  .op .deviceId fun d0 =>
  (smemLoad tM (Rect.unit (s := S33) ![0] S1.size inb_S33_S1_0) numel1_S1 rfl).bind fun (v3 : BitVec 32) =>
  .op (.assume (k0_chk2 v3) (k0_chk2.dec v3)) fun h2 =>
  (smemLoad tM (Rect.unit (s := S33) ![1] S1.size inb_S33_S1_1) numel1_S1 rfl).bind fun (v4 : BitVec 32) =>
  .op (.assume (k0_chk1 v4) (k0_chk1.dec v4)) fun h1 =>
  K d0 ⟨k0_dev2 v3, k0_dev2_lt v3 h2.down⟩ ⟨k0_dev1 v4, k0_dev1_lt v4 h1.down⟩

theorem body_words : body (F := F) = words body₂ := by sl_kernel_rfl

theorem words_wp (K : Dev nD → Dev nD → Dev nD → P F) :
    iprop(whole tM c (table (F := F) c) ∗ (whole tM c (table (F := F) c) -∗ wpOn c (K c (nb .r c) (nb .l c)) Q))
      ⊢ wpOn c (words K) Q := by
  have hc0 : k0_chk2 (entry c 0) := by rw [entry_zero]; exact right_ok _
  have hc1 : k0_chk1 (entry c 1) := by rw [entry_one]; exact left_ok _
  have hr : (⟨k0_dev2 (entry c 0), k0_dev2_lt _ hc0⟩ : Dev nD) = nb .r c :=
    Fin.ext (by rw [← right_dev (nb .r c), ← entry_zero])
  have hl : (⟨k0_dev1 (entry c 1), k0_dev1_lt _ hc1⟩ : Dev nD) = nb .l c :=
    Fin.ext (by rw [← left_dev (nb .l c), ← entry_one])
  unfold words
  refine BIBase.Entails.trans ?_ (device_wp c Q _)
  iintro ⟨Ht, Hk⟩
  iapply (tab_wp c Q 0 _ rfl inb_S33_S1_0 _)
  isplitl [Ht]; · iexact Ht
  iintro Ht
  iapply (wp_assume 𝒱₀ (c : Thread nD τ) none Set.univ hc0)
  iapply (tab_wp c Q 1 _ rfl inb_S33_S1_1 _)
  isplitl [Ht]; · iexact Ht
  iintro Ht
  iapply (assume_left c Q (K c) (entry c 0) (entry c 1) hc0 hc1 (nb .r c) (nb .l c) hr.symm hl.symm)
  iapply Hk
  iexact Ht

/-- The neighbours are read from the table. -/
theorem neighbours_wp :
    iprop(whole tM c (table (F := F) c) ∗ (whole tM c (table (F := F) c) -∗ wpOn c (body₂ c (nb .r c) (nb .l c)) Q))
      ⊢ wpOn c (body (F := F)) Q := by
  rw [body_words]; exact words_wp c Q body₂

end Run

end Cert.KernelIdeal.Ring

end
-- ==== Proof.Start.lean ====
module
public import proofs.«01_k».proof.Proof.Body

/-!
# The whole body

The signals to both neighbours hand them the slots that they fill here; the barrier's wait brings theirs. After the
last row of maxima every semaphore of the device's own is closed.
-/

@[expose] public section
noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → Vec F S128x4096 .bf16) (B : Dev nD → Vec F S4096x256 .bf16)

local notation "𝕄" => MT nD τ sig Unit (Elt F) ℕ UU ℕ

/-! ## What the barrier's units hand over -/

/-- A half that a neighbour fills here, and that its semaphore here counts. -/
def lent (c : Dev nD) (t : Dir × Fin 16 × Fin 2) : sProp 𝕄 :=
  iprop(halfAny c (dstSlot t.1 t.2.1) t.2.2 ∗ reached ER (rcvCell c t.1 t.2.1 t.2.2) 0)

omit [FloatOps F] in
/-- All halves that the neighbours fill are what the two signals hand over. -/
theorem lent_pays (c : Dev nD) :
    (bigSepL trips (lent c) : sProp 𝕄) = iprop(barPay .r (nb .l c) ∗ barPay .l (nb .r c)) := by
  unfold trips barPay
  rw [bigSepL_append, bigSepL_map, bigSepL_map]
  congr 1
  · congr 1; funext p; unfold lent dest; rw [show nb .r (nb .l c) = c from nb_bn .r c]
  · congr 1; funext p; unfold lent dest; rw [show nb .l (nb .r c) = c from nb_bn .l c]

/-! ## Closing the semaphores -/

section Close

variable (κ : GSem nD τ sig → ℕ) (c : Dev nD)

theorem close_one (s : DmaSem sig) (hs : 4 ≤ s.val) (R : ℕ) (hR : ∀ r, R ≤ r → (Rd X B).duties ((c : Thread nD τ), .dma s) r = ∅) :
    iprop(Ctx X B κ ∗ atPos ER ((c : Thread nD τ), .dma s) R ∅ 0)
      ⊢ (|={Set.univ}=> semVal ((c : Thread nD τ), .dma s) 0 : sProp 𝕄) := by
  iintro ⟨#HC, H⟩
  ihave #HI := (inv_of X B κ (mem_dmas c s hs)) $$ HC
  iapply (Rounds.cell_close ER (Rd X B) (Set.mem_univ (κ ((c : Thread nD τ), .dma s))) id hR)
  isplitr; · iexact HI
  iexact H

/-- Semaphores with no duty left are closed, one after the other. -/
theorem close_list (l : List (DmaSem sig)) (R : ℕ) (hl : ∀ s ∈ l, 4 ≤ s.val)
    (hR : ∀ s ∈ l, ∀ r, R ≤ r → (Rd X B).duties ((c : Thread nD τ), .dma s) r = ∅) :
    iprop(Ctx X B κ ∗ bigSepL l fun s => atPos ER ((c : Thread nD τ), .dma s) R ∅ 0)
      ⊢ (|={Set.univ}=> bigSepL l fun s => semVal ((c : Thread nD τ), .dma s) 0 : sProp 𝕄) := by
  induction l with
  | nil => iintro ⟨-, H⟩; imodintro; iexact H
  | cons s l ih =>
    rw [bigSepL_cons', bigSepL_cons']
    iintro ⟨#HC, H, Hl⟩
    imod (close_one X B κ c s (hl s List.mem_cons_self) R (hR s List.mem_cons_self)) $$ [H] with H
    · isplitr; · iexact HC
      iexact H
    imod (ih (fun s' hs => hl s' (List.mem_cons_of_mem _ hs)) fun s' hs => hR s' (List.mem_cons_of_mem _ hs)) $$ [Hl] with Hl
    · isplitr; · iexact HC
      iexact Hl
    imodintro
    isplitl [H] <;> iassumption

theorem close_bar :
    iprop(Ctx X B κ ∗ atPos ER (barCell c) 1 ∅ 0) ⊢ (|={Set.univ}=> semVal (barCell c) 0 : sProp 𝕄) := by
  iintro ⟨#HC, H⟩
  ihave #HI := (inv_of X B κ (mem_bars c)) $$ HC
  iapply (Rounds.cell_close ER (Rd X B) (Set.mem_univ (κ (barCell c))) id (duties_later X B (barCell c)))
  isplitr; · iexact HI
  iexact H

theorem idle_dead : ∀ s ∈ idle, dutiesAs (role s) = ∅ := by decide +kernel

theorem idle_ge : ∀ s ∈ idle, 4 ≤ s.val := by decide +kernel

theorem idle_duties (s : DmaSem sig) (hs : s ∈ idle) (r : ℕ) : (Rd X B).duties ((c : Thread nD τ), .dma s) r = ∅ := by
  rcases Nat.eq_zero_or_pos r with rfl | hr
  · rw [duties_at]; exact idle_dead s hs
  · exact duties_later X B _ r hr

theorem own_ge : ∀ s ∈ ownSems, 4 ≤ s.val := by decide +kernel

/-- All own semaphores at zero. -/
def Closed (c : Dev nD) : sProp 𝕄 := bigSepL ownSems fun s => semVal ((c : Thread nD τ), .dma s) 0

/-- After the last wait all own semaphores can be closed. -/
theorem close_all :
    iprop(Ctx X B κ ∗ Hold X B c (moves .doneS) ∗ Hold X B c (moves .doneR) ∗ Hold X B c (rowAtoms .doneP)
        ∗ Hold X B c (rowAtoms .doneG) ∗ bigSepL idle fun s => atPos ER ((c : Thread nD τ), .dma s) 0 ∅ 0)
      ⊢ (|={Set.univ}=> Closed c : sProp 𝕄) := by
  have h1 := close_list X B κ c (trips.map fun t => sndS t.1 t.2.1 t.2.2) 1
    (by simp only [List.mem_map]; rintro s ⟨t, -, rfl⟩; exact ge_snd _ _ _) fun s _ => duties_later X B _
  have h2 := close_list X B κ c (trips.map fun t => rcvS t.1 t.2.1 t.2.2) 1
    (by simp only [List.mem_map]; rintro s ⟨t, -, rfl⟩; exact ge_rcv _ _ _) fun s _ => duties_later X B _
  have h3 := close_list X B κ c (sends.map rowSndS) 1
    (by simp only [List.mem_map]; rintro s ⟨t, -, rfl⟩; exact ge_rowSnd _) fun s _ => duties_later X B _
  have h4 := close_list X B κ c (sends.map rowRcvS) 1
    (by simp only [List.mem_map]; rintro s ⟨t, -, rfl⟩; exact ge_rowRcv _) fun s _ => duties_later X B _
  have h5 := close_list X B κ c idle 0 idle_ge fun s hs r _ => idle_duties X B c s hs r
  rw [hold_moves, hold_moves]
  unfold rowAtoms
  rw [hold_map, hold_map]
  rw [bigSepL_map] at h1 h2 h3 h4
  unfold Closed ownSems
  rw [bigSepL_append, bigSepL_append, bigSepL_append, bigSepL_append]
  iintro ⟨#HC, H1, H2, H3, H4, H5⟩
  imod h1 $$ [H1] with H1
  · isplitr; · iexact HC
    iexact H1
  imod h2 $$ [H2] with H2
  · isplitr; · iexact HC
    iexact H2
  imod h3 $$ [H3] with H3
  · isplitr; · iexact HC
    iexact H3
  imod h4 $$ [H4] with H4
  · isplitr; · iexact HC
    iexact H4
  imod h5 $$ [H5] with H5
  · isplitr; · iexact HC
    iexact H5
  imodintro
  isplitl [H1]; · iexact H1
  isplitl [H2]; · iexact H2
  isplitl [H3]; · iexact H3
  isplitl [H4]; · iexact H4
  iexact H5

end Close

/-! ## What the first transfers find -/

section Assemble

variable (c : Dev nD)

/-- A half that the device has, and its semaphore's beginning, can be lent. -/
theorem lend (f : Vec F S32x128x4096 .bf16) :
    iprop((bigSepL trips fun t => gM.view.loc (c : Thread nD τ) ↦[halfSet (dstSlot t.1 t.2.1, t.2.2)]{fullShare} f)
        ∗ bigSepL trips fun t => reached ER (rcvCell c t.1 t.2.1 t.2.2) 0)
      ⊢ (bigSepL trips (lent c) : sProp 𝕄) := by
  refine (list_sep trips _ _).2.trans (bigSepL_mono fun t _ => ?_)
  unfold lent halfAny
  iintro ⟨H, HR⟩
  isplitl [H]
  · iexists f; iexact H
  iexact HR

/-- The rows of the maxima, lent likewise. -/
theorem grant (f : Vec F S32x128 .f32) :
    iprop((bigSepL sends fun e => mM.view.loc (c : Thread nD τ) ↦[rowSet (rowOf e)]{fullShare} f)
        ∗ bigSepL sends fun e => reached ER (rowRcvCell c e) 0)
      ⊢ (bigSepL sends (gift c) : sProp 𝕄) := by
  refine (list_sep sends _ _).2.trans (bigSepL_mono fun e _ => ?_)
  unfold gift rowAny
  iintro ⟨H, HR⟩
  isplitl [H]
  · iexists f; iexact H
  iexact HR

/-- A semaphore's beginning is its position and the fact that its round is reached. -/
theorem fresh_list {I : Type} (l : List I) (s : I → DmaSem sig) :
    (bigSepL l fun i => Fresh c (s i) : sProp 𝕄)
      ⊢ iprop((bigSepL l fun i => atPos ER ((c : Thread nD τ), .dma (s i)) 0 ∅ 0)
        ∗ bigSepL l fun i => reached ER ((c : Thread nD τ), .dma (s i)) 0) := by
  unfold Fresh
  exact (list_sep l _ _).1

theorem hold_go :
    iprop((bigSepL trips fun t => dest t.1 c t.2.1 t.2.2)
        ∗ (bigSepL trips fun t => dutyTok ER (sndCell c t.1 t.2.1 t.2.2) 0 false)
        ∗ (bigSepL trips fun t => dutyTok ER (rcvCell (nb t.1 c) t.1 t.2.1 t.2.2) 0 false)
        ∗ (bigSepL trips fun t => reached ER (sndCell c t.1 t.2.1 t.2.2) 0)
        ∗ (bigSepL trips fun t => atPos ER (sndCell c t.1 t.2.1 t.2.2) 0 ∅ 0))
      ⊢ Hold X B c (moves .go) := by
  rw [hold_moves]
  unfold At.holds dest
  refine BIBase.Entails.trans ?_ (list_sep trips _ _).2
  refine sep_mono_right (BIBase.Entails.trans ?_ (list_sep trips _ _).2)
  refine sep_mono_right (BIBase.Entails.trans ?_ (list_sep trips _ _).2)
  exact sep_mono_right (list_sep trips _ _).2

theorem hold_inc :
    iprop((bigSepL trips fun t => cred (tallyAt (rcvCell c t.1 t.2.1 t.2.2) () NH))
        ∗ (bigSepL trips fun t => atPos ER (rcvCell c t.1 t.2.1 t.2.2) 0 ∅ 0))
      ⊢ Hold X B c (moves .inc) := by
  rw [hold_moves]
  unfold At.holds
  exact (list_sep trips _ _).2

theorem hold_rgo :
    iprop((bigSepL sends fun e => dutyTok ER (rowSndCell c e) 0 false)
        ∗ (bigSepL sends fun e => dutyTok ER (rowRcvCell (rowTo c e) e) 0 false)
        ∗ (bigSepL sends fun e => reached ER (rowSndCell c e) 0)
        ∗ (bigSepL sends fun e => atPos ER (rowSndCell c e) 0 ∅ 0))
      ⊢ Hold X B c (rowAtoms .rgo) := by
  unfold rowAtoms
  rw [hold_map]
  unfold At.holds
  refine BIBase.Entails.trans ?_ (list_sep sends _ _).2
  refine sep_mono_right (BIBase.Entails.trans ?_ (list_sep sends _ _).2)
  exact sep_mono_right (list_sep sends _ _).2

theorem hold_rinc :
    iprop((bigSepL sends fun e => cred (tallyAt (rowRcvCell c e) () NR))
        ∗ (bigSepL sends fun e => atPos ER (rowRcvCell c e) 0 ∅ 0))
      ⊢ Hold X B c (rowAtoms .rinc) := by
  unfold rowAtoms
  rw [hold_map]
  unfold At.holds
  exact (list_sep sends _ _).2

theorem hold_start :
    iprop(Hold X B c ownAtoms ∗ Hold X B c [.rest .r 0, .rest .l 0] ∗ Hold X B c (moves .go) ∗ Hold X B c (moves .inc))
      ⊢ Hold X B c atStart := by
  rw [show atStart = ownAtoms ++ [.rest .r 0, .rest .l 0] ++ moves .go ++ moves .inc from rfl]
  iintro ⟨H1, H2, H3, H4⟩
  iapply (hold_append X B c _ _).2
  isplitr [H4]
  · iapply (hold_append X B c _ _).2
    isplitr [H3]
    · iapply (hold_append X B c _ _).2
      isplitl [H1] <;> iassumption
    iexact H3
  iexact H4

end Assemble

/-! ## The body -/

section Body

variable (κ : GSem nD τ sig → ℕ) (c : Dev nD) (Q : PUnit.{1} → sProp (MT nD τ sig Unit (Elt F) ℕ UU ℕ))

/-- The body from the load of the staged block on, the signals sent. -/
def body₃ (d0 rt lf : Dev nD) : P F :=
  .op (.load xM (Rect.unit (s := S128x4096) ![0, 0] S128x4096.size inb_S128x4096_S128x4096_0_0).toLoadRect
    (View.loadsAt_vmem h_S128x4096)) fun x =>
  .op (.load gM (slotR 0).toLoadRect (View.loadsAt_vmem h_S1x128x4096)) fun _ =>
  .op (.store gM (slotR 0) (k0_pay1 x) Finset.univ (View.stores_vmem h_S1x128x4096
    ((Memref.isWhole_whole cc0_scratch0).storeExact_slice rfl _ packedbf16_S32x128x4096_S1x128x4096_0_0_0)
    (fun _ => rfl)) (.inl rfl)) fun _ =>
  .op (.semWait barS ((2 : ℕ) : ℤ)) fun _ =>
  run d0 rt lf firstEvs (Scalar.ofBits .f32 0#32) fun _ => own d0 rt lf

theorem body₂_signals (d0 rt lf : Dev nD) : body₂ (F := F) d0 rt lf
    = .op (.semSignal (Dev.tc lf : Thread nD τ) barS ((1 : ℕ) : ℤ)) fun _ =>
      .op (.semSignal (Dev.tc rt : Thread nD τ) barS ((1 : ℕ) : ℤ)) fun _ => body₃ d0 rt lf := by sl_kernel_rfl

/-- The two signals. -/
theorem signals_wp (k : P F) :
    iprop(Ctx X B κ ∗ Owes c (due c) ∗ dutyTok ER (barCell (nb .l c)) 0 false ∗ dutyTok ER (barCell (nb .r c)) 0 true
        ∗ reached ER (barCell (nb .l c)) 0 ∗ reached ER (barCell (nb .r c)) 0 ∗ bigSepL trips (lent c)
        ∗ (Owes c (owed c (firstEvs ++ (ringEvs ++ rowEvs))) -∗ wpOn c k Q))
      ⊢ wpOn c (.op (.semSignal (Dev.tc (nb .l c) : Thread nD τ) barS ((1 : ℕ) : ℤ)) fun _ =>
          .op (.semSignal (Dev.tc (nb .r c) : Thread nD τ) barS ((1 : ℕ) : ℤ)) fun _ => k) Q := by
  rw [lent_pays]
  unfold Owes
  iintro ⟨#HC, ⟨%W, HO⟩, Ht1, Ht2, #Hr1, #Hr2, ⟨HP1, HP2⟩, Hk⟩
  ihave #HI1 := (inv_of X B κ (mem_bars (nb .l c))) $$ HC
  ihave #HI2 := (inv_of X B κ (mem_bars (nb .r c))) $$ HC
  iapply (Rounds.wp_signal 𝒱₀ ER (Rd X B) (c : Thread nD τ) none (dst := (Dev.tc (nb .l c) : Thread nD τ)) (sem := barS)
      (r := 0) (d := false) (κ := κ (barCell (nb .l c)))
      (by rw [duties_bar]; exact Finset.mem_univ _) (amount_bar X B (nb .l c) false) ()
      (owed c (firstEvs ++ (ringEvs ++ rowEvs)) + tallyAt (barCell (nb .r c)) () 1) rfl)
    $$ [HO Ht1 HP1]
  · isplitr; · iexact HI1
    isplitl [HO]; · iexact HO
    isplitl [Ht1]; · iexact Ht1
    isplitl [HP1]; · rw [payload_bar]; iexact HP1
    iexact Hr1
  iintro HO
  iapply (Rounds.wp_signal 𝒱₀ ER (Rd X B) (c : Thread nD τ) none (dst := (Dev.tc (nb .r c) : Thread nD τ)) (sem := barS)
      (r := 0) (d := true) (κ := κ (barCell (nb .r c)))
      (by rw [duties_bar]; exact Finset.mem_univ _) (amount_bar X B (nb .r c) true) ()
      (owed c (firstEvs ++ (ringEvs ++ rowEvs))) rfl)
    $$ [HO Ht2 HP2]
  · isplitr; · iexact HI2
    isplitl [HO]; · iexact HO
    isplitl [Ht2]; · iexact Ht2
    isplitl [HP2]; · rw [payload_bar]; iexact HP2
    iexact Hr2
  iintro HO
  iapply Hk
  iexists W; iexact HO

theorem all_above : ∀ e ∈ firstEvs ++ (ringEvs ++ rowEvs), 2 < debtLv e := by decide +kernel

/-- The barrier's wait: both neighbours' places come. -/
theorem barrier_wp (k : P F) :
    iprop(Ctx X B κ ∗ Owes c (owed c (firstEvs ++ (ringEvs ++ rowEvs))) ∗ cred (tallyAt (barCell c) () 2)
        ∗ atPos ER (barCell c) 0 ∅ 0
        ∗ (((bigSepL trips fun t => dest t.1 c t.2.1 t.2.2) ∗ atPos ER (barCell c) 1 ∅ 0
            ∗ Owes c (owed c (firstEvs ++ (ringEvs ++ rowEvs)))) -∗ wpOn c k Q))
      ⊢ wpOn c (.op (.semWait barS ((2 : ℕ) : ℤ)) fun _ => k) Q := by
  have hab : Above (lv (barCell c) ()) (owed c (firstEvs ++ (ringEvs ++ rowEvs))) := by
    rw [lv_bar]; exact above_owed c _ all_above
  rw [← barPays]
  unfold Owes
  iintro ⟨#HC, ⟨%W, HO⟩, Hc, Hat, Hk⟩
  ihave #HI := (inv_of X B κ (mem_bars c)) $$ HC
  ihave #HM := (mayWait_of X B κ c (.reg barS) _ hab) $$ HC
  iapply (Rounds.wp_wait_rest_token 𝒱₀ ER (Rd X B) (c : Thread nD τ) none (κ := κ (barCell c))
      (wpE_semWait_eq 𝒱₀ (c : Thread nD τ) none Set.univ) (Set.mem_univ _) ()
      (O := owed c (firstEvs ++ (ringEvs ++ rowEvs))) (W := W) (R := 0) (m := 0) (T := ∅)
      ((Nat.zero_add 2).trans (expect_bar X B c).symm)) $$ [Hc HO Hat]
  · isplitr; · iexact HI
    isplitl [Hc]; · iexact Hc
    isplitl [HO]; · iexact HO
    isplitr; · iexact HM
    iexact Hat
  iintro ⟨HO, Hat, -, Hpay⟩
  ihave Hp := (Entails.of_eq (rest_bar X B c)) $$ Hpay
  iapply Hk
  isplitl [Hp]; · iexact Hp
  isplitl [Hat]; · iexact Hat
  iexists _; iexact HO

/-- The own block goes into the own slot. -/
theorem place_wp (f : Vec F S32x128x4096 .bf16) (k : P F) :
    iprop(whole xM c (X c) ∗ (gM.view.loc (c : Thread nD τ) ↦[(slotR 0).set]{fullShare} f)
        ∗ ((whole xM c (X c) ∗ Hold X B c ownAtoms) -∗ wpOn c k Q))
      ⊢ wpOn c (.op (.load xM (Rect.unit (s := S128x4096) ![0, 0] S128x4096.size inb_S128x4096_S128x4096_0_0).toLoadRect
          (View.loadsAt_vmem h_S128x4096)) fun x =>
        .op (.load gM (slotR 0).toLoadRect (View.loadsAt_vmem h_S1x128x4096)) fun _ =>
        .op (.store gM (slotR 0) (k0_pay1 x) Finset.univ (View.stores_vmem h_S1x128x4096
          ((Memref.isWhole_whole cc0_scratch0).storeExact_slice rfl _ packedbf16_S32x128x4096_S1x128x4096_0_0_0)
          (fun _ => rfl)) (.inl rfl)) fun _ => k) Q := by
  have hsub : gM.view.setOn (slotR 0).toLoadRect.set ⊆ (slotR 0).set := by
    intro x hx
    obtain ⟨y, hy, rfl⟩ := Finset.mem_map.mp hx
    exact hy
  have hsub' : (gM.access (slotR 0)).set ⊆ (slotR 0).set := by rw [View.set_slice_whole]
  iintro ⟨Hx, Hg, Hk⟩
  iapply (wp_load 𝒱₀ (c : Thread nD τ) none Set.univ (S := Finset.univ) (Finset.subset_univ _)) $$ [Hx]
  · iexact Hx
  iintro Hx
  rw [read_x]
  iapply (wp_load 𝒱₀ (c : Thread nD τ) none Set.univ (m := gM) hsub) $$ [Hg]
  · iexact Hg
  iintro Hg
  iapply (wp_store 𝒱₀ (c : Thread nD τ) none Set.univ (m := gM) hsub') $$ [Hg]
  · iexact Hg
  iintro Hg
  iapply Hk
  isplitl [Hx]; · iexact Hx
  iapply (own_slot X B c).1
  iapply (Entails.of_eq (pointsTo_congr (slot_store X c f)))
  iexact Hg

/-- The atoms that the first transfers leave alone, but the own slot's. -/
def otherAtoms : List At :=
  (moves .go).filter (fun x => match x with | .go _ h _ => decide (h ≠ 0) | _ => true) ++ moves .inc

/-- The first transfers' atoms, in the order of use, and the others. -/
def firstAtoms : List At :=
  [.own .r 0, .go .r 0 0, .rest .r 0, .own .r 1, .go .r 0 1, .own .l 0, .go .l 0 0, .rest .l 0, .own .l 1, .go .l 0 1]

theorem start_perm : atStart.isPerm (firstAtoms ++ (.keep 0 0 :: .keep 0 1 :: otherAtoms)) = true := by decide +kernel

/-- The first transfers: the own block's halves set out both ways. -/
theorem first_wp (fut : List Ev) (a : F .f32) (k : P F) :
    iprop(Ctx X B κ ∗ Hold X B c atStart ∗ Owes c (owed c (firstEvs ++ fut))
        ∗ ((Hold X B c atFirst ∗ Owes c (owed c fut)) -∗ wpOn c k Q))
      ⊢ wpOn c (run c (nb .r c) (nb .l c) firstEvs a fun _ => k) Q := by
  have hsplit := (hold_perm X B c (List.isPerm_iff.mp start_perm)).trans (hold_append X B c firstAtoms _).1
  have hown : ∀ d j, (At.own d j).holds X B c = halfAt X c (srcSlot d 0) j (sq d 0) := by
    intro d j; cases d <;> rfl
  have hrest : ∀ d h, (At.rest d h).holds X B c = bundle d (orig c (srcSlot d h)) h.val := fun _ _ => rfl
  unfold firstAtoms at hsplit
  simp only [hold_cons, hold_nil] at hsplit
  iintro ⟨#HC, H, HO, Hk⟩
  ihave H := hsplit $$ H
  icases H with ⟨⟨S1, G1, R1, S2, G2, S3, G3, R3, S4, G4, -⟩, K0, K1, HA⟩
  simp only [hown, hrest]
  iapply (start_wp X B κ c (owed c fut + debt c (.start .l 0 1) + debt c (.start .l 0 0) + debt c (.start .r 0 1)) Q a _ .r 0 0 (by decide))
  isplitr; · iexact HC
  isplitl [S1]; · iexact S1
  isplitl [G1]; · iexact G1
  rw [if_pos (rfl : (0 : Fin 2) = 0)]
  isplitl [R1]
  · iexact R1
  isplitl [HO]; · iexact HO
  iintro ⟨O1, HO⟩
  iapply (start_wp X B κ c (owed c fut + debt c (.start .l 0 1) + debt c (.start .l 0 0)) Q a _ .r 0 1 (by decide))
  isplitr; · iexact HC
  isplitl [S2]; · iexact S2
  isplitl [G2]; · iexact G2
  rw [if_neg (by decide : ¬ (1 : Fin 2) = 0)]
  isplitr
  · iempintro
  isplitl [HO]; · iexact HO
  iintro ⟨O2, HO⟩
  iapply (start_wp X B κ c (owed c fut + debt c (.start .l 0 1)) Q a _ .l 0 0 (by decide))
  isplitr; · iexact HC
  isplitl [S3]; · iexact S3
  isplitl [G3]; · iexact G3
  rw [if_pos (rfl : (0 : Fin 2) = 0)]
  isplitl [R3]
  · iexact R3
  isplitl [HO]; · iexact HO
  iintro ⟨O3, HO⟩
  iapply (start_wp X B κ c (owed c fut) Q a _ .l 0 1 (by decide))
  isplitr; · iexact HC
  isplitl [S4]; · iexact S4
  isplitl [G4]; · iexact G4
  rw [if_neg (by decide : ¬ (1 : Fin 2) = 0)]
  isplitr
  · iempintro
  isplitl [HO]; · iexact HO
  iintro ⟨O4, HO⟩
  iapply Hk
  isplitr [HO]
  · unfold atFirst
    rw [List.append_assoc]
    iapply (hold_append X B c _ _).2
    isplitr [HA]
    · simp only [hold_cons, hold_nil]
      isplitl [K0]; · iexact K0
      isplitl [K1]; · iexact K1
      isplitl [O1]; · iexact O1
      isplitl [O2]; · iexact O2
      isplitl [O3]; · iexact O3
      isplitl [O4]; · iexact O4
      iempintro
    unfold otherAtoms
    iexact HA
  iexact HO

/-- What the body leaves. -/
def Ended (c : Dev nD) : sProp 𝕄 :=
  iprop(whole xM c (X c) ∗ whole wM c (B c) ∗ whole tM c (table (F := F) c) ∗ whole oM c (result X B c)
    ∗ (∃ f, whole gM c f) ∗ (∃ f, whole vM c f) ∗ (∃ f, whole mM c f) ∗ Closed c ∗ semVal (barCell c) 0 ∗ Owes c 0)

/-- The body on device `c`, from its beginning to its end. -/
theorem body_wp :
    iprop(Ready X B κ c ∗ Owes c (due c) ∗ whole xM c (X c) ∗ whole wM c (B c) ∗ whole tM c (table (F := F) c)
        ∗ (∃ f, whole oM c f) ∗ (∃ f, whole gM c f) ∗ (∃ f, whole vM c f) ∗ (∃ f, whole mM c f)
        ∗ (Ended X B c -∗ Q ⟨⟩))
      ⊢ wpOn c (body (F := F)) Q := by
  have hown := own_wp X B κ c Q
  unfold Ready Toks Creds
  rw [fresh_split]
  iintro ⟨⟨#HC, #Hr1, #Hr2, Hbar, ⟨Ht1, Ht2, HtS, HtR, HtP, HtG⟩, ⟨Hcb, HcR, HcG⟩, HfS, HfR, HfP, HfG, HfI⟩, HO, Hx, Hw, Ht,
    ⟨%fo, Ho⟩, ⟨%fg, Hg⟩, Hv, ⟨%fm, Hm⟩, Hk⟩
  iapply (neighbours_wp c Q)
  isplitl [Ht]; · iexact Ht
  iintro Ht
  rw [body₂_signals]
  ihave H := (fresh_list c trips fun t => sndS t.1 t.2.1 t.2.2) $$ HfS
  icases H with ⟨HaS, HrS⟩
  ihave H := (fresh_list c trips fun t => rcvS t.1 t.2.1 t.2.2) $$ HfR
  icases H with ⟨HaR, HrR⟩
  ihave H := (fresh_list c sends rowSndS) $$ HfP
  icases H with ⟨HaP, HrP⟩
  ihave H := (fresh_list c sends rowRcvS) $$ HfG
  icases H with ⟨HaG, HrG⟩
  ihave H := (fresh_list c idle fun s => s) $$ HfI
  icases H with ⟨HaI, -⟩
  ihave H := (slots_split c fg).1 $$ Hg
  icases H with ⟨Hg0, Hg⟩
  ihave Hlent := (lend c fg) $$ [Hg HrR]
  · isplitl [Hg] <;> iassumption
  iapply (signals_wp X B κ c Q (body₃ c (nb .r c) (nb .l c)))
  isplitr; · iexact HC
  isplitl [HO]; · iexact HO
  isplitl [Ht1]; · iexact Ht1
  isplitl [Ht2]; · iexact Ht2
  isplitr; · iexact Hr1
  isplitr; · iexact Hr2
  isplitl [Hlent]; · iexact Hlent
  iintro HO
  unfold body₃
  iapply (place_wp X B c Q fg _)
  isplitl [Hx]; · iexact Hx
  isplitl [Hg0]; · iexact Hg0
  iintro ⟨Hx, Hown⟩
  iapply (barrier_wp X B κ c Q _)
  isplitr; · iexact HC
  isplitl [HO]; · iexact HO
  isplitl [Hcb]; · iexact Hcb
  isplitl [Hbar]; · iexact Hbar
  iintro ⟨Hdest, Hbar, HO⟩
  ihave H := (Entails.of_eq (maxima_split c fm)) $$ Hm
  icases H with ⟨Hm0, Hm⟩
  ihave Hgift := (grant c fm) $$ [Hm HrG]
  · isplitl [Hm] <;> iassumption
  ihave Hrest := (gifts_out X B c) $$ Hgift
  ihave Hgo := (hold_go X B c) $$ [Hdest HtS HtR HrS HaS]
  · isplitl [Hdest]; · iexact Hdest
    isplitl [HtS]; · iexact HtS
    isplitl [HtR]; · iexact HtR
    isplitl [HrS] <;> iassumption
  ihave Hinc := (hold_inc X B c) $$ [HcR HaR]
  · isplitl [HcR] <;> iassumption
  ihave Hrgo := (hold_rgo X B c) $$ [HtP HtG HrP HaP]
  · isplitl [HtP]; · iexact HtP
    isplitl [HtG]; · iexact HtG
    isplitl [HrP] <;> iassumption
  ihave Hrinc := (hold_rinc X B c) $$ [HcG HaG]
  · isplitl [HcG] <;> iassumption
  iapply (first_wp X B κ c Q (ringEvs ++ rowEvs) _ _)
  isplitr; · iexact HC
  isplitl [Hown Hrest Hgo Hinc]
  · iapply (hold_start X B c)
    isplitl [Hown]; · iexact Hown
    isplitl [Hrest]; · iexact Hrest
    isplitl [Hgo] <;> iassumption
  isplitl [HO]; · iexact HO
  iintro ⟨HF, HO⟩
  iapply hown
  isplitr; · iexact HC
  isplitl [Hw]; · iexact Hw
  isplitl [Ht]; · iexact Ht
  isplitl [Hv]; · iexact Hv
  isplitl [Ho]; · iexists fo; iexact Ho
  isplitl [HF]; · iexact HF
  isplitl [HO]; · iexact HO
  isplitl [Hm0]
  · unfold rowAny; iexists fm; iexact Hm0
  isplitl [Hrgo]; · iexact Hrgo
  isplitl [Hrinc]; · iexact Hrinc
  iintro ⟨Hw, Ht, Hv, Hg, Hm, Ho, HS, HR, HP, HG, HO⟩
  imod (close_all X B κ c) $$ [HS HR HP HG HaI] with Hcl
  · isplitr; · iexact HC
    isplitl [HS]; · iexact HS
    isplitl [HR]; · iexact HR
    isplitl [HP]; · iexact HP
    isplitl [HG]; · iexact HG
    iexact HaI
  imod (close_bar X B κ c) $$ [Hbar] with Hb
  · isplitr; · iexact HC
    iexact Hbar
  imodintro
  iapply Hk
  unfold Ended
  isplitl [Hx]; · iexact Hx
  isplitl [Hw]; · iexact Hw
  isplitl [Ht]; · iexact Ht
  isplitl [Ho]; · iexact Ho
  isplitl [Hg]; · iexact Hg
  isplitl [Hv]; · iexact Hv
  isplitl [Hm]; · iexact Hm
  isplitl [Hcl]; · iexact Hcl
  isplitl [Hb]; · iexact Hb
  iexact HO

end Body

end Cert.KernelIdeal.Ring

end
-- ==== Proof.Table.lean ====
module
public import proofs.«01_k».proof.Proof.Steps
public import proofs.«01_k».proof.Proof.Gen.KernelIdeal.Regions
public import Idealize.ShloMosaic.Lib.StableHlo.RunRead

/-!
# The table the host computes

The host code reads its device's number, finds its place in the ring, and lists the devices the kernel
has to know: the two neighbours, then the 31 origins.  The values are words, so each stretch of host
code is evaluated at every device.
-/

@[expose] public section
noncomputable section

namespace Cert.KernelIdeal.Ring

open Idealize.ShloMosaic Idealize.ShloMosaic.TcCoe Idealize.ShloMosaic.StableHlo
open Cert.KernelIdeal Cert.KernelIdeal.Gen

variable {F : FTy → Type} [FloatOps F]

variable (m : (ℓ : Loc nD τ sig) → Buf (Elt F) ℓ)

/-- Equations of words that hold at every device and every entry, found by evaluation. -/
theorem words_all (f g : Dev nD → Fin 33 → BitVec 32)
    (h : decide (∀ c k, f c k = g c k) = true) (c : Dev nD) (k : Fin 33) : f c k = g c k :=
  of_decide_eq_true h c k

/-- The index of one entry. -/
def entryIdx (k : Fin 33) : S33.Idx := fun a => match a with | ⟨0, _⟩ => k

theorem entryIdx_zero (i : S33.Idx) : entryIdx (i 0) = i := by
  funext a
  obtain ⟨_ | n, ha⟩ := a
  · rfl
  · exact absurd ha (by change ¬ n + 1 < 1; omega)

/-- What the host code leaves in one entry. -/
theorem entry_read (c : Dev nD) (k : Fin 33) :
    (V9 m c main_v53 : S33.Idx → BitVec 32) (entryIdx k) = entry c k :=
  words_all (fun c k => (V9 m c main_v53 : S33.Idx → BitVec 32) (entryIdx k)) (fun c k => entry c k)
    (by sl_kernel_rfl) c k

/-- The host code leaves the table the kernel reads. -/
theorem table_read (c : Dev nD) : V9 m c main_v53 = table (F := F) c := by
  funext i
  exact (congrArg (V9 m c main_v53 : S33.Idx → BitVec 32) (entryIdx_zero i)).symm.trans (entry_read m c (i 0))

end Cert.KernelIdeal.Ring
end
-- ==== Proof.Deal.lean ====
module
public import proofs.«01_k».proof.Proof.Body
public import Idealize.ShloMosaic.Lib.SparseCore.Launch

/-!
# What the launch deals to each device

The tokens of the duties that a device pays, on its neighbours' and its receivers' cells, and the credits for what
the others pay to it.  What all devices owe together is what all are credited together: every neighbour map is a
bijection of the devices.
-/

@[expose] public section
noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The tokens -/

/-- A payment that a device makes. -/
inductive Pay
  | bar (u : Bool)
  | snd (t : Dir × Fin 16 × Fin 2)
  | rcv (t : Dir × Fin 16 × Fin 2)
  | rowSnd (e : Fin 31)
  | rowRcv (e : Fin 31)
  deriving DecidableEq

/-- The device it is made to, by device `c`. -/
def Pay.to (c : Dev nD) : Pay → Dev nD
  | .bar false => nb .l c
  | .bar true => nb .r c
  | .snd _ => c
  | .rcv t => nb t.1 c
  | .rowSnd _ => c
  | .rowRcv e => rowTo c e

/-- The device that makes it, to device `c`. -/
def Pay.back (c : Dev nD) : Pay → Dev nD
  | .bar false => bn .l c
  | .bar true => bn .r c
  | .snd _ => c
  | .rcv t => bn t.1 c
  | .rowSnd _ => c
  | .rowRcv e => rowFrom c e

theorem Pay.back_to (c : Dev nD) (p : Pay) : p.back (p.to c) = c := by
  cases p with
  | bar u =>
    cases u
    · exact bn_nb .l c
    · exact bn_nb .r c
  | snd t => rfl
  | rcv t => exact bn_nb t.1 c
  | rowSnd e => rfl
  | rowRcv e => exact rowFrom_rowTo c e

/-- The semaphore it counts. -/
def Pay.sem : Pay → SemLoc sig
  | .bar _ => .reg barS
  | .snd t => .dma (sndS t.1 t.2.1 t.2.2)
  | .rcv t => .dma (rcvS t.1 t.2.1 t.2.2)
  | .rowSnd e => .dma (rowSndS e)
  | .rowRcv e => .dma (rowRcvS e)

/-- The duty it discharges. -/
def Pay.duty : Pay → Bool
  | .bar u => u
  | _ => false

/-- The use of the DMA semaphore it counts. -/
def Pay.role : Pay → Role
  | .bar _ => .stage
  | .snd t => .snd t.1 t.2.1 t.2.2
  | .rcv t => .rcv t.1 t.2.1 t.2.2
  | .rowSnd e => .rowSnd e
  | .rowRcv e => .rowRcv e

/-- The use of a semaphore. -/
def semRole : SemLoc sig → Role
  | .reg _ => .stage
  | .dma s => Ring.role s

theorem semRole_sem (p : Pay) : semRole p.sem = p.role := by
  cases p with
  | bar u => rfl
  | snd t => exact role_snd _ _ _
  | rcv t => exact role_rcv _ _ _
  | rowSnd e => exact role_rowSnd e
  | rowRcv e => exact role_rowRcv e

theorem Pay.ext {p q : Pay} (hr : p.role = q.role) (hd : p.duty = q.duty) : p = q := by
  obtain u | ⟨d, h, j⟩ | ⟨d, h, j⟩ | e | e := p <;> obtain u' | ⟨d', h', j'⟩ | ⟨d', h', j'⟩ | e' | e' := q <;>
    simp_all [Pay.role, Pay.duty]

/-- The payments of a device. -/
def pays : List Pay :=
  .bar false :: .bar true :: (trips.map .snd ++ (trips.map .rcv ++ (sends.map .rowSnd ++ sends.map .rowRcv)))

theorem pays_nodup : pays.Nodup := by decide +kernel

/-- The token of payment number `p.2` of device `p.1`. -/
def tokenOf (p : Dev nD × Fin pays.length) : GSem nD τ sig × ℕ × Bool :=
  ((((pays.get p.2).to p.1 : Thread nD τ), (pays.get p.2).sem), 0, (pays.get p.2).duty)

theorem tokenOf_inj : Function.Injective tokenOf := by
  intro p q h
  have hs : (pays.get p.2).sem = (pays.get q.2).sem := congrArg (fun x : GSem nD τ sig × ℕ × Bool => x.1.2) h
  have hd : (pays.get p.2).duty = (pays.get q.2).duty := congrArg (fun x : GSem nD τ sig × ℕ × Bool => x.2.2) h
  have hc : (pays.get p.2).to p.1 = (pays.get q.2).to q.1 := congrArg (fun x : GSem nD τ sig × ℕ × Bool => x.1.1.1) h
  have hr : (pays.get p.2).role = (pays.get q.2).role := by rw [← semRole_sem, ← semRole_sem, hs]
  have he := Pay.ext hr hd
  have h2 : p.2 = q.2 := (List.nodup_iff_injective_get.mp pays_nodup) he
  refine Prod.ext ?_ h2
  rw [he] at hc
  rw [← Pay.back_to p.1 (pays.get q.2), hc, Pay.back_to]

/-- All tokens. -/
def tokens : Finset (GSem nD τ sig × ℕ × Bool) := Finset.univ.map ⟨tokenOf, tokenOf_inj⟩

omit [FloatOps F] in
/-- The tokens of all duties, dealt to the devices that pay them. -/
theorem tokens_deal :
    bigSep tokens (fun x => (dutyTok ER x.1 x.2.1 x.2.2 : sProp 𝕄)) = bigSep Finset.univ fun c : Dev nD => Toks c := by
  unfold tokens
  rw [BI.bigSep_map, bigSep_univ_prod]
  refine bigSep_congr fun c _ => ?_
  have hl : bigSep Finset.univ (fun k : Fin pays.length => (dutyTok ER (tokenOf (c, k)).1 (tokenOf (c, k)).2.1 (tokenOf (c, k)).2.2 : sProp 𝕄))
      = bigSepL pays fun p => dutyTok ER (((p.to c : Dev nD) : Thread nD τ), p.sem) 0 p.duty := by
    rw [bigSep_univ_eq_bigSepL (List.finRange pays.length) (by ext; simp) (List.nodup_finRange _)]
    conv_rhs => rw [← List.map_get_finRange pays, bigSepL_map]
    rfl
  refine hl.trans ?_
  unfold pays Toks
  rw [bigSepL_cons', bigSepL_cons', bigSepL_append, bigSepL_append, bigSepL_append, bigSepL_map, bigSepL_map, bigSepL_map,
    bigSepL_map]
  rfl

/-! ## The credits -/

/-- The transfers that events start. -/
def startOf : Ev → Option (Dir × Fin 16 × Fin 2)
  | .start d h j => some (d, h, j)
  | _ => none

/-- The sends of the maximum that events make. -/
def putOf : Ev → Option (Fin 31)
  | .put e => some e
  | _ => none

/-- What a device owes, by kind. -/
theorem owed_kinds (c : Dev nD) (es : List Ev) :
    owed c es = ((es.filterMap startOf).map fun t => tallyAt (rcvCell (nb t.1 c) t.1 t.2.1 t.2.2) () NH).sum
      + ((es.filterMap putOf).map fun e => (tallyAt (rowRcvCell (rowTo c e) e) () NR : CellTallies nD τ sig Unit)).sum := by
  induction es with
  | nil => simp [owed]
  | cons e es ih =>
    unfold owed
    rw [ih]
    cases e <;> simp only [List.filterMap_cons, startOf, putOf, debt, List.map_cons, List.sum_cons, add_zero] <;> ac_rfl

theorem starts_perm : ((firstEvs ++ (ringEvs ++ rowEvs)).filterMap startOf).isPerm trips = true := by decide +kernel
theorem puts_perm : ((firstEvs ++ (ringEvs ++ rowEvs)).filterMap putOf).isPerm sends = true := by decide +kernel

/-- What a device owes at launch. -/
theorem due_kinds (c : Dev nD) :
    due c = (trips.map fun t => tallyAt (rcvCell (nb t.1 c) t.1 t.2.1 t.2.2) () NH).sum
      + (sends.map fun e => (tallyAt (rowRcvCell (rowTo c e) e) () NR : CellTallies nD τ sig Unit)).sum
      + tallyAt (barCell (nb .r c)) () 1 + tallyAt (barCell (nb .l c)) () 1 := by
  unfold due
  rw [owed_kinds, ((List.isPerm_iff.mp starts_perm).map _).sum_eq, ((List.isPerm_iff.mp puts_perm).map _).sum_eq]

/-- What a device is credited. -/
def creditOf (c : Dev nD) : CellTallies nD τ sig Unit :=
  (trips.map fun t => tallyAt (rcvCell c t.1 t.2.1 t.2.2) () NH).sum
    + (sends.map fun e => (tallyAt (rowRcvCell c e) () NR : CellTallies nD τ sig Unit)).sum
    + tallyAt (barCell c) () 1 + tallyAt (barCell c) () 1

/-- Sums over the devices of sums along a list agree if they agree entry by entry. -/
theorem sum_lists {I : Type} (l : List I) (f g : Dev nD → I → CellTallies nD τ sig Unit)
    (h : ∀ i, ∑ d, f d i = ∑ d, g d i) : ∑ d, (l.map (f d)).sum = ∑ d, (l.map (g d)).sum := by
  induction l with
  | nil => rfl
  | cons i l ih => simp only [List.map_cons, List.sum_cons, Finset.sum_add_distrib, h, ih]

theorem nb_bij (d : Dir) : Function.Bijective (nb d) :=
  Function.bijective_iff_has_inverse.mpr ⟨bn d, bn_nb d, nb_bn d⟩
theorem rowTo_bij (e : Fin 31) : Function.Bijective fun c => rowTo c e :=
  Function.bijective_iff_has_inverse.mpr ⟨fun c => rowFrom c e, fun c => rowFrom_rowTo c e, fun c => rowTo_rowFrom c e⟩

/-- All that is owed is all that is credited. -/
theorem sum_due : ∑ c, due c = ∑ c, creditOf c := by
  simp only [due_kinds, creditOf, Finset.sum_add_distrib]
  rw [sum_lists trips (fun c t => tallyAt (rcvCell (nb t.1 c) t.1 t.2.1 t.2.2) () NH)
      (fun c t => tallyAt (rcvCell c t.1 t.2.1 t.2.2) () NH)
      fun t => (nb_bij t.1).sum_comp fun c => (tallyAt (rcvCell c t.1 t.2.1 t.2.2) () NH : CellTallies nD τ sig Unit),
    sum_lists sends (fun c e => tallyAt (rowRcvCell (rowTo c e) e) () NR) (fun c e => tallyAt (rowRcvCell c e) () NR)
      fun e => (rowTo_bij e).sum_comp fun c => (tallyAt (rowRcvCell c e) () NR : CellTallies nD τ sig Unit),
    (nb_bij .r).sum_comp fun c => (tallyAt (barCell c) () 1 : CellTallies nD τ sig Unit),
    (nb_bij .l).sum_comp fun c => (tallyAt (barCell c) () 1 : CellTallies nD τ sig Unit)]

/-- The tally is on the device's own cells alone. -/
def Own (c : Dev nD) (T : CellTallies nD τ sig Unit) : Prop := ∀ g, T g ≠ 0 → g.1 = (c.tc : Thread nD τ)

theorem own_tally (c : Dev nD) (sm : SemLoc sig) (n : ℕ) : Own c (tallyAt ((c : Thread nD τ), sm) () n) := by
  intro g h
  by_contra hg
  exact h (tallyAt_ne_cell (fun he => hg (by rw [he])) () n)

theorem own_add {c : Dev nD} {T T' : CellTallies nD τ sig Unit} (h : Own c T) (h' : Own c T') : Own c (T + T') := by
  intro g hg
  by_contra hne
  have h1 : T g = 0 := by by_contra h0; exact hne (h g h0)
  have h2 : T' g = 0 := by by_contra h0; exact hne (h' g h0)
  exact hg (by rw [Pi.add_apply, h1, h2, add_zero])

theorem own_sum {I : Type} {c : Dev nD} (l : List I) (f : I → CellTallies nD τ sig Unit) (h : ∀ i, Own c (f i)) :
    Own c (l.map f).sum := by
  induction l with
  | nil => exact fun g hg => absurd rfl hg
  | cons i l ih => rw [List.map_cons, List.sum_cons]; exact own_add (h i) ih

theorem own_credit (c : Dev nD) : Own c (creditOf c) :=
  own_add (own_add (own_add (own_sum _ _ fun _ => own_tally c _ _) (own_sum _ _ fun _ => own_tally c _ _)) (own_tally c _ _))
    (own_tally c _ _)

omit [FloatOps F] in
theorem cred_sum {I : Type} (l : List I) (f : I → CellTallies nD τ sig Unit) :
    (cred (l.map f).sum : sProp 𝕄) ⊢ bigSepL l fun i => cred (f i) := by
  induction l with
  | nil => exact Entails.of_eq cred_zero
  | cons i l ih =>
    rw [List.map_cons, List.sum_cons, bigSepL_cons']
    exact (cred_add _ _).1.trans (sep_mono_right ih)

omit [FloatOps F] in
/-- The launch's credit of a device, by kind. -/
theorem creds_deal (c : Dev nD) : (Pipeline.launchCred due c : sProp 𝕄) ⊢ Creds c := by
  rw [Pipeline.launchCred_of_sum due creditOf sum_due own_credit c]
  unfold creditOf Creds
  rw [add_assoc, tallyAt_add]
  iintro H
  ihave H1 := (cred_add _ _).1 $$ H
  icases H1 with ⟨H1, Hb⟩
  ihave H2 := (cred_add _ _).1 $$ H1
  icases H2 with ⟨Ht, Hr⟩
  isplitl [Hb]; · iexact Hb
  isplitl [Ht]; · iapply (cred_sum trips fun t => tallyAt (rcvCell c t.1 t.2.1 t.2.2) () NH); iexact Ht
  iapply (cred_sum sends fun e => tallyAt (rowRcvCell c e) () NR); iexact Hr

end Cert.KernelIdeal.Ring
end
-- ==== Proof.Region.lean ====
module
public import proofs.«01_k».proof.Proof.Start
public import proofs.«01_k».proof.Proof.BodyEq
public import proofs.«01_k».proof.Proof.Table
public import proofs.«01_k».proof.Proof.Deal
public import Idealize.ShloMosaic.Lib.Pipeline.RegionTalk
public import Idealize.ShloMosaic.Lib.Pipeline.ValueKit.Geometry

/-!
# The kernel's region

The kernel runs once, on whole arrays: its two operands and the table in, its result out.  Around the body's
triple stand the copies into and out of the staged buffers, and the opening and closing of the device's own
semaphores.
-/

@[expose] public section
noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)
open Cert.KernelIdeal Cert.KernelIdeal.Gen

variable {F : FTy → Type} [FloatOps F]
variable (m : (ℓ : Loc nD τ sig) → Buf (Elt F) ℓ)

local notation "𝕄" => MT nD τ sig Unit (Elt F) ℕ UU ℕ

/-- Device `c`'s block of `x`, as launched. -/
abbrev argX (c : Dev nD) : Vec F S128x4096 .bf16 := m ((c : Thread nD τ).loc main_arg0)
/-- Device `c`'s block of `w`, as launched. -/
abbrev argW (c : Dev nD) : Vec F S4096x256 .bf16 := m ((c : Thread nD τ).loc main_arg1)

/-- The host code leaves `x` as launched. -/
theorem V9_x (c : Dev nD) : V9 m c main_arg0 = argX m c :=
  (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
/-- The host code leaves `w` as launched. -/
theorem V9_w (c : Dev nD) : V9 m c main_arg1 = argW m c :=
  (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl

/-- The result device `c` is left with. -/
abbrev out (c : Dev nD) : Vec F S4096x256 .f32 := result (argX m) (argW m) c

/-- What device `c`'s buffers hold after the region: its result beside what the host code left. -/
def Vend (c : Dev nD) : Valuation τ sig (Elt F) := Function.update (V9 m c) (Proc.devRef .tc main_v54) (out m c)

theorem Vend_out (c : Dev nD) : Vend m c main_v54 = out m c := Function.update_self ..
theorem Vend_ne (c : Dev nD) (r : Ref sig .tc) (h : r ≠ main_v54) : Vend m c r = V9 m c r :=
  Function.update_of_ne (StableHlo.devRef_ne_of_ne h) ..
theorem Vend_x (c : Dev nD) : Vend m c main_arg0 = argX m c := (Vend_ne m c _ (by decide)).trans (V9_x m c)
theorem Vend_w (c : Dev nD) : Vend m c main_arg1 = argW m c := (Vend_ne m c _ (by decide)).trans (V9_w m c)

/-- The three scratch buffers, at some contents. -/
def scratch (c : Dev nD) : sProp 𝕄 :=
  iprop((∃ f, whole gM c f) ∗ (∃ f, whole vM c f) ∗ (∃ f, whole mM c f))

/-- What the body starts from, beside the staged buffers and what the device owes. -/
def Before (c : Dev nD) : sProp 𝕄 :=
  iprop(scratch (F := F) c ∗ (∃ r, prngReg c r) ∗ ∃ κ, Ready (argX m) (argW m) κ c)

/-- What it leaves, beside them. -/
def After (c : Dev nD) : sProp 𝕄 :=
  iprop(scratch (F := F) c ∗ (∃ r, prngReg c r) ∗ Closed (F := F) c ∗ semVal (barCell c) 0)

/-- The region's data: the arrays as the host code left them, the staged buffers after the body. -/
def dat0 (c : Dev nD) : Pipeline.Dat τ (Elt F) Unit ℕ UU ℕ cfg0 c where
  A w := V9 m c (Proc.devRef .tc (Pipeline.arrRef spec0 w))
  after w _ := match w with
    | ⟨0, _⟩ => argX m c
    | ⟨1, _⟩ => argW m c
    | ⟨2, _⟩ => table (F := F) c
    | ⟨3, _⟩ => out m c
  Φ t := if t.val = 0 then Before m c else After (F := F) c
  q _ := fullShare
  owed t := if t.val = 0 then due c else 0

theorem before_x (c : Dev nD) (d) : (dat0 m c).before 0 t0_0 d = argX m c := by
  unfold Pipeline.Dat.before; rw [if_pos (by decide)]
  refine Eq.trans ?_ (V9_x m c)
  funext i
  refine congrArg (V9 m c (Proc.devRef .tc main_arg0)) (funext fun a => Fin.ext ?_)
  exact (cfg0.win 0).rect_emb_val_of_index_zero t0_0 a rfl i
theorem before_w (c : Dev nD) (d) : (dat0 m c).before 1 t0_0 d = argW m c := by
  unfold Pipeline.Dat.before; rw [if_pos (by decide)]
  refine Eq.trans ?_ (V9_w m c)
  funext i
  refine congrArg (V9 m c (Proc.devRef .tc main_arg1)) (funext fun a => Fin.ext ?_)
  exact (cfg0.win 1).rect_emb_val_of_index_zero t0_0 a rfl i
theorem before_t (c : Dev nD) (d) : (dat0 m c).before 2 t0_0 d = table (F := F) c := by
  unfold Pipeline.Dat.before; rw [if_pos (by decide)]
  refine Eq.trans ?_ (table_read m c)
  funext i
  refine congrArg (V9 m c (Proc.devRef .tc main_v53)) (funext fun a => Fin.ext ?_)
  exact (cfg0.win 2).rect_emb_val_of_index_zero t0_0 a rfl i

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owesAt_start (c : Dev nD) (κ) : (dat0 m c).owesAt κ t0_0.castSucc ⊢ (Owes c (due c) : sProp 𝕄) := by
  unfold Pipeline.Dat.owesAt Pipeline.owesWithin Owes
  rw [show (dat0 m c).owed t0_0.castSucc = due c from rfl]
  iintro ⟨%W, -, HO⟩; iexists W; iexact HO

theorem owesAt_end (c : Dev nD) (κ) : (Owes c 0 : sProp 𝕄) ⊢ (dat0 m c).owesAt κ t0_0.succ := by
  unfold Pipeline.Dat.owesAt Pipeline.owesWithin Owes Pipeline.Dat.bound
  rw [show (dat0 m c).owed t0_0.succ = 0 from rfl, show (dat0 m c).recorded t0_0.succ = Set.univ from rfl]
  iintro ⟨%W, HO⟩; iexists W; isplitr
  · ipureintro; exact fun _ _ => Or.inl trivial
  iexact HO

/-- The procedure the region calls is the body. -/
theorem called (t : Fin cfg0.N) : defs₀ (F := F) .tc cfg0.body (cfg0.bodyArgs t (cfg0.slots t)) = body :=
  (show defs₀ (F := F) .tc cfg0.body (cfg0.bodyArgs t (cfg0.slots t)) = bodyAt0 t from by sl_kernel_rfl).trans (body_eq t)

/-- The body's obligation: its triple, between the staged buffers as the copies leave them. -/
theorem body_obligation (c : Dev nD) : BodyObligation (dat0 (F := F) m c) (defs₀ (F := F)) 𝒱₀ () Set.univ := fun t => by
  obtain rfl := fin_N0 t
  rw [called, bigSep_W0, bigSep_W0]
  simp only [owns_whole]
  rw [show (dat0 m c).Φ t0_0.castSucc = Before m c from rfl, show (dat0 m c).Φ t0_0.succ = After (F := F) c from rfl]
  unfold Before
  iintro ⟨⟨Hscr, Hp, %κ, HR⟩, HO, ⟨%d0, %f0, %hf0, H0⟩, ⟨%d1, %f1, %hf1, H1⟩, ⟨%d2, %f2, %hf2, H2⟩, ⟨%d3, %f3, %hf3, H3⟩⟩
  rw [before_x] at hf0
  rw [before_w] at hf1
  rw [before_t] at hf2
  subst hf0 hf1 hf2
  unfold scratch
  icases Hscr with ⟨Hg, Hv, Hm⟩
  iapply (body_wp (argX m) (argW m) κ c _)
  isplitl [HR]; · iexact HR
  isplitl [HO]; · iapply (owesAt_start m c ()) $$ HO
  isplitl [H0]; · iexact H0
  isplitl [H1]; · iexact H1
  isplitl [H2]; · iexact H2
  isplitl [H3]; · iexists f3; iexact H3
  isplitl [Hg]; · iexact Hg
  isplitl [Hv]; · iexact Hv
  isplitl [Hm]; · iexact Hm
  unfold Ended After scratch
  iintro ⟨H0, H1, H2, H3, Hg, Hv, Hm, Hc, Hb, HO⟩
  isplitl [Hg Hv Hm Hp Hc Hb]
  · isplitl [Hg Hv Hm]
    · isplitl [Hg]; · iexact Hg
      isplitl [Hv]; · iexact Hv
      iexact Hm
    isplitl [Hp]; · iexact Hp
    isplitl [Hc]; · iexact Hc
    iexact Hb
  isplitl [HO]; · iapply (owesAt_end m c ()) $$ HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl

end Cert.KernelIdeal.Ring
end
-- ==== Proof.Whole.lean ====
module
public import proofs.«01_k».proof.Proof.Region
public import Idealize.ShloMosaic.Lib.Quiescent

/-!
# The whole program

What the launch deals to the devices, the host code and the region one after another, and what every run leaves:
the arguments as launched, the result, and every semaphore at zero.
-/

@[expose] public section
noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ)

local notation "𝕄" => MT nD τ sig Unit (Elt F) ℕ UU ℕ

/-! ## A device's stake -/

/-- What every device knows from the launch on. -/
def Known (κ : GSem nD τ sig → ℕ) : sProp 𝕄 :=
  iprop(Ctx (argX m) (argW m) κ ∗ bigSep bars fun g => reached ER g 0)

instance known_persistent (κ : GSem nD τ sig → ℕ) : BI.Persistent (Known m κ) := by unfold Known; infer_instance

omit [FloatOps F] in
theorem reached_bar (c : Dev nD) : (bigSep bars fun g => (reached ER g 0 : sProp 𝕄)) ⊢ reached ER (barCell c) 0 :=
  bigSep_elim (Finset.mem_map_of_mem _ (Finset.mem_univ c))

/-- What the launch gives one device of the protocol: its place at its barrier, the right to open each of its own
    semaphores, and the tokens of its payments. -/
def Stake (c : Dev nD) : sProp 𝕄 :=
  iprop(atPos ER (barCell c) 0 ∅ 0 ∗ (bigSep Finset.univ fun k : Fin 190 => openTok ER (dmaCell (c, k))) ∗ Toks c)

/-- What rides with a device from the launch to its region. -/
def Rides (c : Dev nD) : sProp 𝕄 := iprop((∃ κ, Known m κ ∗ Stake (F := F) c) ∗ Creds c)

/-- The device's own semaphores. -/
def osem (k : Fin 190) : SemLoc sig := .dma (ownDma k)

theorem osem_facts : Pipeline.OwnSemFacts spec0 osem where
  isScoped := by decide +kernel
  inj k k' h := congrArg Prod.snd (dmaCell_inj (a₁ := ((0 : Dev nD), k)) (a₂ := ((0 : Dev nD), k')) (Prod.ext rfl h))
  disj := by decide +kernel

/-- One semaphore put under its invariant. -/
theorem open_one (κ : GSem nD τ sig → ℕ) (c : Dev nD) (k : Fin 190) :
    iprop(Ctx (argX m) (argW m) κ ∗ (openTok ER (dmaCell (c, k)) ∗ semVal (dmaCell (c, k)) 0))
      ⊢ (|={Set.univ}=> Fresh c (ownDma k) : sProp 𝕄) := by
  iintro ⟨#HC, Ho, Hv⟩
  ihave #HI := (inv_of (argX m) (argW m) κ (g := dmaCell (c, k))
    (Finset.mem_union_right _ (Finset.mem_map_of_mem ⟨dmaCell, dmaCell_inj⟩ (Finset.mem_univ (c, k))))) $$ HC
  imod (Rounds.cell_open ER (Rd (argX m) (argW m)) (g := dmaCell (c, k)) (Set.mem_univ (κ (dmaCell (c, k))))) $$ [Ho Hv] with ⟨Ha, Hr⟩
  · isplitr; · iexact HI
    isplitl [Ho] <;> iassumption
  imodintro
  unfold Fresh
  isplitl [Ha] <;> iassumption

/-- All of them. -/
theorem open_all (κ : GSem nD τ sig → ℕ) (c : Dev nD) :
    iprop(Ctx (argX m) (argW m) κ ∗ (bigSep Finset.univ fun k : Fin 190 => openTok ER (dmaCell (c, k)))
        ∗ Pipeline.ownSems0 osem c)
      ⊢ (|={Set.univ}=> bigSepL ownSems (Fresh c) : sProp 𝕄) := by
  have h : iprop(Ctx (argX m) (argW m) κ ∗ bigSep Finset.univ fun k : Fin 190 =>
        iprop(openTok ER (dmaCell (c, k)) ∗ semVal (dmaCell (c, k)) 0))
      ⊢ (|={Set.univ}=> bigSepL ownSems (Fresh c) : sProp 𝕄) := by
    refine BIBase.Entails.trans (bigSep_with_persistent
      (Ψ := fun k : Fin 190 => iprop(|={Set.univ}=> Fresh (F := F) c (ownDma k))) fun k _ => open_one m κ c k) ?_
    refine BIBase.Entails.trans (bigSep_fupd Finset.univ _) ?_
    iintro H
    imod H with H
    imodintro
    iapply (ownSems_list (Fresh c)).1 $$ H
  unfold Pipeline.ownSems0 osem
  iintro ⟨HC, Ho, Hv⟩
  iapply h
  isplitl [HC]; · iexact HC
  iapply (Entails.of_eq (bigSep_sep' ..).symm)
  isplitl [Ho]; · iexact Ho
  iexact Hv

/-- At the region's entry the device makes ready. -/
theorem make_ready (c : Dev nD) :
    iprop(Rides m c ∗ Pipeline.ownSems0 osem c ∗ levAts L lv)
      ⊢ (|={Set.univ}=> ∃ κ, Ready (argX m) (argW m) κ c : sProp 𝕄) := by
  unfold Rides Known Stake Ready
  iintro ⟨⟨⟨%κ, ⟨#HC, #Hr⟩, Hat, Ho, Ht⟩, Hcr⟩, Hv, -⟩
  imod (open_all m κ c) $$ [Ho Hv] with Hf
  · isplitr; · iexact HC
    isplitl [Ho] <;> iassumption
  imodintro
  iexists κ
  isplitr; · iexact HC
  isplitr; · iapply (reached_bar (F := F) (nb .l c)) $$ Hr
  isplitr; · iapply (reached_bar (F := F) (nb .r c)) $$ Hr
  isplitl [Hat]; · iexact Hat
  isplitl [Ht]; · iexact Ht
  isplitl [Hcr] <;> iassumption

/-! ## The region -/

abbrev adm : (p : Fin 1) → (pcfgs (F := F) p).Adm := fun p => (cfgs p).toPCfg_adm

def pdats : (p : Fin 1) → (c : Dev nD) → Pipeline.Dat τ (Elt F) Unit ℕ UU ℕ (Pipeline.pin (pcfgs (F := F)) adm p) c
  | 0 => dat0 m

theorem above_due (c : Dev nD) : Above 0 (due c) := by
  unfold due
  refine above_add (above_add (above_owed c _ fun e he => lt_trans (by decide) (all_above e he)) ?_) ?_
  · exact above_tally _ _ (by rw [lv_bar]; decide)
  · exact above_tally _ _ (by rw [lv_bar]; decide)

theorem hcut : Pipeline.LevelCutOwed (pcfgs (F := F)) adm (pdats m) () L lv 0 (fun _ => 0) where
  hι c w s := by rw [L_tc]; exact Finset.mem_singleton_self _
  hιb c w s := by fin_cases w <;> fin_cases s <;> exact le_refl 0
  hD c t g i h := by
    have ha : Above 0 ((dat0 m c).owed t) := by
      show Above 0 (if t.val = 0 then due c else 0)
      split
      · exact above_due c
      · exact above_zero 0
    obtain ⟨h1, h2⟩ := ha g i h
    refine ⟨?_, h2⟩
    unfold L
    rw [if_pos h1]; exact Finset.mem_singleton_self _

theorem arrAt_start (c : Dev nD) (w : Fin 4) :
    (dat0 m c).arrAt w 0 = V9 m c (Proc.devRef .tc (Pipeline.arrRef spec0 w)) := rfl

theorem arrAt_out (c : Dev nD) : (dat0 m c).arrAt 3 cfg0.N = out m c := by
  refine (dat0 m c).arrAt_eq_of_after_last 3 t0_0 (by decide +kernel) (out m c) fun j => ?_
  rfl

theorem arrAt_end (c : Dev nD) (w : Fin 4) :
    (dat0 m c).arrAt w cfg0.N = Vend m c (Proc.devRef .tc (Pipeline.arrRef spec0 w)) := by
  fin_cases w
  · exact ((dat0 m c).arrAt_in 0 rfl _).trans (Vend_ne m c main_arg0 (by decide)).symm
  · exact ((dat0 m c).arrAt_in 1 rfl _).trans (Vend_ne m c main_arg1 (by decide)).symm
  · exact ((dat0 m c).arrAt_in 2 rfl _).trans (Vend_ne m c main_v53 (by decide)).symm
  · exact (arrAt_out m c).trans (Vend_out m c).symm

/-- The buffers the region leaves alone. -/
def others : Finset (DevRef τ sig) := Pipeline.ucRefs τ sig \ Pipeline.arrRefs spec0

theorem others_same (c : Dev nD) (b : DevRef τ sig) (h : b ∈ others) : Vend m c b = V9 m c b := by
  refine Function.update_of_ne (fun e => ?_) ..
  subst e
  exact (Finset.mem_sdiff.mp h).2 (Finset.mem_map_of_mem _ (Finset.mem_image_of_mem (Pipeline.arrRef spec0) (Finset.mem_univ (3 : Fin 4))))

/-- The region, as the kernel that talks across the devices. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) launch0.toP rfl (fun c => (body_obligation m c).loose)
    (fun _ => 0) due (fun c => (zero_add (due c)).symm) (fun _ => rfl) (fun _ => rfl)
    (fun c => (dat0 m c).share_full fun _ => rfl)
    (V9 m) (Vend m) (fun c b hb => others_same m c b (Finset.mem_sdiff.mp hb).1)
    (Rides m) (fun c => semVal (barCell c) 0) (fun c => iprop(∃ κ, Ready (argX m) (argW m) κ c)) (fun c => semVal (barCell c) 0)
    (make_ready m)
    (fun c => by
      show _ ⊢ Before m c
      unfold Before scratch
      rw [show Pipeline.scopedRest (Pipeline.pin (pcfgs (F := F)) adm 0).spec c = _ from scopedRest0_eq c]
      iintro ⟨Hs, Hp, -, HR⟩
      isplitl [Hs]; · iexact Hs
      isplitl [Hp]; · iexact Hp
      iexact HR)
    (fun c => by
      show After c ⊢ _
      unfold After scratch
      rw [show Pipeline.scopedRest (Pipeline.pin (pcfgs (F := F)) adm 0).spec c = _ from scopedRest0_eq c]
      iintro ⟨Hs, Hp, Hc, Hb⟩
      isplitl [Hs]; · iexact Hs
      isplitl [Hp]; · iexact Hp
      isplitr
      · unfold StableHlo.held; rw [BI.bigSep_empty]; iempintro
      isplitl [Hc]
      · unfold Closed Pipeline.ownSems0 osem
        iapply (ownSems_list fun s => (semVal ((c : Thread nD τ), .dma s) 0 : sProp 𝕄)).2 $$ Hc
      iexact Hb)
    (fun c => fupd_intro)
    (fun _ => 0) (hcut m) (fun _ => iprop(emp)) (fun c w => arrAt_start m c w) (fun c w => arrAt_end m c w)

end Cert.KernelIdeal.Ring
end
-- ==== Proof.Launch.lean ====
module
public import proofs.«01_k».proof.Proof.Whole

/-!
# The launch and the run

The protocol's state is dealt once, to all the devices; then the host code and the region run on each.
-/

@[expose] public section
noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ UU ℕ

/-- A device's buffers, those that live through the whole program, at one valuation. -/
abbrev bufs (c : Dev nD) (V : Valuation τ sig (Elt F)) : sProp 𝕄 :=
  StableHlo.held (c : Thread nD τ) (Pipeline.ucRefs τ sig) V

/-- What rides beside the buffers through the host code. -/
def Beside (c : Dev nD) : sProp 𝕄 :=
  iprop(Rides m c ∗ (∃ r, prngReg c r) ∗ ∃ W, owes (c : Thread nD τ) (due c) W)

/-! ## The deal -/

/-- Everything on device 0, nothing elsewhere. -/
def parked (X : sProp (MT nD τ sig Unit (Elt F) ℕ UU ℕ)) (c : Dev nD) : sProp 𝕄 := if c = 0 then X else iprop(emp)

omit [FloatOps F] in
theorem parked_all (X : sProp (MT nD τ sig Unit (Elt F) ℕ UU ℕ)) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The protocol's part of the launch state. -/
def parts : Dev nD → sProp 𝕄 := parked (BI.own (ER (launchOf bars dmas tokens)))

/-- The launch state: the region's, and the protocol's. -/
def u₀ : UU :=
  (initOf (Pipeline.cells cfgs cellOf_inj) (Pipeline.launchToks cfgs cellOf_inj), launchOf bars dmas tokens)

omit [FloatOps F] in
theorem launch_split : (ownU u₀ : sProp 𝕄) ⊢ |={Set.univ}=> iprop(BI.own (EP (initOf (Pipeline.cells cfgs cellOf_inj) (Pipeline.launchToks cfgs cellOf_inj)))
    ∗ bigSep Finset.univ parts) := by
  unfold u₀ parts
  iintro Hu
  ihave H := (ownU_pair _ _) $$ Hu
  icases H with ⟨HP, HX⟩
  imodintro
  isplitl [HP]; · iexact HP
  rw [parked_all]; iexact HX

omit [FloatOps F] in
theorem unscoped_one (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem apart : Disjoint bars dmas := by
  rw [Finset.disjoint_left]
  intro g hg hg'
  obtain ⟨c, -, rfl⟩ := Finset.mem_map.mp hg
  obtain ⟨p, -, h⟩ := Finset.mem_map.mp hg'
  have h' : SemLoc.dma (ownDma p.2) = SemLoc.reg barS := congrArg (fun g : GSem nD τ sig => g.2) h
  exact (nomatch h')

/-- What the launch gives a device, its counter and its protocol's part aside. -/
def Dealt (c : Dev nD) : sProp 𝕄 :=
  iprop(bufs c (V0 m c) ∗ Creds c ∗ owes (c : Thread nD τ) (due c) ∅ ∗ ∃ r, prngReg c r)

theorem dealt_intro (c : Dev nD) :
    iprop(unscopedBufs c (fun b => m ((c : Thread nD τ).loc b)) ∗ unscopedSems0 c
        ∗ owes (c : Thread nD τ) (due c) ∅ ∗ Pipeline.launchCred due c ∗ prngReg c (ρ c) ∗ parts (F := F) c)
      ⊢ (iprop(Dealt m c ∗ (semVal (barCell c) 0 ∗ parts (F := F) c)) : sProp 𝕄) := by
  rw [show unscopedBufs c (fun b => m ((c : Thread nD τ).loc b)) = bufs c (V0 m c) from Pipeline.unscopedBufs_held c (V0 m c),
    unscoped_one]
  unfold Dealt
  iintro ⟨Hb, Hs, HO, Hcr, Hp, HG⟩
  ihave Hc := (creds_deal (F := F) c) $$ Hcr
  isplitl [Hb Hc HO Hp]
  · isplitl [Hb]; · iexact Hb
    isplitl [Hc]; · iexact Hc
    isplitl [HO]; · iexact HO
    iexists (ρ c); iexact Hp
  isplitl [Hs] <;> iassumption

theorem ride_intro (κ : GSem nD τ sig → ℕ) (c : Dev nD) :
    iprop(Known m κ ∗ (Stake (F := F) c ∗ Dealt m c)) ⊢ iprop(bufs c (V0 m c) ∗ Beside m c) := by
  unfold Dealt Beside Rides
  iintro ⟨HK, HS, Hb, Hc, HO, Hp⟩
  isplitl [Hb]; · iexact Hb
  isplitl [HK HS Hc]
  · isplitl [HK HS]
    · iexists κ
      isplitl [HK] <;> iassumption
    iexact Hc
  isplitl [Hp]; · iexact Hp
  iexists ∅; iexact HO

omit [FloatOps F] in
/-- A family over the barriers is one over the devices. -/
theorem over_bars (Φ : GSem nD τ sig → sProp (MT nD τ sig Unit (Elt F) ℕ UU ℕ)) :
    bigSep bars Φ = bigSep Finset.univ fun c : Dev nD => Φ (barCell c) := bigSep_map _

omit [FloatOps F] in
/-- A family over the transfers' semaphores is one over the devices and each device's own. -/
theorem over_dmas (Φ : GSem nD τ sig → sProp (MT nD τ sig Unit (Elt F) ℕ UU ℕ)) :
    bigSep dmas Φ = bigSep Finset.univ fun c : Dev nD => bigSep Finset.univ fun k : Fin 190 => Φ (dmaCell (c, k)) := by
  unfold dmas
  rw [bigSep_map, bigSep_univ_prod]
  rfl

/-- The launch: every device gets its buffers and its stake. -/
theorem deal :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ parts (F := F) c)) ∗ levAts L lv)
      ⊢ (|={Set.univ}=> bigSep Finset.univ fun c => iprop(bufs c (V0 m c) ∗ Beside m c) : sProp 𝕄) := by
  have h : (bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ parts (F := F) c))
      ⊢ (iprop((bigSep Finset.univ fun c => Dealt m c) ∗ ((bigSep bars fun g => semVal g 0) ∗ BI.own (ER (launchOf bars dmas tokens)))) : sProp 𝕄) := by
    refine BIBase.Entails.trans (bigSep_mono fun c _ => dealt_intro m ρ c) ?_
    rw [bigSep_sep', bigSep_sep', over_bars]
    unfold parts
    rw [parked_all]
  have hs : iprop((bigSep bars fun g => atPos ER g 0 ∅ 0) ∗ (bigSep dmas fun g => openTok ER g)
        ∗ (bigSep tokens fun x => dutyTok ER x.1 x.2.1 x.2.2))
      ⊢ (bigSep Finset.univ fun c => Stake (F := F) c : sProp 𝕄) := by
    rw [over_bars, over_dmas, tokens_deal, ← bigSep_sep', ← bigSep_sep']
    exact .rfl
  iintro ⟨H, #HL⟩
  ihave H' := h $$ H
  icases H' with ⟨HD, Hv, Hu⟩
  imod (Rounds.fund_launch ER (Rd (argX m) (argW m)) apart (fun g _ h => h) tokens) $$ [Hv Hu] with ⟨%κ, -, #Hinv, #Hr, Hat, Hopen, Htok⟩
  · isplitl [Hv] <;> iassumption
  imodintro
  iapply (bigSep_with_persistent (R := Known m κ) (Φ := fun c => iprop(Stake (F := F) c ∗ Dealt m c)) fun c _ => ride_intro m κ c)
  isplitr
  · unfold Known Ctx
    isplitr
    · isplitr; · iexact Hinv
      iexact HL
    iexact Hr
  rw [bigSep_sep']
  isplitl [Hat Hopen Htok]
  · iapply hs
    isplitl [Hat]; · iexact Hat
    isplitl [Hopen] <;> iassumption
  iexact HD

/-! ## The run -/

theorem only_barrier : ∀ sm : SemLoc sig, sm.isScoped .tc = false → sm = .reg barS := by decide +kernel

theorem bufs_split (c : Dev nD) (V : Valuation τ sig (Elt F)) :
    (bufs c V : sProp 𝕄) = iprop(StableHlo.held (c : Thread nD τ) (Pipeline.arrRefs spec0) V ∗ StableHlo.held (c : Thread nD τ) others V) :=
  StableHlo.held_sub_split (c : Thread nD τ) (Pipeline.arrRefs_sub_ucRefs spec0 (by decide +kernel)) V

theorem region_pre (c : Dev nD) : iprop(bufs c (V9 m c) ∗ Beside m c) ⊢ (reg0 m).pre c := by
  show _ ⊢ iprop(StableHlo.held (c : Thread nD τ) (Pipeline.arrRefs spec0) (V9 m c) ∗ (∃ r, prngReg c r)
    ∗ (StableHlo.held (c : Thread nD τ) others (V9 m c) ∗ iprop(emp)) ∗ Rides m c ∗ ∃ Wd, owes (c : Thread nD τ) (0 + due c) Wd)
  rw [bufs_split, zero_add]
  unfold Beside
  iintro ⟨⟨Ha, Ho⟩, HR, Hp, HO⟩
  isplitl [Ha]; · iexact Ha
  isplitl [Hp]; · iexact Hp
  isplitl [Ho]
  · isplitl [Ho]; · iexact Ho
    iempintro
  isplitl [HR] <;> iassumption

theorem region_post (c : Dev nD) :
    (reg0 m).post c ⊢ iprop((bufs c (Vend m c) ∗ semVal (barCell c) 0) ∗ ∃ W, owes (c : Thread nD τ) (0 : CellTallies nD τ sig Unit) W) := by
  show iprop(StableHlo.held (c : Thread nD τ) (Pipeline.arrRefs spec0) (Vend m c) ∗ (∃ r, prngReg c r)
    ∗ (StableHlo.held (c : Thread nD τ) others (Vend m c) ∗ iprop(emp)) ∗ semVal (barCell c) 0 ∗ ∃ Wd, owes (c : Thread nD τ) (0 : CellTallies nD τ sig Unit) Wd) ⊢ _
  rw [bufs_split]
  iintro ⟨Ha, -, ⟨Ho, -⟩, Hb, HO⟩
  isplitl [Ha Ho Hb]
  · isplitl [Ha Ho]
    · isplitl [Ha] <;> iassumption
    iexact Hb
  iexact HO

set_option backward.isDefEq.respectTransparency.types false in
/-- Every run ends, with the arguments as launched, every device's result what its maxima and its product give, and
    every semaphore at zero. -/
theorem run_main : θ_run defs (onTc (τ := τ) (main (F := F))) ⟨m, fun _ => 0, ρ⟩ (fun r =>
      (∀ c : Dev nD, r.2.mem ((c.tc : Thread nD τ).loc main_arg0) = argX m c
        ∧ r.2.mem ((c.tc : Thread nD τ).loc main_arg1) = argW m c
        ∧ r.2.mem ((c.tc : Thread nD τ).loc main_v54) = out m c) ∧ r.2.sem = fun _ => 0) := by
  refine Pipeline.θ_run_regions_kit_dev_sems (pcfgs (F := F)) adm (pdats m) () cellOf_inj EP defs₀ 𝒱₀ L lv m ρ main
    (segs m 𝒱₀ L lv (fun _ => Beside m) () (pdats m) (reg0 m))
    (fun c Q => by
      rewrite [main_chain c, Pipeline.Seg.run_eq_chain,
        show (segs m 𝒱₀ L lv (fun _ => Beside m) () (pdats m) (reg0 m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    due (fun g h => if_neg h) parts u₀ launch_split
    (T₀ := fun c => iprop(bufs c (V0 m c) ∗ Beside m c))
    (Tₙ := fun c => iprop(bufs c (Vend m c) ∗ semVal (barCell c) 0))
    (hch := fun c => ⟨.rfl, .rfl, .rfl, .rfl, .rfl, .rfl, .rfl, .rfl, .rfl, region_pre m c, region_post m c⟩)
    (hinit := deal m ρ)
    (QY := fun c s => (s.mem ((c.tc : Thread nD τ).loc main_arg0) = argX m c
        ∧ s.mem ((c.tc : Thread nD τ).loc main_arg1) = argW m c
        ∧ s.mem ((c.tc : Thread nD τ).loc main_v54) = out m c) ∧ s.sem (barCell c) = 0)
    (hfin := fun c s' => ?_)
    (hQ := fun s h hs => ⟨fun c => (h c).1, sem_eq_zero hs fun c sm hsm => by
      obtain rfl := only_barrier sm hsm
      exact (h c).2⟩)
  unfold bufs StableHlo.held
  iintro ⟨⟨Hh, Hb⟩, HSI⟩
  ihave Hr := (pointsTo_read_all (Pipeline.ucRefs τ sig) (fun b => ((c : Thread nD τ).1, b)) (Vend m c) s') $$ [Hh HSI]
  · isplitl [Hh] <;> iassumption
  icases Hr with ⟨%h, HSI⟩
  icombine HSI Hb gives %hb
  imodintro
  isplitr
  · ipureintro
    refine ⟨⟨?_, ?_, ?_⟩, by simpa using hb⟩
    · exact (h (Proc.devRef .tc main_arg0) (Finset.mem_filter.mpr ⟨StableHlo.devRef_mem_tcRefs main_arg0, by decide⟩)).trans (Vend_x m c)
    · exact (h (Proc.devRef .tc main_arg1) (Finset.mem_filter.mpr ⟨StableHlo.devRef_mem_tcRefs main_arg1, by decide⟩)).trans (Vend_w m c)
    · exact (h (Proc.devRef .tc main_v54) (Finset.mem_filter.mpr ⟨StableHlo.devRef_mem_tcRefs main_v54, by decide⟩)).trans (Vend_out m c)
  iexact HSI

end Cert.KernelIdeal.Ring
end
-- ==== Proof.Frames.lean ====
module
public import proofs.«01_k».proof.Defs
public import proofs.«01_k».proof.Proof.Gen.Kernel
public import proofs.«01_k».proof.Proof.Gen.ReferenceIdeal.Run
public import proofs.«01_k».proof.Proof.Launch
public import Idealize.ShloMosaic.Lib.Tactic
public import Idealize.ShloMosaic.Lib.Quiescent

/-!
# Every program runs

The kernel, as printed and as idealized, is one program at two readings of its floats; the run is proved over any
reading.
-/

@[expose] public section
noncomputable section

namespace Cert.Proof

open Idealize.ShloMosaic Idealize.ShloMosaic.TcCoe Idealize.SL.Sem

/-- What the frame claim says of the idealized program's text, at any reading of its floats. -/
def Frame (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg),
    True → θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)

/-- It holds. -/
theorem frame_any (F : FTy → Type) [FloatOps F] : Frame F := fun m ρ _ =>
  (θ_run Cert.KernelIdeal.defs _ _).mono (fun _ h => ⟨fun c => ⟨(h.1 c).1, (h.1 c).2.1⟩, h.2⟩)
    (Cert.KernelIdeal.Ring.run_main m ρ)

/-- The printed kernel's text is the idealized program's. -/
theorem same_text : Cert.quiescent_Kernel = Frame Bits := by sl_kernel_rfl

/-- The kernel runs, leaves its arguments as they were and every semaphore at zero. -/
theorem frame_kernel : Cert.quiescent_Kernel := same_text.symm ▸ frame_any Bits

/-- So does its idealization. -/
theorem frame_ideal : Cert.quiescent_KernelIdeal := frame_any Ideal

/-- The reference runs and leaves its arguments as they were; it has no semaphore. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof
end
-- ==== Proof.Quantise.lean ====
module
public import Idealize.ShloMosaic.PureOps.Ideal.Laws
public import Idealize.ShloMosaic.PureOps.ShapeOps

/-!
# The arithmetic of the quantiser, and maxima by their upper bounds

The kernel multiplies by `127 / g` where the reference divides by `g / 127`.  Over the extended reals the results
agree for every `g`: at `g = 0` both are zero, since the scale they are multiplied by is zero, and elsewhere the two
factors are one number.

A maximum is known by its upper bounds.  This file says of a reduction over a whole array that its upper bounds are
those of all elements.
-/

@[expose] public section
noncomputable section

namespace Cert.Quantise

open Idealize.ShloMosaic

/-! ## The literals -/

/-- The word of the largest code. -/
theorem bits_top_code : Ideal.ofBits .f32 0x42FE0000#32 = ((127 : ℝ) : EReal) := by
  simp [Ideal.ofBits, Ideal.ieee, -EReal.coe_mul]; norm_num

/-- The word that a maximum starts from. -/
theorem bits_bot : Ideal.ofBits .f32 0xFF800000#32 = (⊥ : EReal) := by
  simp [Ideal.ofBits, Ideal.ieee]

/-! ## One element -/

/-- The step of the quantiser for the largest magnitude `g`. -/
def stepSize (g : EReal) : EReal := Ideal.div g ((127 : ℝ) : EReal)

/-- The element `y` quantised at `g` and scaled back: the quotient by the step, rounded to even, kept between
    `lo` and `hi`, times the step. -/
def requant (lo hi g y : EReal) : EReal :=
  min hi (max lo (Ideal.liftRound Ideal.roundHalfEven (Ideal.div y (stepSize g)))) * stepSize g

theorem stepSize_zero : stepSize 0 = 0 := by
  unfold stepSize Ideal.div
  rw [if_neg (by norm_num), zero_mul]

/-- Off zero, dividing by the step is multiplying by `127 / g`. -/
theorem div_stepSize {g : EReal} (hg : g ≠ 0) (y : EReal) :
    Ideal.div y (stepSize g) = y * Ideal.div ((127 : ℝ) : EReal) g := by
  have h127 : ((127 : ℝ) : EReal) ≠ 0 := by norm_num
  have hinv : (((127 : ℝ) : EReal))⁻¹ = ((1 / 127 : ℝ) : EReal) := by
    rw [← EReal.coe_inv]; norm_num
  have e : stepSize g = g * ((1 / 127 : ℝ) : EReal) := by
    unfold stepSize Ideal.div; rw [if_neg h127, hinv]
  have hs : stepSize g ≠ 0 := by
    rw [e]; exact mul_ne_zero hg (by norm_num)
  have hd : Ideal.div ((127 : ℝ) : EReal) g = ((127 : ℝ) : EReal) * g⁻¹ := by
    unfold Ideal.div; rw [if_neg hg]
  have hy : Ideal.div y (stepSize g) = y * (stepSize g)⁻¹ := by
    unfold Ideal.div; rw [if_neg hs]
  rw [hy, hd, e]
  congr 1
  induction g with
  | bot => rw [EReal.bot_mul_coe_of_pos (by norm_num), EReal.inv_bot, mul_zero]
  | top => rw [EReal.top_mul_coe_of_pos (by norm_num), EReal.inv_top, mul_zero]
  | coe r =>
    have hr : r ≠ 0 := by exact_mod_cast hg
    rw [← EReal.coe_mul, ← EReal.coe_inv, ← EReal.coe_inv, ← EReal.coe_mul]
    congr 1
    field_simp

/-- The kernel's element is the reference's, whatever the largest magnitude. -/
theorem requant_eq (lo hi g y : EReal) :
    min hi (max lo (Ideal.liftRound Ideal.roundHalfEven (y * Ideal.div ((127 : ℝ) : EReal) g))) * stepSize g
      = requant lo hi g y := by
  unfold requant
  by_cases hg : g = 0
  · rw [hg, stepSize_zero, mul_zero, mul_zero]
  · rw [div_stepSize hg]

/-! ## Maxima -/

/-- The upper bounds of a fold of `max` from the least value are those of all elements. -/
theorem fold_le {ι : Type} [DecidableEq ι] (s : Finset ι) (f : ι → EReal) (b : EReal) :
    s.fold (FloatOps.maximumf (F := Ideal) (φ := .f32)) (⊥ : EReal) f ≤ b ↔ ∀ i ∈ s, f i ≤ b := by
  induction s using Finset.cons_induction with
  | empty => simp
  | cons a s ha ih =>
    rw [Finset.fold_cons, Ideal.maximumf_def, max_le_iff, ih, Finset.forall_mem_cons]

/-- The upper bounds of a reduction of a whole array, laid out in another shape first, to one element. -/
theorem reduce_le {s s' t : Shape} {axes : List (Fin s'.rank)} [Subsingleton t.Idx] (v : FVec Ideal s .f32)
    (hc : s.ShapeCasts s') (h : s'.Reduces axes t) (hφ : FKind.Formats .f32)
    (hacc : (0xFF800000#32 : BitVec 32) = FKind.maximumf.neutral .f32 hφ) (j : t.Idx) (b : EReal) :
    multiReduction .maximumf axes t (shapeCast s' v hc) 0xFF800000#32 h hφ hacc j ≤ b ↔ ∀ i, v i ≤ b := by
  classical
  rw [multiReduction_maximumf_eq_fold, Ideal.ofBits_def, bits_bot, fold_le]
  constructor
  · intro H i
    have := H ((Shape.reshapeEquiv hc).symm i) (Finset.mem_filter.mpr ⟨Finset.mem_univ _, Subsingleton.elim _ _⟩)
    unfold shapeCast at this
    rwa [Equiv.apply_symm_apply] at this
  · intro H i _
    exact H _

/-- The same of a host reduction. -/
theorem host_reduce_le {s t u : Shape} {axes : List (Fin s.rank)} [Subsingleton t.Idx] (v : FVec Ideal s .f32)
    (init : FVec Ideal u .f32) (h : s.ReducesTo axes t) (hu : 0 < u.numel) (hinit : ∀ k, init k = (⊥ : EReal))
    (j : t.Idx) (b : EReal) :
    Host.reduce (FloatOps.maximumf (F := Ideal) (φ := .f32)) v init h hu j ≤ b ↔ ∀ i, v i ≤ b := by
  classical
  rw [Host.reduce_eq_fold, hinit, fold_le]
  exact ⟨fun H i => H i (Finset.mem_filter.mpr ⟨Finset.mem_univ _, Subsingleton.elim _ _⟩), fun H i _ => H i⟩

end Cert.Quantise
end
-- ==== Proof.RefValue.lean ====
module
public import proofs.«01_k».proof.Proof.Quantise
public import proofs.«01_k».proof.Proof.Gen.ReferenceIdeal
public import Idealize.ShloMosaic.Lib.MatmulPlain
public import Idealize.ShloMosaic.Lib.IdealHost
public import Idealize.ShloMosaic.Lib.Pipeline.Value

/-!
# The reference, element by element

The reference's result at an index is the element of the whole product there, quantised at the product's largest
magnitude.
-/

@[expose] public section
noncomputable section

namespace Cert.ReferenceIdeal.ByElement

open Idealize.ShloMosaic Idealize.ShloMosaic.TcCoe Idealize.ShloMosaic.ValueIdx
open Cert.ReferenceIdeal Cert.ReferenceIdeal.Gen Cert.Quantise

variable (x : FVec Ideal ⟨2, ![4096, 4096]⟩ .bf16) (w : FVec Ideal ⟨2, ![4096, 8192]⟩ .bf16)

/-- The whole product, as the reference forms it. -/
abbrev whole : FVec Ideal S4096x8192 .f32 :=
  Host.dotGeneral dot_S4096x4096_S4096x8192_S4096x8192_1_0_0_1_n_n none x w

/-- Its largest magnitude. -/
abbrev wholeMax : FVec Ideal S_ .f32 :=
  Host.reduce FloatOps.maximumf (Host.absf (whole x w)) (constant S_ .f32 0xFF800000#32)
    reducesTo_S4096x8192_S_d0_1 h_S_

/-- The step of the quantiser, at every element. -/
abbrev stepAt : FVec Ideal S4096x8192 .f32 :=
  broadcastInDim S4096x8192 ![] bcast_S_S4096x8192
    (Host.divf (wholeMax x w) (constant S_ .f32 0x42FE0000#32))

/-- The reference's result. -/
def refValue : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (whole x w) (stepAt x w))))) (stepAt x w)

theorem reference_dims : dot_S4096x4096_S4096x8192_S4096x8192_1_0_0_1_n_n = DotDims.plain 4096 4096 8192 := rfl

/-- An element of the whole product. -/
theorem whole_apply (i : Fin 4096) (j : Fin 8192) :
    whole x w (ix2 i j) = ∑ q : Fin 4096, x (ix2 i q) * w (ix2 q j) := by
  have e : whole x w = FloatOps.matmul (φ₁ := .bf16) (φ₂ := .bf16) (DotDims.plain 4096 4096 8192) none x w (fun _ => (0 : EReal)) := by
    rw [← reference_dims]; rfl
  rw [e, Ideal.matmul_plain_apply, zero_add]

/-- The index of the one element of a scalar. -/
abbrev pt : S_.Idx := fun a => a.elim0

/-- A number bounds the reference's maximum when it bounds every element's magnitude. -/
theorem wholeMax_le (b : EReal) : LE.le (α := EReal) (wholeMax x w pt) b ↔
    ∀ (i : Fin 4096) (j : Fin 8192),
      FloatOps.absf (F := Ideal) (φ := .f32) (∑ q : Fin 4096, x (ix2 i q) * w (ix2 q j)) ≤ b := by
  have : Subsingleton S_.Idx := ⟨fun i j => funext fun a => a.elim0⟩
  have e := host_reduce_le (Host.absf (whole x w)) (constant S_ .f32 0xFF800000#32)
    reducesTo_S4096x8192_S_d0_1 h_S_ (fun _ => bits_bot) pt b
  refine e.trans ?_
  constructor
  · intro H i j
    have := H (ix2 i j)
    rw [← whole_apply]
    exact this
  · intro H i
    have e : whole x w i = ∑ q : Fin 4096, x (ix2 (i 0) q) * w (ix2 q (i 1)) :=
      (congrArg (whole x w) (eq_ix2 i)).trans (whole_apply x w (i 0) (i 1))
    have := H (i 0) (i 1)
    rw [← e] at this
    exact this

/-- An element of the reference's result. -/
theorem refValue_apply (i : S4096x8192.Idx) :
    refValue x w i
      = requant (Ideal.ofBits .f32 0xC2FE0000#32) ((127 : ℝ) : EReal) (wholeMax x w pt) (whole x w i) := by
  have hs : stepAt x w i = stepSize (wholeMax x w pt) := by
    unfold stepAt stepSize
    rw [broadcastInDim_scalar_apply, hostDivf_apply, ← bits_top_code]
    congr 1
  unfold refValue requant
  rw [← hs, ← bits_top_code]
  generalize stepAt x w = st
  generalize whole x w = y
  rfl

end Cert.ReferenceIdeal.ByElement
end
-- ==== Proof.Value.lean ====
module
public import proofs.«01_k».proof.Proof.Body
public import proofs.«01_k».proof.Proof.Quantise
public import proofs.«01_k».proof.Proof.RefValue
public import Idealize.ShloMosaic.Lib.MatmulPlain
public import Idealize.ShloMosaic.Lib.IdealHost
public import Idealize.ShloMosaic.Lib.Layout
public import Idealize.ShloMosaic.Lib.Pipeline.Value

/-!
# What the devices compute, and what the reference computes

Device `c`'s result is its block of columns of the reference's: the product of all of `x` with the block's columns,
quantised at the largest magnitude of the whole product.  The maximum is compared by its upper bounds: those of the
kernel's, a maximum of maxima over blocks, slots and rows of the table, are the bounds of every element of the product,
as the reference's are.
-/

@[expose] public section
noncomputable section

namespace Cert.KernelIdeal.Ring

open Idealize.ShloMosaic Idealize.ShloMosaic.TcCoe Idealize.ShloMosaic.ValueIdx
open Cert.KernelIdeal Cert.KernelIdeal.Gen Cert.Quantise
open Cert.ReferenceIdeal.ByElement (refValue refValue_apply wholeMax wholeMax_le pt whole_apply)

/-! ## The product, element by element -/

section Product

variable (X : Dev nD → Vec Ideal S128x4096 .bf16) (B : Dev nD → Vec Ideal S4096x256 .bf16)

theorem inBlock_eq (r : Fin 128) (k : Fin 256) : inBlock r k = ix2 r k :=
  funext fun a => match a with | ⟨0, _⟩ => rfl | ⟨1, _⟩ => rfl

theorem kernel_dims : dot_S128x4096_S4096x256_S128x256_1_0_0_1_n_n = DotDims.plain 128 4096 256 := rfl

/-- An element of the product of device `o`'s rows and device `c`'s columns. -/
theorem prod_apply (o c : Dev nD) (r : Fin 128) (k : Fin 256) :
    prod (slotV X o) (colsV B c) (inBlock r k) = ∑ q : Fin 4096, X o (ix2 r q) * B c (ix2 q k) := by
  have e1 : shapeCast S128x4096 (slotV X o) shapeCasts_S1x128x4096_S128x4096 = X o := by
    show shapeCast _ (shapeCast _ (shapeCast _ (X o) _) _) _ = _
    rw [shapeCast_shapeCast, shapeCast_self]
  have e2 : colsV B c = B c := by
    show shapeCast _ (shapeCast _ (B c) _) _ = _
    rw [shapeCast_self, shapeCast_self]
  have e3 : prod (slotV X o) (colsV B c)
      = FloatOps.matmul (φ₁ := .bf16) (φ₂ := .bf16) (DotDims.plain 128 4096 256) none (X o) (B c) (constant S128x256 .f32 0x00000000#32) := by
    rw [← kernel_dims]
    unfold prod k0_pay3
    simp only
    rw [e1, e2]
  rw [e3, inBlock_eq, Ideal.matmul_plain_apply]
  show Ideal.ofBits .f32 0x00000000#32 + _ = _
  rw [Ideal.ofBits_zero_f32, zero_add]

/-! ## The largest magnitude -/

/-- The shape of one element has one index. -/
instance : Subsingleton S1.Idx := ⟨fun i j => funext fun a => Fin.ext (by
  have hs : S1.size a = 1 := by fin_cases a; rfl
  have h1 := (i a).isLt
  have h2 := (j a).isLt
  omega)⟩

/-- A number bounds the largest magnitude of a block of the product when it bounds every element's. -/
theorem peak_le (x : Vec Ideal S1x128x4096 .bf16) (w : Vec Ideal S4096x256 .bf16) (b : EReal) :
    peak x w ≤ b ↔ ∀ (r : Fin 128) (k : Fin 256), FloatOps.absf (F := Ideal) (φ := .f32) (prod x w (inBlock r k)) ≤ b := by
  have e : peak x w ≤ b ↔ ∀ i, absf (prod x w) i ≤ b :=
    by
    unfold peak k0_pay4 extractAt shapeCast
    simp only
    exact reduce_le (absf (prod x w)) shapeCasts_S128x256_S1x128x256 reduces_S1x128x256_S1 (.inl rfl) rfl _ b
  rw [e]
  constructor
  · intro H r k; exact H (inBlock r k)
  · intro H i
    have e : inBlock (i 0) (i 1) = i := (inBlock_eq _ _).trans (eq_ix2 i).symm
    have := H (i 0) (i 1)
    rw [e] at this
    exact this

/-- The slots that a list of events multiplies. -/
def slotsOf : List Ev → List (Fin 32)
  | [] => []
  | .gemm s _ :: es => s :: slotsOf es
  | _ :: es => slotsOf es

theorem scan_le (c : Dev nD) (b : EReal) : ∀ (es : List Ev) (a : EReal),
    scan X B c es a ≤ b ↔ a ≤ b ∧ ∀ s ∈ slotsOf es, peak (slotV X (orig c s)) (colsV B c) ≤ b := by
  intro es
  induction es with
  | nil => intro a; simp [scan, slotsOf]
  | cons e es ih =>
    intro a
    cases e with
    | gemm s k =>
      show scan X B c es (max a _) ≤ b ↔ _
      rw [ih, max_le_iff]
      simp only [slotsOf, List.mem_cons, forall_eq_or_imp, and_assoc]
    | _ => exact ih a

/-- Every slot but the device's own is multiplied after the first. -/
theorem all_slots : ∀ s : Fin 32, s = 0 ∨ s ∈ slotsOf ringEvs := by decide +kernel

/-- A number bounds device `c`'s maximum when it bounds its whole block of columns of the product. -/
theorem amax_le (c : Dev nD) (b : EReal) :
    amax X B c ≤ b ↔ ∀ (o : Dev nD) (r : Fin 128) (k : Fin 256),
      FloatOps.absf (F := Ideal) (φ := .f32) (∑ q : Fin 4096, X o (ix2 r q) * B c (ix2 q k)) ≤ b := by
  unfold amax
  rw [scan_le]
  have step : ∀ o : Dev nD, peak (slotV X o) (colsV B c) ≤ b ↔ ∀ (r : Fin 128) (k : Fin 256),
      FloatOps.absf (F := Ideal) (φ := .f32) (∑ q : Fin 4096, X o (ix2 r q) * B c (ix2 q k)) ≤ b := by
    intro o; rw [peak_le]; simp only [prod_apply]
  constructor
  · rintro ⟨h0, hs⟩ o
    refine (step o).mp ?_
    rcases all_slots (slotFor c o) with h | h
    · have e := orig_slotFor c o
      rw [h, orig_zero] at e
      rw [← e]; exact h0
    · have := hs _ h
      rwa [orig_slotFor] at this
  · intro H
    exact ⟨(step c).mpr (H c), fun s _ => (step _).mpr (H _)⟩

/-- The maximum of the filled table. -/
abbrev gmax (c : Dev nD) : EReal := k0_pay75 (maxima X B c)

/-- A number bounds it when it bounds the whole product, over all devices' columns. -/
theorem gmax_le (c : Dev nD) (b : EReal) :
    gmax X B c ≤ b ↔ ∀ (d o : Dev nD) (r : Fin 128) (k : Fin 256),
      FloatOps.absf (F := Ideal) (φ := .f32) (∑ q : Fin 4096, X o (ix2 r q) * B d (ix2 q k)) ≤ b := by
  have e : gmax X B c ≤ b ↔ ∀ i : S32x128.Idx, LE.le (α := EReal) (maxima X B c i) b := by
    unfold gmax k0_pay75 extractAt shapeCast
    simp only
    exact reduce_le (s := S32x128) (maxima X B c) shapeCasts_S32x128_S1x32x128 reduces_S1x32x128_S1 (.inl rfl) rfl _ b
  rw [e]
  constructor
  · intro H d
    obtain ⟨i, hi⟩ := rowDevice_surj c d
    have := H (ix2 i (0 : Fin 128))
    unfold maxima at this
    rw [← amax_le X B d, ← hi]
    exact this
  · intro H i
    exact (amax_le X B _ b).mpr (H _)

/-! ## The result -/

/-- An element of the end of the body, from any table and any product: the element quantised at the table's maximum. -/
theorem end_apply (M : FVec Ideal S32x128 .f32) (Y : FVec Ideal S4096x256 .f32) (i : S4096x256.Idx) :
    k0_pay78 (F := Ideal) (k0_pay76 M) (k0_pay77 M Y) i
      = requant (Ideal.ofBits .f32 0xC2FE0000#32) ((127 : ℝ) : EReal) (k0_pay75 (F := Ideal) M) (Y i) := by
  rw [← requant_eq]
  unfold k0_pay78 k0_pay77 k0_pay76
  simp only [shapeCast_self]
  unfold stepSize
  generalize k0_pay75 (F := Ideal) M = g
  simp only [← bits_top_code, Ideal.ofBits_def]
  generalize Ideal.ofBits .f32 0x42FE0000#32 = t
  generalize Ideal.ofBits .f32 0xC2FE0000#32 = u
  rfl

/-- An element of device `c`'s result: the element of its product, quantised at the maximum. -/
theorem result_apply (c : Dev nD) (i : S4096x256.Idx) :
    result X B c i = requant (Ideal.ofBits .f32 0xC2FE0000#32) ((127 : ℝ) : EReal) (gmax X B c) (product X B c i) :=
  end_apply (maxima X B c) (product X B c) i

end Product

/-! ## The two meet -/

/-- Device `c`'s result, from the devices' blocks of `x` and `w`, is its block of the reference's result. -/
theorem result_eq_block (x : FVec Ideal ⟨2, ![4096, 4096]⟩ .bf16) (w : FVec Ideal ⟨2, ![4096, 8192]⟩ .bf16)
    (X : Dev nD → Vec Ideal S128x4096 .bf16) (B : Dev nD → Vec Ideal S4096x256 .bf16)
    (hX : ∀ c, X c = Layout.block ⟨2, ![128, 4096]⟩ ⟨2, ![4096, 4096]⟩ 0 32 c x)
    (hB : ∀ c, B c = Layout.block ⟨2, ![4096, 256]⟩ ⟨2, ![4096, 8192]⟩ 1 32 c w) (c : Dev nD) :
    result X B c = Layout.block ⟨2, ![4096, 256]⟩ ⟨2, ![4096, 8192]⟩ 1 32 c (refValue x w) := by
  have hx : ∀ (o : Dev nD) (r : Fin 128) (q : Fin 4096) (i : Fin 4096), i.val = o.val * 128 + r.val →
      X o (ix2 r q) = x (ix2 i q) := by
    intro o r q i hi
    rw [hX, Layout.block_apply]
    refine congrArg x (funext fun a => Fin.ext ?_)
    match a with
    | ⟨0, _⟩ => exact hi.symm
    | ⟨1, _⟩ => rfl
  have hb : ∀ (d : Dev nD) (q : Fin 4096) (k : Fin 256) (j : Fin 8192), j.val = d.val * 256 + k.val →
      B d (ix2 q k) = w (ix2 q j) := by
    intro d q k j hj
    rw [hB, Layout.block_apply]
    refine congrArg w (funext fun a => Fin.ext ?_)
    match a with
    | ⟨0, _⟩ => rfl
    | ⟨1, _⟩ => exact hj.symm
  have hsum : ∀ (d o : Dev nD) (r : Fin 128) (k : Fin 256) (i : Fin 4096) (j : Fin 8192),
      i.val = o.val * 128 + r.val → j.val = d.val * 256 + k.val →
      (∑ q : Fin 4096, X o (ix2 r q) * B d (ix2 q k) : EReal) = ∑ q : Fin 4096, x (ix2 i q) * w (ix2 q j) :=
    fun d o r k i j hi hj => Finset.sum_congr rfl fun q _ => by rw [hx o r q i hi, hb d q k j hj]
  have hmax : gmax X B c = wholeMax x w pt := by
    refine eq_of_forall_ge_iff fun b => ?_
    rw [gmax_le, wholeMax_le]
    constructor
    · intro H i j
      have hi := i.isLt
      have hj := j.isLt
      have := H ⟨j.val / 256, by show _ < 32; omega⟩ ⟨i.val / 128, by show _ < 32; omega⟩
        ⟨i.val % 128, by omega⟩ ⟨j.val % 256, by omega⟩
      rwa [hsum _ _ _ _ i j (by show i.val = i.val / 128 * 128 + i.val % 128; omega)
        (by show j.val = j.val / 256 * 256 + j.val % 256; omega)] at this
    · intro H d o r k
      have hd : d.val < 32 := d.isLt
      have ho : o.val < 32 := o.isLt
      rw [hsum d o r k ⟨o.val * 128 + r.val, by omega⟩ ⟨d.val * 256 + k.val, by omega⟩ rfl rfl]
      exact H _ _
  funext i
  rw [Layout.block_apply, result_apply, refValue_apply, hmax]
  refine congrArg (requant _ _ _) ?_
  have hi0 : (i 0).val < 4096 := (i 0).isLt
  have hi1 : (i 1).val < 256 := (i 1).isLt
  have hc : c.val < 32 := c.isLt
  refine (prod_apply X B (ownerOf (i 0)) c ⟨(i 0).val % 128, Nat.mod_lt _ (by omega)⟩ (i 1)).trans ?_
  refine (hsum _ _ _ _ ⟨(i 0).val, hi0⟩ ⟨c.val * 256 + (i 1).val, by omega⟩
    (by show (i 0).val = (i 0).val / 128 * 128 + (i 0).val % 128; omega) rfl).trans ?_
  refine (whole_apply x w _ _).symm.trans ?_
  refine congrArg (Cert.ReferenceIdeal.ByElement.whole x w) (funext fun a => Fin.ext ?_)
  match a with
  | ⟨0, _⟩ => rfl
  | ⟨1, _⟩ => rfl

end Cert.KernelIdeal.Ring
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

/-!
# The certificate

The programs run and leave their arguments as they were, idealizing the kernel rewrote nothing, and
over the extended reals each device ends with its block of the reference's result.
-/

@[expose] public section

noncomputable section

namespace Cert.Proof

open Idealize.ShloMosaic Idealize.SL.Sem

/-- On every device the kernel's result is its block of the reference's: the common value is `refValue` of the
    reference's arguments, whose blocks the devices hold. -/
theorem algebraic : Cert.algebraic_KernelIdeal_ReferenceIdeal := by
  intro m ρ m' ρ' _ hagree
  refine ⟨Cert.ReferenceIdeal.ByElement.refValue
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c).1, (h.1 c).2.1⟩)
      (Cert.KernelIdeal.Ring.run_main (F := Ideal) m ρ)
    exact (h.1 c).2.2.trans (Cert.KernelIdeal.Ring.result_eq_block _ _ _ _ (fun d => (hagree d).1) (fun d => (hagree d).2) c)
  · exact (θ_run Cert.ReferenceIdeal.defs _ _).mono (fun r h => h 0) (Cert.ReferenceIdeal.Value.run (F := Ideal) m' ρ')

/-- The claims of `Cert.Claim`, one by one. -/
theorem claim : Cert.Claim :=
  ⟨Cert.Kernel.Gen.facts, Cert.KernelIdeal.Gen.facts, Cert.ReferenceIdeal.Gen.facts, frame_kernel, frame_ideal, frame_ref,
    trivial, algebraic⟩

end Cert.Proof

end
